-- ==== Defs.lean ====
def Pre_Ret (m : (ℓ : Loc Cert.Ret.nD Cert.Ret.τ Cert.Ret.sig) → Buf (Elt Bits) ℓ) : Prop :=
  True

def Pre_RetIdeal (m : (ℓ : Loc Cert.RetIdeal.nD Cert.RetIdeal.τ Cert.RetIdeal.sig) → Buf (Elt Ideal) ℓ) : Prop :=
  True

def Pre_RetRefIdeal (m : (ℓ : Loc Cert.RetRefIdeal.nD Cert.RetRefIdeal.τ Cert.RetRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Inp (m : (ℓ : Loc Cert.Inp.nD Cert.Inp.τ Cert.Inp.sig) → Buf (Elt Bits) ℓ) : Prop :=
  True

def Pre_InpIdeal (m : (ℓ : Loc Cert.InpIdeal.nD Cert.InpIdeal.τ Cert.InpIdeal.sig) → Buf (Elt Ideal) ℓ) : Prop :=
  True

def Pre_InpRefIdeal (m : (ℓ : Loc Cert.InpRefIdeal.nD Cert.InpRefIdeal.τ Cert.InpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Outp (m : (ℓ : Loc Cert.Outp.nD Cert.Outp.τ Cert.Outp.sig) → Buf (Elt Bits) ℓ) : Prop :=
  True

def Pre_OutpIdeal (m : (ℓ : Loc Cert.OutpIdeal.nD Cert.OutpIdeal.τ Cert.OutpIdeal.sig) → Buf (Elt Ideal) ℓ) : Prop :=
  True

def Pre_OutpRefIdeal (m : (ℓ : Loc Cert.OutpRefIdeal.nD Cert.OutpRefIdeal.τ Cert.OutpRefIdeal.sig) → Buf (Elt Ideal) ℓ) : Prop :=
  True

def Pre_Att (m : (ℓ : Loc Cert.Att.nD Cert.Att.τ Cert.Att.sig) → Buf (Elt Bits) ℓ) : Prop :=
  True

def Pre_AttIdeal (m : (ℓ : Loc Cert.AttIdeal.nD Cert.AttIdeal.τ Cert.AttIdeal.sig) → Buf (Elt Ideal) ℓ) : Prop :=
  True

def Pre_AttRefIdeal (m : (ℓ : Loc Cert.AttRefIdeal.nD Cert.AttRefIdeal.τ Cert.AttRefIdeal.sig) → Buf (Elt Ideal) ℓ) : Prop :=
  True

def quiescent_Ret [hRet : Cert.Ret.Facts] : Prop :=
  ∀ (m : (ℓ : Loc Cert.Ret.nD Cert.Ret.τ Cert.Ret.sig) → Buf (Elt Bits) ℓ) (g : Dev Cert.Ret.nD → PrngReg), Pre_Ret m →
    θ_run (Cert.Ret.defs (F := Bits)) (onTc (τ := Cert.Ret.τ) (Cert.Ret.main (F := Bits))) ⟨m, fun _ => 0, g⟩ (fun r => (∀ c : Dev Cert.Ret.nD,
      r.2.mem ((c.tc : Thread Cert.Ret.nD Cert.Ret.τ).loc Cert.Ret.main_arg0) = m ((c.tc : Thread Cert.Ret.nD Cert.Ret.τ).loc Cert.Ret.main_arg0)
      ∧ r.2.mem ((c.tc : Thread Cert.Ret.nD Cert.Ret.τ).loc Cert.Ret.main_arg1) = m ((c.tc : Thread Cert.Ret.nD Cert.Ret.τ).loc Cert.Ret.main_arg1)
      ∧ r.2.mem ((c.tc : Thread Cert.Ret.nD Cert.Ret.τ).loc Cert.Ret.main_arg2) = m ((c.tc : Thread Cert.Ret.nD Cert.Ret.τ).loc Cert.Ret.main_arg2))
      ∧ r.2.sem = fun _ => 0)

def quiescent_RetIdeal [hRetIdeal : Cert.RetIdeal.Facts] : Prop :=
  ∀ (m : (ℓ : Loc Cert.RetIdeal.nD Cert.RetIdeal.τ Cert.RetIdeal.sig) → Buf (Elt Ideal) ℓ) (g : Dev Cert.RetIdeal.nD → PrngReg), Pre_RetIdeal m →
    θ_run (Cert.RetIdeal.defs (F := Ideal)) (onTc (τ := Cert.RetIdeal.τ) (Cert.RetIdeal.main (F := Ideal))) ⟨m, fun _ => 0, g⟩ (fun r => (∀ c : Dev Cert.RetIdeal.nD,
      r.2.mem ((c.tc : Thread Cert.RetIdeal.nD Cert.RetIdeal.τ).loc Cert.RetIdeal.main_arg0) = m ((c.tc : Thread Cert.RetIdeal.nD Cert.RetIdeal.τ).loc Cert.RetIdeal.main_arg0)
      ∧ r.2.mem ((c.tc : Thread Cert.RetIdeal.nD Cert.RetIdeal.τ).loc Cert.RetIdeal.main_arg1) = m ((c.tc : Thread Cert.RetIdeal.nD Cert.RetIdeal.τ).loc Cert.RetIdeal.main_arg1)
      ∧ r.2.mem ((c.tc : Thread Cert.RetIdeal.nD Cert.RetIdeal.τ).loc Cert.RetIdeal.main_arg2) = m ((c.tc : Thread Cert.RetIdeal.nD Cert.RetIdeal.τ).loc Cert.RetIdeal.main_arg2))
      ∧ r.2.sem = fun _ => 0)

def quiescent_RetRefIdeal [hRetRefIdeal : Cert.RetRefIdeal.Facts] : Prop :=
  ∀ (m : (ℓ : Loc Cert.RetRefIdeal.nD Cert.RetRefIdeal.τ Cert.RetRefIdeal.sig) → Buf (Elt Ideal) ℓ) (g : Dev Cert.RetRefIdeal.nD → PrngReg), Pre_RetRefIdeal m →
    θ_run (Cert.RetRefIdeal.defs (F := Ideal)) (onTc (τ := Cert.RetRefIdeal.τ) (Cert.RetRefIdeal.main (F := Ideal))) ⟨m, fun _ => 0, g⟩ (fun r => (∀ c : Dev Cert.RetRefIdeal.nD,
      r.2.mem ((c.tc : Thread Cert.RetRefIdeal.nD Cert.RetRefIdeal.τ).loc Cert.RetRefIdeal.main_arg0) = m ((c.tc : Thread Cert.RetRefIdeal.nD Cert.RetRefIdeal.τ).loc Cert.RetRefIdeal.main_arg0)
      ∧ r.2.mem ((c.tc : Thread Cert.RetRefIdeal.nD Cert.RetRefIdeal.τ).loc Cert.RetRefIdeal.main_arg1) = m ((c.tc : Thread Cert.RetRefIdeal.nD Cert.RetRefIdeal.τ).loc Cert.RetRefIdeal.main_arg1)
      ∧ r.2.mem ((c.tc : Thread Cert.RetRefIdeal.nD Cert.RetRefIdeal.τ).loc Cert.RetRefIdeal.main_arg2) = m ((c.tc : Thread Cert.RetRefIdeal.nD Cert.RetRefIdeal.τ).loc Cert.RetRefIdeal.main_arg2))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2))
      ∧ r.2.sem = fun _ => 0)

def quiescent_Inp [hInp : Cert.Inp.Facts] : Prop :=
  ∀ (m : (ℓ : Loc Cert.Inp.nD Cert.Inp.τ Cert.Inp.sig) → Buf (Elt Bits) ℓ) (g : Dev Cert.Inp.nD → PrngReg), Pre_Inp m →
    θ_run (Cert.Inp.defs (F := Bits)) (onTc (τ := Cert.Inp.τ) (Cert.Inp.main (F := Bits))) ⟨m, fun _ => 0, g⟩ (fun r => (∀ c : Dev Cert.Inp.nD,
      r.2.mem ((c.tc : Thread Cert.Inp.nD Cert.Inp.τ).loc Cert.Inp.main_arg0) = m ((c.tc : Thread Cert.Inp.nD Cert.Inp.τ).loc Cert.Inp.main_arg0)
      ∧ r.2.mem ((c.tc : Thread Cert.Inp.nD Cert.Inp.τ).loc Cert.Inp.main_arg1) = m ((c.tc : Thread Cert.Inp.nD Cert.Inp.τ).loc Cert.Inp.main_arg1)
      ∧ r.2.mem ((c.tc : Thread Cert.Inp.nD Cert.Inp.τ).loc Cert.Inp.main_arg2) = m ((c.tc : Thread Cert.Inp.nD Cert.Inp.τ).loc Cert.Inp.main_arg2))
      ∧ r.2.sem = fun _ => 0)

def quiescent_InpIdeal [hInpIdeal : Cert.InpIdeal.Facts] : Prop :=
  ∀ (m : (ℓ : Loc Cert.InpIdeal.nD Cert.InpIdeal.τ Cert.InpIdeal.sig) → Buf (Elt Ideal) ℓ) (g : Dev Cert.InpIdeal.nD → PrngReg), Pre_InpIdeal m →
    θ_run (Cert.InpIdeal.defs (F := Ideal)) (onTc (τ := Cert.InpIdeal.τ) (Cert.InpIdeal.main (F := Ideal))) ⟨m, fun _ => 0, g⟩ (fun r => (∀ c : Dev Cert.InpIdeal.nD,
      r.2.mem ((c.tc : Thread Cert.InpIdeal.nD Cert.InpIdeal.τ).loc Cert.InpIdeal.main_arg0) = m ((c.tc : Thread Cert.InpIdeal.nD Cert.InpIdeal.τ).loc Cert.InpIdeal.main_arg0)
      ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
      ∧ r.2.mem ((c.tc : Thread Cert.InpIdeal.nD Cert.InpIdeal.τ).loc Cert.InpIdeal.main_arg2) = m ((c.tc : Thread Cert.InpIdeal.nD Cert.InpIdeal.τ).loc Cert.InpIdeal.main_arg2))
      ∧ r.2.sem = fun _ => 0)

def quiescent_InpRefIdeal [hInpRefIdeal : Cert.InpRefIdeal.Facts] : Prop :=
  ∀ (m : (ℓ : Loc Cert.InpRefIdeal.nD Cert.InpRefIdeal.τ Cert.InpRefIdeal.sig) → Buf (Elt Ideal) ℓ) (g : Dev Cert.InpRefIdeal.nD → PrngReg), Pre_InpRefIdeal m →
    θ_run (Cert.InpRefIdeal.defs (F := Ideal)) (onTc (τ := Cert.InpRefIdeal.τ) (Cert.InpRefIdeal.main (F := Ideal))) ⟨m, fun _ => 0, g⟩ (fun r => (∀ c : Dev Cert.InpRefIdeal.nD,
      r.2.mem ((c.tc : Thread Cert.InpRefIdeal.nD Cert.InpRefIdeal.τ).loc Cert.InpRefIdeal.main_arg0) = m ((c.tc : Thread Cert.InpRefIdeal.nD Cert.InpRefIdeal.τ).loc Cert.InpRefIdeal.main_arg0)
      ∧ r.2.mem ((c.tc : Thread Cert.InpRefIdeal.nD Cert.InpRefIdeal.τ).loc Cert.InpRefIdeal.main_arg1) = m ((c.tc : Thread Cert.InpRefIdeal.nD Cert.InpRefIdeal.τ).loc Cert.InpRefIdeal.main_arg1)
      ∧ r.2.mem ((c.tc : Thread Cert.InpRefIdeal.nD Cert.InpRefIdeal.τ).loc Cert.InpRefIdeal.main_arg2) = m ((c.tc : Thread Cert.InpRefIdeal.nD Cert.InpRefIdeal.τ).loc Cert.InpRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_Outp [hOutp : Cert.Outp.Facts] : Prop :=
  ∀ (m : (ℓ : Loc Cert.Outp.nD Cert.Outp.τ Cert.Outp.sig) → Buf (Elt Bits) ℓ) (g : Dev Cert.Outp.nD → PrngReg), Pre_Outp m →
    θ_run (Cert.Outp.defs (F := Bits)) (onTc (τ := Cert.Outp.τ) (Cert.Outp.main (F := Bits))) ⟨m, fun _ => 0, g⟩ (fun r => (∀ c : Dev Cert.Outp.nD,
      r.2.mem ((c.tc : Thread Cert.Outp.nD Cert.Outp.τ).loc Cert.Outp.main_arg0) = m ((c.tc : Thread Cert.Outp.nD Cert.Outp.τ).loc Cert.Outp.main_arg0)
      ∧ r.2.mem ((c.tc : Thread Cert.Outp.nD Cert.Outp.τ).loc Cert.Outp.main_arg1) = m ((c.tc : Thread Cert.Outp.nD Cert.Outp.τ).loc Cert.Outp.main_arg1)
      ∧ r.2.mem ((c.tc : Thread Cert.Outp.nD Cert.Outp.τ).loc Cert.Outp.main_arg2) = m ((c.tc : Thread Cert.Outp.nD Cert.Outp.τ).loc Cert.Outp.main_arg2)
      ∧ r.2.mem ((c.tc : Thread Cert.Outp.nD Cert.Outp.τ).loc Cert.Outp.main_arg3) = m ((c.tc : Thread Cert.Outp.nD Cert.Outp.τ).loc Cert.Outp.main_arg3))
      ∧ r.2.sem = fun _ => 0)

def quiescent_OutpIdeal [hOutpIdeal : Cert.OutpIdeal.Facts] : Prop :=
  ∀ (m : (ℓ : Loc Cert.OutpIdeal.nD Cert.OutpIdeal.τ Cert.OutpIdeal.sig) → Buf (Elt Ideal) ℓ) (g : Dev Cert.OutpIdeal.nD → PrngReg), Pre_OutpIdeal m →
    θ_run (Cert.OutpIdeal.defs (F := Ideal)) (onTc (τ := Cert.OutpIdeal.τ) (Cert.OutpIdeal.main (F := Ideal))) ⟨m, fun _ => 0, g⟩ (fun r => (∀ c : Dev Cert.OutpIdeal.nD,
      r.2.mem ((c.tc : Thread Cert.OutpIdeal.nD Cert.OutpIdeal.τ).loc Cert.OutpIdeal.main_arg0) = m ((c.tc : Thread Cert.OutpIdeal.nD Cert.OutpIdeal.τ).loc Cert.OutpIdeal.main_arg0)
      ∧ r.2.mem ((c.tc : Thread Cert.OutpIdeal.nD Cert.OutpIdeal.τ).loc Cert.OutpIdeal.main_arg1) = m ((c.tc : Thread Cert.OutpIdeal.nD Cert.OutpIdeal.τ).loc Cert.OutpIdeal.main_arg1)
      ∧ r.2.mem ((c.tc : Thread Cert.OutpIdeal.nD Cert.OutpIdeal.τ).loc Cert.OutpIdeal.main_arg2) = m ((c.tc : Thread Cert.OutpIdeal.nD Cert.OutpIdeal.τ).loc Cert.OutpIdeal.main_arg2)
      ∧ r.2.mem ((c.tc : Thread Cert.OutpIdeal.nD Cert.OutpIdeal.τ).loc Cert.OutpIdeal.main_arg3) = m ((c.tc : Thread Cert.OutpIdeal.nD Cert.OutpIdeal.τ).loc Cert.OutpIdeal.main_arg3))
      ∧ r.2.sem = fun _ => 0)

def quiescent_OutpRefIdeal [hOutpRefIdeal : Cert.OutpRefIdeal.Facts] : Prop :=
  ∀ (m : (ℓ : Loc Cert.OutpRefIdeal.nD Cert.OutpRefIdeal.τ Cert.OutpRefIdeal.sig) → Buf (Elt Ideal) ℓ) (g : Dev Cert.OutpRefIdeal.nD → PrngReg), Pre_OutpRefIdeal m →
    θ_run (Cert.OutpRefIdeal.defs (F := Ideal)) (onTc (τ := Cert.OutpRefIdeal.τ) (Cert.OutpRefIdeal.main (F := Ideal))) ⟨m, fun _ => 0, g⟩ (fun r => (∀ c : Dev Cert.OutpRefIdeal.nD,
      r.2.mem ((c.tc : Thread Cert.OutpRefIdeal.nD Cert.OutpRefIdeal.τ).loc Cert.OutpRefIdeal.main_arg0) = m ((c.tc : Thread Cert.OutpRefIdeal.nD Cert.OutpRefIdeal.τ).loc Cert.OutpRefIdeal.main_arg0)
      ∧ r.2.mem ((c.tc : Thread Cert.OutpRefIdeal.nD Cert.OutpRefIdeal.τ).loc Cert.OutpRefIdeal.main_arg1) = m ((c.tc : Thread Cert.OutpRefIdeal.nD Cert.OutpRefIdeal.τ).loc Cert.OutpRefIdeal.main_arg1)
      ∧ r.2.mem ((c.tc : Thread Cert.OutpRefIdeal.nD Cert.OutpRefIdeal.τ).loc Cert.OutpRefIdeal.main_arg2) = m ((c.tc : Thread Cert.OutpRefIdeal.nD Cert.OutpRefIdeal.τ).loc Cert.OutpRefIdeal.main_arg2)
      ∧ r.2.mem ((c.tc : Thread Cert.OutpRefIdeal.nD Cert.OutpRefIdeal.τ).loc Cert.OutpRefIdeal.main_arg3) = m ((c.tc : Thread Cert.OutpRefIdeal.nD Cert.OutpRefIdeal.τ).loc Cert.OutpRefIdeal.main_arg3))
      ∧ r.2.sem = fun _ => 0)

def quiescent_Att [hAtt : Cert.Att.Facts] : Prop :=
  ∀ (m : (ℓ : Loc Cert.Att.nD Cert.Att.τ Cert.Att.sig) → Buf (Elt Bits) ℓ) (g : Dev Cert.Att.nD → PrngReg), Pre_Att m →
    θ_run (Cert.Att.defs (F := Bits)) (onTc (τ := Cert.Att.τ) (Cert.Att.main (F := Bits))) ⟨m, fun _ => 0, g⟩ (fun r => (∀ c : Dev Cert.Att.nD,
      r.2.mem ((c.tc : Thread Cert.Att.nD Cert.Att.τ).loc Cert.Att.main_arg0) = m ((c.tc : Thread Cert.Att.nD Cert.Att.τ).loc Cert.Att.main_arg0)
      ∧ r.2.mem ((c.tc : Thread Cert.Att.nD Cert.Att.τ).loc Cert.Att.main_arg1) = m ((c.tc : Thread Cert.Att.nD Cert.Att.τ).loc Cert.Att.main_arg1)
      ∧ r.2.mem ((c.tc : Thread Cert.Att.nD Cert.Att.τ).loc Cert.Att.main_arg2) = m ((c.tc : Thread Cert.Att.nD Cert.Att.τ).loc Cert.Att.main_arg2))
      ∧ r.2.sem = fun _ => 0)

def quiescent_AttIdeal [hAttIdeal : Cert.AttIdeal.Facts] : Prop :=
  ∀ (m : (ℓ : Loc Cert.AttIdeal.nD Cert.AttIdeal.τ Cert.AttIdeal.sig) → Buf (Elt Ideal) ℓ) (g : Dev Cert.AttIdeal.nD → PrngReg), Pre_AttIdeal m →
    θ_run (Cert.AttIdeal.defs (F := Ideal)) (onTc (τ := Cert.AttIdeal.τ) (Cert.AttIdeal.main (F := Ideal))) ⟨m, fun _ => 0, g⟩ (fun r => (∀ c : Dev Cert.AttIdeal.nD,
      r.2.mem ((c.tc : Thread Cert.AttIdeal.nD Cert.AttIdeal.τ).loc Cert.AttIdeal.main_arg0) = m ((c.tc : Thread Cert.AttIdeal.nD Cert.AttIdeal.τ).loc Cert.AttIdeal.main_arg0)
      ∧ r.2.mem ((c.tc : Thread Cert.AttIdeal.nD Cert.AttIdeal.τ).loc Cert.AttIdeal.main_arg1) = m ((c.tc : Thread Cert.AttIdeal.nD Cert.AttIdeal.τ).loc Cert.AttIdeal.main_arg1)
      ∧ r.2.mem ((c.tc : Thread Cert.AttIdeal.nD Cert.AttIdeal.τ).loc Cert.AttIdeal.main_arg2) = m ((c.tc : Thread Cert.AttIdeal.nD Cert.AttIdeal.τ).loc Cert.AttIdeal.main_arg2))
      ∧ r.2.sem = fun _ => 0)

def quiescent_AttRefIdeal [hAttRefIdeal : Cert.AttRefIdeal.Facts] : Prop :=
  ∀ (m : (ℓ : Loc Cert.AttRefIdeal.nD Cert.AttRefIdeal.τ Cert.AttRefIdeal.sig) → Buf (Elt Ideal) ℓ) (g : Dev Cert.AttRefIdeal.nD → PrngReg), Pre_AttRefIdeal m →
    θ_run (Cert.AttRefIdeal.defs (F := Ideal)) (onTc (τ := Cert.AttRefIdeal.τ) (Cert.AttRefIdeal.main (F := Ideal))) ⟨m, fun _ => 0, g⟩ (fun r => (∀ c : Dev Cert.AttRefIdeal.nD,
      r.2.mem ((c.tc : Thread Cert.AttRefIdeal.nD Cert.AttRefIdeal.τ).loc Cert.AttRefIdeal.main_arg0) = m ((c.tc : Thread Cert.AttRefIdeal.nD Cert.AttRefIdeal.τ).loc Cert.AttRefIdeal.main_arg0)
      ∧ r.2.mem ((c.tc : Thread Cert.AttRefIdeal.nD Cert.AttRefIdeal.τ).loc Cert.AttRefIdeal.main_arg1) = m ((c.tc : Thread Cert.AttRefIdeal.nD Cert.AttRefIdeal.τ).loc Cert.AttRefIdeal.main_arg1)
      ∧ r.2.mem ((c.tc : Thread Cert.AttRefIdeal.nD Cert.AttRefIdeal.τ).loc Cert.AttRefIdeal.main_arg2) = m ((c.tc : Thread Cert.AttRefIdeal.nD Cert.AttRefIdeal.τ).loc Cert.AttRefIdeal.main_arg2))
      ∧ r.2.sem = fun _ => 0)

def preserves_Ret_RetIdeal : Prop :=
  True

def algebraic_RetIdeal_RetRefIdeal_on_retention_columns [hRetIdeal : Cert.RetIdeal.Facts] [hRetRefIdeal : Cert.RetRefIdeal.Facts] [hOn_retention_columns : Cert.On_retention_columns.Facts] : Prop :=
  ∀ (m : (ℓ : Loc Cert.RetIdeal.nD Cert.RetIdeal.τ Cert.RetIdeal.sig) → Buf (Elt Ideal) ℓ) (g : Dev Cert.RetIdeal.nD → PrngReg)
    (m' : (ℓ : Loc Cert.RetRefIdeal.nD Cert.RetRefIdeal.τ Cert.RetRefIdeal.sig) → Buf (Elt Ideal) ℓ) (g' : Dev Cert.RetRefIdeal.nD → PrngReg), Pre_RetIdeal m →
    (∀ c : Dev Cert.RetIdeal.nD,
      m' ((c.tc : Thread Cert.RetRefIdeal.nD Cert.RetRefIdeal.τ).loc Cert.RetRefIdeal.main_arg0) = m ((c.tc : Thread Cert.RetIdeal.nD Cert.RetIdeal.τ).loc Cert.RetIdeal.main_arg0)
      ∧ m' ((c.tc : Thread Cert.RetRefIdeal.nD Cert.RetRefIdeal.τ).loc Cert.RetRefIdeal.main_arg1) = m ((c.tc : Thread Cert.RetIdeal.nD Cert.RetIdeal.τ).loc Cert.RetIdeal.main_arg1)
      ∧ m' ((c.tc : Thread Cert.RetRefIdeal.nD Cert.RetRefIdeal.τ).loc Cert.RetRefIdeal.main_arg2) = m ((c.tc : Thread Cert.RetIdeal.nD Cert.RetIdeal.τ).loc Cert.RetIdeal.main_arg2)) →
    ∃ (v0 : (c : Dev Cert.RetIdeal.nD) → Buf (Elt Ideal) ((c.tc : Thread Cert.RetIdeal.nD Cert.RetIdeal.τ).loc Cert.RetIdeal.main_v20)),
      θ_run (Cert.RetIdeal.defs (F := Ideal)) (onTc (τ := Cert.RetIdeal.τ) (Cert.RetIdeal.main (F := Ideal))) ⟨m, fun _ => 0, g⟩ (fun r => ∀ c : Dev Cert.RetIdeal.nD,
          (∀ i : (⟨3, ![8, 2048, 4096]⟩ : Shape).Idx, (Cert.On_retention_columns.fn (F := Ideal) (m ((c.tc : Thread Cert.RetIdeal.nD Cert.RetIdeal.τ).loc Cert.RetIdeal.main_arg0)) (m ((c.tc : Thread Cert.RetIdeal.nD Cert.RetIdeal.τ).loc Cert.RetIdeal.main_arg1)) (m ((c.tc : Thread Cert.RetIdeal.nD Cert.RetIdeal.τ).loc Cert.RetIdeal.main_arg2))) i = 1#1 → r.2.mem ((c.tc : Thread Cert.RetIdeal.nD Cert.RetIdeal.τ).loc Cert.RetIdeal.main_v20) i = v0 c i)
          ∧ r.2.mem ((c.tc : Thread Cert.RetIdeal.nD Cert.RetIdeal.τ).loc Cert.RetIdeal.main_arg0) = m ((c.tc : Thread Cert.RetIdeal.nD Cert.RetIdeal.τ).loc Cert.RetIdeal.main_arg0)
          ∧ r.2.mem ((c.tc : Thread Cert.RetIdeal.nD Cert.RetIdeal.τ).loc Cert.RetIdeal.main_arg1) = m ((c.tc : Thread Cert.RetIdeal.nD Cert.RetIdeal.τ).loc Cert.RetIdeal.main_arg1)
          ∧ r.2.mem ((c.tc : Thread Cert.RetIdeal.nD Cert.RetIdeal.τ).loc Cert.RetIdeal.main_arg2) = m ((c.tc : Thread Cert.RetIdeal.nD Cert.RetIdeal.τ).loc Cert.RetIdeal.main_arg2))
      ∧ θ_run (Cert.RetRefIdeal.defs (F := Ideal)) (onTc (τ := Cert.RetRefIdeal.τ) (Cert.RetRefIdeal.main (F := Ideal))) ⟨m', fun _ => 0, g'⟩ (fun r => ∀ c : Dev Cert.RetRefIdeal.nD,
          (∀ i : (⟨3, ![8, 2048, 4096]⟩ : Shape).Idx, (Cert.On_retention_columns.fn (F := Ideal) (m ((c.tc : Thread Cert.RetIdeal.nD Cert.RetIdeal.τ).loc Cert.RetIdeal.main_arg0)) (m ((c.tc : Thread Cert.RetIdeal.nD Cert.RetIdeal.τ).loc Cert.RetIdeal.main_arg1)) (m ((c.tc : Thread Cert.RetIdeal.nD Cert.RetIdeal.τ).loc Cert.RetIdeal.main_arg2))) i = 1#1 → r.2.mem ((c.tc : Thread Cert.RetRefIdeal.nD Cert.RetRefIdeal.τ).loc Cert.RetRefIdeal.main_v418) i = v0 c i)
          ∧ r.2.mem ((c.tc : Thread Cert.RetRefIdeal.nD Cert.RetRefIdeal.τ).loc Cert.RetRefIdeal.main_arg0) = m' ((c.tc : Thread Cert.RetRefIdeal.nD Cert.RetRefIdeal.τ).loc Cert.RetRefIdeal.main_arg0)
          ∧ r.2.mem ((c.tc : Thread Cert.RetRefIdeal.nD Cert.RetRefIdeal.τ).loc Cert.RetRefIdeal.main_arg1) = m' ((c.tc : Thread Cert.RetRefIdeal.nD Cert.RetRefIdeal.τ).loc Cert.RetRefIdeal.main_arg1)
          ∧ r.2.mem ((c.tc : Thread Cert.RetRefIdeal.nD Cert.RetRefIdeal.τ).loc Cert.RetRefIdeal.main_arg2) = m' ((c.tc : Thread Cert.RetRefIdeal.nD Cert.RetRefIdeal.τ).loc Cert.RetRefIdeal.main_arg2))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v1) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v18) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2))

def preserves_Inp_InpIdeal : Prop :=
  True

def algebraic_InpIdeal_InpRefIdeal [hInpIdeal : Cert.InpIdeal.Facts] [hInpRefIdeal : Cert.InpRefIdeal.Facts] : Prop :=
  ∀ (m : (ℓ : Loc Cert.InpIdeal.nD Cert.InpIdeal.τ Cert.InpIdeal.sig) → Buf (Elt Ideal) ℓ) (g : Dev Cert.InpIdeal.nD → PrngReg)
    (m' : (ℓ : Loc Cert.InpRefIdeal.nD Cert.InpRefIdeal.τ Cert.InpRefIdeal.sig) → Buf (Elt Ideal) ℓ) (g' : Dev Cert.InpRefIdeal.nD → PrngReg), Pre_InpIdeal m →
    (∀ c : Dev Cert.InpIdeal.nD,
      m' ((c.tc : Thread Cert.InpRefIdeal.nD Cert.InpRefIdeal.τ).loc Cert.InpRefIdeal.main_arg0) = m ((c.tc : Thread Cert.InpIdeal.nD Cert.InpIdeal.τ).loc Cert.InpIdeal.main_arg0)
      ∧ m' ((c.tc : Thread Cert.InpRefIdeal.nD Cert.InpRefIdeal.τ).loc Cert.InpRefIdeal.main_arg1) = m ((c.tc : Thread Cert.InpIdeal.nD Cert.InpIdeal.τ).loc Cert.InpIdeal.main_arg1)
      ∧ m' ((c.tc : Thread Cert.InpRefIdeal.nD Cert.InpRefIdeal.τ).loc Cert.InpRefIdeal.main_arg2) = m ((c.tc : Thread Cert.InpIdeal.nD Cert.InpIdeal.τ).loc Cert.InpIdeal.main_arg2)) →
    ∃ (v0 : (c : Dev Cert.InpIdeal.nD) → Buf (Elt Ideal) ((c.tc : Thread Cert.InpIdeal.nD Cert.InpIdeal.τ).loc Cert.InpIdeal.main_v1)),
      θ_run (Cert.InpIdeal.defs (F := Ideal)) (onTc (τ := Cert.InpIdeal.τ) (Cert.InpIdeal.main (F := Ideal))) ⟨m, fun _ => 0, g⟩ (fun r => ∀ c : Dev Cert.InpIdeal.nD,
          r.2.mem ((c.tc : Thread Cert.InpIdeal.nD Cert.InpIdeal.τ).loc Cert.InpIdeal.main_v1) = v0 c
          ∧ r.2.mem ((c.tc : Thread Cert.InpIdeal.nD Cert.InpIdeal.τ).loc Cert.InpIdeal.main_arg0) = m ((c.tc : Thread Cert.InpIdeal.nD Cert.InpIdeal.τ).loc Cert.InpIdeal.main_arg0)
          ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
          ∧ r.2.mem ((c.tc : Thread Cert.InpIdeal.nD Cert.InpIdeal.τ).loc Cert.InpIdeal.main_arg2) = m ((c.tc : Thread Cert.InpIdeal.nD Cert.InpIdeal.τ).loc Cert.InpIdeal.main_arg2))
      ∧ θ_run (Cert.InpRefIdeal.defs (F := Ideal)) (onTc (τ := Cert.InpRefIdeal.τ) (Cert.InpRefIdeal.main (F := Ideal))) ⟨m', fun _ => 0, g'⟩ (fun r => ∀ c : Dev Cert.InpRefIdeal.nD,
          r.2.mem ((c.tc : Thread Cert.InpRefIdeal.nD Cert.InpRefIdeal.τ).loc Cert.InpRefIdeal.main_v15) = v0 c
          ∧ r.2.mem ((c.tc : Thread Cert.InpRefIdeal.nD Cert.InpRefIdeal.τ).loc Cert.InpRefIdeal.main_arg0) = m' ((c.tc : Thread Cert.InpRefIdeal.nD Cert.InpRefIdeal.τ).loc Cert.InpRefIdeal.main_arg0)
          ∧ r.2.mem ((c.tc : Thread Cert.InpRefIdeal.nD Cert.InpRefIdeal.τ).loc Cert.InpRefIdeal.main_arg1) = m' ((c.tc : Thread Cert.InpRefIdeal.nD Cert.InpRefIdeal.τ).loc Cert.InpRefIdeal.main_arg1)
          ∧ r.2.mem ((c.tc : Thread Cert.InpRefIdeal.nD Cert.InpRefIdeal.τ).loc Cert.InpRefIdeal.main_arg2) = m' ((c.tc : Thread Cert.InpRefIdeal.nD Cert.InpRefIdeal.τ).loc Cert.InpRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v16) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_Outp_OutpIdeal : Prop :=
  True

def algebraic_OutpIdeal_OutpRefIdeal [hOutpIdeal : Cert.OutpIdeal.Facts] [hOutpRefIdeal : Cert.OutpRefIdeal.Facts] : Prop :=
  ∀ (m : (ℓ : Loc Cert.OutpIdeal.nD Cert.OutpIdeal.τ Cert.OutpIdeal.sig) → Buf (Elt Ideal) ℓ) (g : Dev Cert.OutpIdeal.nD → PrngReg)
    (m' : (ℓ : Loc Cert.OutpRefIdeal.nD Cert.OutpRefIdeal.τ Cert.OutpRefIdeal.sig) → Buf (Elt Ideal) ℓ) (g' : Dev Cert.OutpRefIdeal.nD → PrngReg), Pre_OutpIdeal m →
    (∀ c : Dev Cert.OutpIdeal.nD,
      m' ((c.tc : Thread Cert.OutpRefIdeal.nD Cert.OutpRefIdeal.τ).loc Cert.OutpRefIdeal.main_arg0) = m ((c.tc : Thread Cert.OutpIdeal.nD Cert.OutpIdeal.τ).loc Cert.OutpIdeal.main_arg0)
      ∧ m' ((c.tc : Thread Cert.OutpRefIdeal.nD Cert.OutpRefIdeal.τ).loc Cert.OutpRefIdeal.main_arg1) = m ((c.tc : Thread Cert.OutpIdeal.nD Cert.OutpIdeal.τ).loc Cert.OutpIdeal.main_arg1)
      ∧ m' ((c.tc : Thread Cert.OutpRefIdeal.nD Cert.OutpRefIdeal.τ).loc Cert.OutpRefIdeal.main_arg2) = m ((c.tc : Thread Cert.OutpIdeal.nD Cert.OutpIdeal.τ).loc Cert.OutpIdeal.main_arg2)
      ∧ m' ((c.tc : Thread Cert.OutpRefIdeal.nD Cert.OutpRefIdeal.τ).loc Cert.OutpRefIdeal.main_arg3) = m ((c.tc : Thread Cert.OutpIdeal.nD Cert.OutpIdeal.τ).loc Cert.OutpIdeal.main_arg3)) →
    ∃ (v0 : (c : Dev Cert.OutpIdeal.nD) → Buf (Elt Ideal) ((c.tc : Thread Cert.OutpIdeal.nD Cert.OutpIdeal.τ).loc Cert.OutpIdeal.main_v1)),
      θ_run (Cert.OutpIdeal.defs (F := Ideal)) (onTc (τ := Cert.OutpIdeal.τ) (Cert.OutpIdeal.main (F := Ideal))) ⟨m, fun _ => 0, g⟩ (fun r => ∀ c : Dev Cert.OutpIdeal.nD,
          r.2.mem ((c.tc : Thread Cert.OutpIdeal.nD Cert.OutpIdeal.τ).loc Cert.OutpIdeal.main_v1) = v0 c
          ∧ r.2.mem ((c.tc : Thread Cert.OutpIdeal.nD Cert.OutpIdeal.τ).loc Cert.OutpIdeal.main_arg0) = m ((c.tc : Thread Cert.OutpIdeal.nD Cert.OutpIdeal.τ).loc Cert.OutpIdeal.main_arg0)
          ∧ r.2.mem ((c.tc : Thread Cert.OutpIdeal.nD Cert.OutpIdeal.τ).loc Cert.OutpIdeal.main_arg1) = m ((c.tc : Thread Cert.OutpIdeal.nD Cert.OutpIdeal.τ).loc Cert.OutpIdeal.main_arg1)
          ∧ r.2.mem ((c.tc : Thread Cert.OutpIdeal.nD Cert.OutpIdeal.τ).loc Cert.OutpIdeal.main_arg2) = m ((c.tc : Thread Cert.OutpIdeal.nD Cert.OutpIdeal.τ).loc Cert.OutpIdeal.main_arg2)
          ∧ r.2.mem ((c.tc : Thread Cert.OutpIdeal.nD Cert.OutpIdeal.τ).loc Cert.OutpIdeal.main_arg3) = m ((c.tc : Thread Cert.OutpIdeal.nD Cert.OutpIdeal.τ).loc Cert.OutpIdeal.main_arg3))
      ∧ θ_run (Cert.OutpRefIdeal.defs (F := Ideal)) (onTc (τ := Cert.OutpRefIdeal.τ) (Cert.OutpRefIdeal.main (F := Ideal))) ⟨m', fun _ => 0, g'⟩ (fun r => ∀ c : Dev Cert.OutpRefIdeal.nD,
          r.2.mem ((c.tc : Thread Cert.OutpRefIdeal.nD Cert.OutpRefIdeal.τ).loc Cert.OutpRefIdeal.main_v16) = v0 c
          ∧ r.2.mem ((c.tc : Thread Cert.OutpRefIdeal.nD Cert.OutpRefIdeal.τ).loc Cert.OutpRefIdeal.main_arg0) = m' ((c.tc : Thread Cert.OutpRefIdeal.nD Cert.OutpRefIdeal.τ).loc Cert.OutpRefIdeal.main_arg0)
          ∧ r.2.mem ((c.tc : Thread Cert.OutpRefIdeal.nD Cert.OutpRefIdeal.τ).loc Cert.OutpRefIdeal.main_arg1) = m' ((c.tc : Thread Cert.OutpRefIdeal.nD Cert.OutpRefIdeal.τ).loc Cert.OutpRefIdeal.main_arg1)
          ∧ r.2.mem ((c.tc : Thread Cert.OutpRefIdeal.nD Cert.OutpRefIdeal.τ).loc Cert.OutpRefIdeal.main_arg2) = m' ((c.tc : Thread Cert.OutpRefIdeal.nD Cert.OutpRefIdeal.τ).loc Cert.OutpRefIdeal.main_arg2)
          ∧ r.2.mem ((c.tc : Thread Cert.OutpRefIdeal.nD Cert.OutpRefIdeal.τ).loc Cert.OutpRefIdeal.main_arg3) = m' ((c.tc : Thread Cert.OutpRefIdeal.nD Cert.OutpRefIdeal.τ).loc Cert.OutpRefIdeal.main_arg3))

def preserves_Att_AttIdeal : Prop :=
  True

def algebraic_AttIdeal_AttRefIdeal_on_kept_columns [hAttIdeal : Cert.AttIdeal.Facts] [hAttRefIdeal : Cert.AttRefIdeal.Facts] [hOn_kept_columns : Cert.On_kept_columns.Facts] : Prop :=
  ∀ (m : (ℓ : Loc Cert.AttIdeal.nD Cert.AttIdeal.τ Cert.AttIdeal.sig) → Buf (Elt Ideal) ℓ) (g : Dev Cert.AttIdeal.nD → PrngReg)
    (m' : (ℓ : Loc Cert.AttRefIdeal.nD Cert.AttRefIdeal.τ Cert.AttRefIdeal.sig) → Buf (Elt Ideal) ℓ) (g' : Dev Cert.AttRefIdeal.nD → PrngReg), Pre_AttIdeal m →
    (∀ c : Dev Cert.AttIdeal.nD,
      m' ((c.tc : Thread Cert.AttRefIdeal.nD Cert.AttRefIdeal.τ).loc Cert.AttRefIdeal.main_arg0) = m ((c.tc : Thread Cert.AttIdeal.nD Cert.AttIdeal.τ).loc Cert.AttIdeal.main_arg0)
      ∧ m' ((c.tc : Thread Cert.AttRefIdeal.nD Cert.AttRefIdeal.τ).loc Cert.AttRefIdeal.main_arg1) = m ((c.tc : Thread Cert.AttIdeal.nD Cert.AttIdeal.τ).loc Cert.AttIdeal.main_arg1)
      ∧ m' ((c.tc : Thread Cert.AttRefIdeal.nD Cert.AttRefIdeal.τ).loc Cert.AttRefIdeal.main_arg2) = m ((c.tc : Thread Cert.AttIdeal.nD Cert.AttIdeal.τ).loc Cert.AttIdeal.main_arg2)) →
    ∃ (v0 : (c : Dev Cert.AttIdeal.nD) → Buf (Elt Ideal) ((c.tc : Thread Cert.AttIdeal.nD Cert.AttIdeal.τ).loc Cert.AttIdeal.main_v50)),
      θ_run (Cert.AttIdeal.defs (F := Ideal)) (onTc (τ := Cert.AttIdeal.τ) (Cert.AttIdeal.main (F := Ideal))) ⟨m, fun _ => 0, g⟩ (fun r => ∀ c : Dev Cert.AttIdeal.nD,
          (∀ i : (⟨3, ![8, 2048, 4096]⟩ : Shape).Idx, (Cert.On_kept_columns.fn (F := Ideal) (m ((c.tc : Thread Cert.AttIdeal.nD Cert.AttIdeal.τ).loc Cert.AttIdeal.main_arg0)) (m ((c.tc : Thread Cert.AttIdeal.nD Cert.AttIdeal.τ).loc Cert.AttIdeal.main_arg1)) (m ((c.tc : Thread Cert.AttIdeal.nD Cert.AttIdeal.τ).loc Cert.AttIdeal.main_arg2))) i = 1#1 → r.2.mem ((c.tc : Thread Cert.AttIdeal.nD Cert.AttIdeal.τ).loc Cert.AttIdeal.main_v50) i = v0 c i)
          ∧ r.2.mem ((c.tc : Thread Cert.AttIdeal.nD Cert.AttIdeal.τ).loc Cert.AttIdeal.main_arg0) = m ((c.tc : Thread Cert.AttIdeal.nD Cert.AttIdeal.τ).loc Cert.AttIdeal.main_arg0)
          ∧ r.2.mem ((c.tc : Thread Cert.AttIdeal.nD Cert.AttIdeal.τ).loc Cert.AttIdeal.main_arg1) = m ((c.tc : Thread Cert.AttIdeal.nD Cert.AttIdeal.τ).loc Cert.AttIdeal.main_arg1)
          ∧ r.2.mem ((c.tc : Thread Cert.AttIdeal.nD Cert.AttIdeal.τ).loc Cert.AttIdeal.main_arg2) = m ((c.tc : Thread Cert.AttIdeal.nD Cert.AttIdeal.τ).loc Cert.AttIdeal.main_arg2))
      ∧ θ_run (Cert.AttRefIdeal.defs (F := Ideal)) (onTc (τ := Cert.AttRefIdeal.τ) (Cert.AttRefIdeal.main (F := Ideal))) ⟨m', fun _ => 0, g'⟩ (fun r => ∀ c : Dev Cert.AttRefIdeal.nD,
          (∀ i : (⟨3, ![8, 2048, 4096]⟩ : Shape).Idx, (Cert.On_kept_columns.fn (F := Ideal) (m ((c.tc : Thread Cert.AttIdeal.nD Cert.AttIdeal.τ).loc Cert.AttIdeal.main_arg0)) (m ((c.tc : Thread Cert.AttIdeal.nD Cert.AttIdeal.τ).loc Cert.AttIdeal.main_arg1)) (m ((c.tc : Thread Cert.AttIdeal.nD Cert.AttIdeal.τ).loc Cert.AttIdeal.main_arg2))) i = 1#1 → r.2.mem ((c.tc : Thread Cert.AttRefIdeal.nD Cert.AttRefIdeal.τ).loc Cert.AttRefIdeal.main_v2) i = v0 c i)
          ∧ r.2.mem ((c.tc : Thread Cert.AttRefIdeal.nD Cert.AttRefIdeal.τ).loc Cert.AttRefIdeal.main_arg0) = m' ((c.tc : Thread Cert.AttRefIdeal.nD Cert.AttRefIdeal.τ).loc Cert.AttRefIdeal.main_arg0)
          ∧ r.2.mem ((c.tc : Thread Cert.AttRefIdeal.nD Cert.AttRefIdeal.τ).loc Cert.AttRefIdeal.main_arg1) = m' ((c.tc : Thread Cert.AttRefIdeal.nD Cert.AttRefIdeal.τ).loc Cert.AttRefIdeal.main_arg1)
          ∧ r.2.mem ((c.tc : Thread Cert.AttRefIdeal.nD Cert.AttRefIdeal.τ).loc Cert.AttRefIdeal.main_arg2) = m' ((c.tc : Thread Cert.AttRefIdeal.nD Cert.AttRefIdeal.τ).loc Cert.AttRefIdeal.main_arg2))

def Claim : Prop :=
  ∃ (hRet : Cert.Ret.Facts) (hRetIdeal : Cert.RetIdeal.Facts) (hRetRefIdeal : Cert.RetRefIdeal.Facts) (hUp : Cert.Up.Facts) (hUpIdeal : Cert.UpIdeal.Facts) (hUpRefIdeal : Cert.UpRefIdeal.Facts) (hInp : Cert.Inp.Facts) (hInpIdeal : Cert.InpIdeal.Facts) (hInpRefIdeal : Cert.InpRefIdeal.Facts) (hDown : Cert.Down.Facts) (hDownIdeal : Cert.DownIdeal.Facts) (hDownRefIdeal : Cert.DownRefIdeal.Facts) (hOutp : Cert.Outp.Facts) (hOutpIdeal : Cert.OutpIdeal.Facts) (hOutpRefIdeal : Cert.OutpRefIdeal.Facts) (hAtt : Cert.Att.Facts) (hAttIdeal : Cert.AttIdeal.Facts) (hAttRefIdeal : Cert.AttRefIdeal.Facts) (hOn_retention_columns : Cert.On_retention_columns.Facts) (hOn_kept_columns : Cert.On_kept_columns.Facts),
    quiescent_Ret (hRet := hRet)
    ∧ quiescent_RetIdeal (hRetIdeal := hRetIdeal)
    ∧ quiescent_RetRefIdeal (hRetRefIdeal := hRetRefIdeal)
    ∧ quiescent_Up (hUp := hUp)
    ∧ quiescent_UpIdeal (hUpIdeal := hUpIdeal)
    ∧ quiescent_UpRefIdeal (hUpRefIdeal := hUpRefIdeal)
    ∧ quiescent_Inp (hInp := hInp)
    ∧ quiescent_InpIdeal (hInpIdeal := hInpIdeal)
    ∧ quiescent_InpRefIdeal (hInpRefIdeal := hInpRefIdeal)
    ∧ quiescent_Down (hDown := hDown)
    ∧ quiescent_DownIdeal (hDownIdeal := hDownIdeal)
    ∧ quiescent_DownRefIdeal (hDownRefIdeal := hDownRefIdeal)
    ∧ quiescent_Outp (hOutp := hOutp)
    ∧ quiescent_OutpIdeal (hOutpIdeal := hOutpIdeal)
    ∧ quiescent_OutpRefIdeal (hOutpRefIdeal := hOutpRefIdeal)
    ∧ quiescent_Att (hAtt := hAtt)
    ∧ quiescent_AttIdeal (hAttIdeal := hAttIdeal)
    ∧ quiescent_AttRefIdeal (hAttRefIdeal := hAttRefIdeal)
    ∧ preserves_Ret_RetIdeal
    ∧ algebraic_RetIdeal_RetRefIdeal_on_retention_columns (hRetIdeal := hRetIdeal) (hRetRefIdeal := hRetRefIdeal) (hOn_retention_columns := hOn_retention_columns)
    ∧ preserves_Up_UpIdeal
    ∧ algebraic_UpIdeal_UpRefIdeal (hUpIdeal := hUpIdeal) (hUpRefIdeal := hUpRefIdeal)
    ∧ preserves_Inp_InpIdeal
    ∧ algebraic_InpIdeal_InpRefIdeal (hInpIdeal := hInpIdeal) (hInpRefIdeal := hInpRefIdeal)
    ∧ preserves_Down_DownIdeal
    ∧ algebraic_DownIdeal_DownRefIdeal (hDownIdeal := hDownIdeal) (hDownRefIdeal := hDownRefIdeal)
    ∧ preserves_Outp_OutpIdeal
    ∧ algebraic_OutpIdeal_OutpRefIdeal (hOutpIdeal := hOutpIdeal) (hOutpRefIdeal := hOutpRefIdeal)
    ∧ preserves_Att_AttIdeal
    ∧ algebraic_AttIdeal_AttRefIdeal_on_kept_columns (hAttIdeal := hAttIdeal) (hAttRefIdeal := hAttRefIdeal) (hOn_kept_columns := hOn_kept_columns)
-- ==== On_kept_columns.lean ====
abbrev S8x2048x12288 : Shape := ⟨3, ![8, 2048, 12288]⟩
abbrev S32x16 : Shape := ⟨2, ![32, 16]⟩
abbrev S8x2048x4096 : Shape := ⟨3, ![8, 2048, 4096]⟩
abbrev S_ : Shape := ⟨0, ![]⟩

class Facts : Prop where
  bcast_S_S8x2048x4096 : S_.BroadcastsInDim S8x2048x4096 (![] : Fin 0 → Fin S8x2048x4096.rank)

variable [Facts]

def fn {F : FTy → Type} [FloatOps F] (main_arg0 : FVec F S8x2048x12288 .bf16) (main_arg1 : FVec F S32x16 .f32) (main_arg2 : FVec F S8x2048x4096 .bf16) : IVec S8x2048x4096 1 :=
  let main_v0 : IVec S8x2048x4096 32 := iotaInDim S8x2048x4096 32 2
  let main_c : IVec S_ 32 := constantI S_ 32 2048#32
  let main_v1 : IVec S8x2048x4096 32 := broadcastInDim S8x2048x4096 ![] bcast_S_S8x2048x4096 main_c
  let main_v2 : IVec S8x2048x4096 1 := cmpi .slt main_v0 main_v1
  main_v2
-- ==== On_retention_columns.lean ====
abbrev S8x2048x12288 : Shape := ⟨3, ![8, 2048, 12288]⟩
abbrev S2x8 : Shape := ⟨2, ![2, 8]⟩
abbrev S8x256 : Shape := ⟨2, ![8, 256]⟩
abbrev S8x2048x4096 : Shape := ⟨3, ![8, 2048, 4096]⟩
abbrev S_ : Shape := ⟨0, ![]⟩

class Facts : Prop where
  bcast_S_S8x2048x4096 : S_.BroadcastsInDim S8x2048x4096 (![] : Fin 0 → Fin S8x2048x4096.rank)

variable [Facts]

def fn {F : FTy → Type} [FloatOps F] (main_arg0 : FVec F S8x2048x12288 .bf16) (main_arg1 : FVec F S2x8 .f32) (main_arg2 : FVec F S8x256 .f32) : IVec S8x2048x4096 1 :=
  let main_v0 : IVec S8x2048x4096 32 := iotaInDim S8x2048x4096 32 2
  let main_c : IVec S_ 32 := constantI S_ 32 2048#32
  let main_v1 : IVec S8x2048x4096 32 := broadcastInDim S8x2048x4096 ![] bcast_S_S8x2048x4096 main_c
  let main_v2 : IVec S8x2048x4096 1 := cmpi .slt main_v0 main_v1
  main_v2
-- ==== Ret.lean ====
abbrev S8x2048x12288 : Shape := ⟨3, ![8, 2048, 12288]⟩
abbrev S2x8 : Shape := ⟨2, ![2, 8]⟩
abbrev S8x256 : Shape := ⟨2, ![8, 256]⟩
abbrev S64 : Shape := ⟨1, ![64]⟩
abbrev S_ : Shape := ⟨0, ![]⟩
abbrev S2048 : Shape := ⟨1, ![2048]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S8x1x256 : Shape := ⟨3, ![8, 1, 256]⟩
abbrev S8x2048x4096 : Shape := ⟨3, ![8, 2048, 4096]⟩
abbrev S1x2048x128 : Shape := ⟨3, ![1, 2048, 128]⟩
abbrev S1x2048x256 : Shape := ⟨3, ![1, 2048, 256]⟩
abbrev S1x1x256 : Shape := ⟨3, ![1, 1, 256]⟩
abbrev S2048x256 : Shape := ⟨2, ![2048, 256]⟩
abbrev S128x256 : Shape := ⟨2, ![128, 256]⟩
abbrev S1x1 : Shape := ⟨2, ![1, 1]⟩
abbrev S128x128 : Shape := ⟨2, ![128, 128]⟩
abbrev S1x256 : Shape := ⟨2, ![1, 256]⟩
abbrev S1x128x128 : Shape := ⟨3, ![1, 128, 128]⟩
abbrev S1x128x256 : Shape := ⟨3, ![1, 128, 256]⟩
abbrev S128 : Shape := ⟨1, ![128]⟩
abbrev S128x1 : Shape := ⟨2, ![128, 1]⟩

abbrev nBuf : Space → Nat
  | .hbm => 26
  | .vmem => 18
  | .smem => 1
  | _ => 0

abbrev bufTy : (tb : Table) → Fin (tcTables nBuf tb) → BufTy
  | .hbm, ⟨0, _⟩ => ⟨S8x2048x12288, .bf16⟩
  | .hbm, ⟨1, _⟩ => ⟨S2x8, .f32⟩
  | .hbm, ⟨2, _⟩ => ⟨S8x256, .f32⟩
  | .hbm, ⟨3, _⟩ => ⟨S64, .f32⟩
  | .hbm, ⟨4, _⟩ => ⟨S64, .f32⟩
  | .hbm, ⟨5, _⟩ => ⟨S_, .f32⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S2048, .f32⟩
  | .hbm, ⟨12, _⟩ => ⟨S2048x1, .f32⟩
  | .hbm, ⟨13, _⟩ => ⟨S1x64, .f32⟩
  | .hbm, ⟨14, _⟩ => ⟨S2048x64, .f32⟩
  | .hbm, ⟨15, _⟩ => ⟨S2048x64, .f32⟩
  | .hbm, ⟨16, _⟩ => ⟨S2048x64, .f32⟩
  | .hbm, ⟨17, _⟩ => ⟨S2048x64, .f32⟩
  | .hbm, ⟨18, _⟩ => ⟨S2048x64, .f32⟩
  | .hbm, ⟨19, _⟩ => ⟨S2048x128, .f32⟩
  | .hbm, ⟨20, _⟩ => ⟨S2048x64, .f32⟩
  | .hbm, ⟨21, _⟩ => ⟨S2048x128, .f32⟩
  | .hbm, ⟨22, _⟩ => ⟨S2x8, .f32⟩
  | .hbm, ⟨23, _⟩ => ⟨S2x8, .f32⟩
  | .hbm, ⟨24, _⟩ => ⟨S8x1x256, .f32⟩
  | .hbm, ⟨25, _⟩ => ⟨S8x2048x4096, .bf16⟩
  | .local _ .vmem, ⟨0, _⟩ => ⟨S1x2048x128, .bf16⟩
  | .local _ .vmem, ⟨1, _⟩ => ⟨S1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x2048x256, .bf16⟩
  | .local _ .vmem, ⟨7, _⟩ => ⟨S1x2048x256, .bf16⟩
  | .local _ .vmem, ⟨8, _⟩ => ⟨S2048x128, .f32⟩
  | .local _ .vmem, ⟨9, _⟩ => ⟨S2048x128, .f32⟩
  | .local _ .vmem, ⟨10, _⟩ => ⟨S1x1x256, .f32⟩
  | .local _ .vmem, ⟨11, _⟩ => ⟨S1x1x256, .f32⟩
  | .local _ .vmem, ⟨12, _⟩ => ⟨S1x2048x256, .bf16⟩
  | .local _ .vmem, ⟨13, _⟩ => ⟨S1x2048x256, .bf16⟩
  | .local _ .vmem, ⟨14, _⟩ => ⟨S2048x128, .f32⟩
  | .local _ .vmem, ⟨15, _⟩ => ⟨S2048x128, .f32⟩
  | .local _ .vmem, ⟨16, _⟩ => ⟨S2048x256, .f32⟩
  | .local _ .vmem, ⟨17, _⟩ => ⟨S128x256, .f32⟩
  | .local _ .smem, ⟨0, _⟩ => ⟨S2x8, .f32⟩
  | _, _ => ⟨S8x2048x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![8, 8], ![false, false]⟩

def k0_off1 (i : grid0.Coords) : Fin 2 → Nat :=
  let c0 : Index := 0#32
  let arg1 : BitVec 32 := BitVec.ofNat 32 (i 1).val
  let v0 : Index := Scalar.indexCast arg1
  ![0, v0.toNat]
def k0_off2 (i : grid0.Coords) : Fin 2 → Nat :=
  let c1 : Index := 1#32
  let arg1 : BitVec 32 := BitVec.ofNat 32 (i 1).val
  let v2 : Index := Scalar.indexCast arg1
  ![1, v2.toNat]
@[reducible] def k0_t1_loop : Scf.Loop 32 :=
  let c0_i32 : BitVec 32 := 0#32
  let c16_i32 : BitVec 32 := 16#32
  let v51 : BitVec 32 := Scalar.addi c0_i32 c16_i32
  let c1_i32 : BitVec 32 := 1#32
  ⟨c0_i32, v51, c1_i32⟩
def k0_mult1 (k0_t1 : Fin k0_t1_loop.trips) : BitVec 32 :=
  let c0_i32 : BitVec 32 := 0#32
  let c1_i32 : BitVec 32 := 1#32
  let arg15 : BitVec 32 := Scf.iv c0_i32 c1_i32 k0_t1
  let c128_i32 : BitVec 32 := 128#32
  let v62 : BitVec 32 := Scalar.muli arg15 c128_i32
  v62
def k0_off3 (k0_t1 : Fin k0_t1_loop.trips) : Fin 2 → Nat :=
  let c0_i32 : BitVec 32 := 0#32
  let c1_i32 : BitVec 32 := 1#32
  let arg15 : BitVec 32 := Scf.iv c0_i32 c1_i32 k0_t1
  let c128_i32 : BitVec 32 := 128#32
  let v62 : BitVec 32 := Scalar.muli arg15 c128_i32
  let v63 : BitVec 32 := v62
  let v64 : Index := Scalar.indexCast v63
  let c0_26 : Index := 0#32
  ![v64.toNat, 0]
def k0_off4 (k0_t1 : Fin k0_t1_loop.trips) : Fin 3 → Nat :=
  let c0_28 : Index := 0#32
  let c0_i32 : BitVec 32 := 0#32
  let c1_i32 : BitVec 32 := 1#32
  let arg15 : BitVec 32 := Scf.iv c0_i32 c1_i32 k0_t1
  let c128_i32 : BitVec 32 := 128#32
  let v62 : BitVec 32 := Scalar.muli arg15 c128_i32
  let v63 : BitVec 32 := v62
  let v70 : Index := Scalar.indexCast v63
  let c0_29 : Index := 0#32
  ![0, v70.toNat, 0]
@[reducible] def k0_t2_loop : Scf.Loop 32 :=
  let c0_i32_15 : BitVec 32 := 0#32
  let c16_i32_16 : BitVec 32 := 16#32
  let v56 : BitVec 32 := Scalar.addi c0_i32_15 c16_i32_16
  let c1_i32_17 : BitVec 32 := 1#32
  ⟨c0_i32_15, v56, c1_i32_17⟩
def k0_mult2 (k0_t2 : Fin k0_t2_loop.trips) : BitVec 32 :=
  let c15_i32 : BitVec 32 := 15#32
  let c0_i32_15 : BitVec 32 := 0#32
  let c1_i32_17 : BitVec 32 := 1#32
  let arg15 : BitVec 32 := Scf.iv c0_i32_15 c1_i32_17 k0_t2
  let v62 : BitVec 32 := Scalar.subi c15_i32 arg15
  let c128_i32 : BitVec 32 := 128#32
  let v63 : BitVec 32 := Scalar.muli v62 c128_i32
  v63
def k0_off5 (k0_t2 : Fin k0_t2_loop.trips) : Fin 2 → Nat :=
  let c15_i32 : BitVec 32 := 15#32
  let c0_i32_15 : BitVec 32 := 0#32
  let c1_i32_17 : BitVec 32 := 1#32
  let arg15 : BitVec 32 := Scf.iv c0_i32_15 c1_i32_17 k0_t2
  let v62 : BitVec 32 := Scalar.subi c15_i32 arg15
  let c128_i32 : BitVec 32 := 128#32
  let v63 : BitVec 32 := Scalar.muli v62 c128_i32
  let v64 : BitVec 32 := v63
  let v66 : Index := Scalar.indexCast v64
  let c0_28 : Index := 0#32
  ![v66.toNat, 0]
def k0_off6 (k0_t2 : Fin k0_t2_loop.trips) : Fin 2 → Nat :=
  let c15_i32 : BitVec 32 := 15#32
  let c0_i32_15 : BitVec 32 := 0#32
  let c1_i32_17 : BitVec 32 := 1#32
  let arg15 : BitVec 32 := Scf.iv c0_i32_15 c1_i32_17 k0_t2
  let v62 : BitVec 32 := Scalar.subi c15_i32 arg15
  let c128_i32 : BitVec 32 := 128#32
  let v63 : BitVec 32 := Scalar.muli v62 c128_i32
  let v64 : BitVec 32 := v63
  let v72 : Index := Scalar.indexCast v64
  let c0_30 : Index := 0#32
  ![v72.toNat, 0]
def k0_off7 (k0_t2 : Fin k0_t2_loop.trips) : Fin 3 → Nat :=
  let c0_32 : Index := 0#32
  let c15_i32 : BitVec 32 := 15#32
  let c0_i32_15 : BitVec 32 := 0#32
  let c1_i32_17 : BitVec 32 := 1#32
  let arg15 : BitVec 32 := Scf.iv c0_i32_15 c1_i32_17 k0_t2
  let v62 : BitVec 32 := Scalar.subi c15_i32 arg15
  let c128_i32 : BitVec 32 := 128#32
  let v63 : BitVec 32 := Scalar.muli v62 c128_i32
  let v64 : BitVec 32 := v63
  let v82 : Index := Scalar.indexCast v64
  let c0_33 : Index := 0#32
  ![0, v82.toNat, 0]
@[reducible] def k0_t3_loop : Scf.Loop 32 :=
  let c0_i32_22 : BitVec 32 := 0#32
  let c16_i32_23 : BitVec 32 := 16#32
  let v61 : BitVec 32 := Scalar.addi c0_i32_22 c16_i32_23
  let c1_i32_24 : BitVec 32 := 1#32
  ⟨c0_i32_22, v61, c1_i32_24⟩
def k0_mult3 (k0_t3 : Fin k0_t3_loop.trips) : BitVec 32 :=
  let c0_i32_22 : BitVec 32 := 0#32
  let c1_i32_24 : BitVec 32 := 1#32
  let arg15 : BitVec 32 := Scf.iv c0_i32_22 c1_i32_24 k0_t3
  let c128_i32 : BitVec 32 := 128#32
  let v62 : BitVec 32 := Scalar.muli arg15 c128_i32
  v62
def k0_off8 (k0_t3 : Fin k0_t3_loop.trips) : Fin 2 → Nat :=
  let c0_i32_22 : BitVec 32 := 0#32
  let c1_i32_24 : BitVec 32 := 1#32
  let arg15 : BitVec 32 := Scf.iv c0_i32_22 c1_i32_24 k0_t3
  let c128_i32 : BitVec 32 := 128#32
  let v62 : BitVec 32 := Scalar.muli arg15 c128_i32
  let v63 : BitVec 32 := v62
  let v65 : Index := Scalar.indexCast v63
  let c0_28 : Index := 0#32
  ![v65.toNat, 0]
def k0_off9 (k0_t3 : Fin k0_t3_loop.trips) : Fin 3 → Nat :=
  let c0_30 : Index := 0#32
  let c0_i32_22 : BitVec 32 := 0#32
  let c1_i32_24 : BitVec 32 := 1#32
  let arg15 : BitVec 32 := Scf.iv c0_i32_22 c1_i32_24 k0_t3
  let c128_i32 : BitVec 32 := 128#32
  let v62 : BitVec 32 := Scalar.muli arg15 c128_i32
  let v63 : BitVec 32 := v62
  let v69 : Index := Scalar.indexCast v63
  let c0_31 : Index := 0#32
  ![0, v69.toNat, 0]
def k0_off10 (k0_t3 : Fin k0_t3_loop.trips) : Fin 2 → Nat :=
  let c0_i32_22 : BitVec 32 := 0#32
  let c1_i32_24 : BitVec 32 := 1#32
  let arg15 : BitVec 32 := Scf.iv c0_i32_22 c1_i32_24 k0_t3
  let c128_i32 : BitVec 32 := 128#32
  let v62 : BitVec 32 := Scalar.muli arg15 c128_i32
  let v63 : BitVec 32 := v62
  let v82 : Index := Scalar.indexCast v63
  let c0_35 : Index := 0#32
  ![v82.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .smem S2x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== RetRefIdeal.lean ====
abbrev S8x2048x12288 : Shape := ⟨3, ![8, 2048, 12288]⟩
abbrev S2x8 : Shape := ⟨2, ![2, 8]⟩
abbrev S8x256 : Shape := ⟨2, ![8, 256]⟩
abbrev S8x2048x1024 : Shape := ⟨3, ![8, 2048, 1024]⟩
abbrev S8x2048x2048 : Shape := ⟨3, ![8, 2048, 2048]⟩
abbrev S8x2048x8x128 : Shape := ⟨4, ![8, 2048, 8, 128]⟩
abbrev S64 : Shape := ⟨1, ![64]⟩
abbrev S_ : Shape := ⟨0, ![]⟩
abbrev S2048 : Shape := ⟨1, ![2048]⟩
abbrev S2048x1 : Shape := ⟨2, ![2048, 1]⟩
abbrev S1x64 : Shape := ⟨2, ![1, 64]⟩
abbrev S2048x64 : Shape := ⟨2, ![2048, 64]⟩
abbrev S1x2048x1x64 : Shape := ⟨4, ![1, 2048, 1, 64]⟩
abbrev S8x2048x8x64 : Shape := ⟨4, ![8, 2048, 8, 64]⟩
abbrev S8x2048x8x256 : Shape := ⟨4, ![8, 2048, 8, 256]⟩
abbrev S8x8x2048x128 : Shape := ⟨4, ![8, 8, 2048, 128]⟩
abbrev S8x8x2048x256 : Shape := ⟨4, ![8, 8, 2048, 256]⟩
abbrev S1x8 : Shape := ⟨2, ![1, 8]⟩
abbrev S8 : Shape := ⟨1, ![8]⟩
abbrev S8x8x16x128x128 : Shape := ⟨5, ![8, 8, 16, 128, 128]⟩
abbrev S8x8x16x128x256 : Shape := ⟨5, ![8, 8, 16, 128, 256]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S8x1x1 : Shape := ⟨3, ![8, 1, 1]⟩
abbrev S1x128x128 : Shape := ⟨3, ![1, 128, 128]⟩
abbrev S8x128x128 : Shape := ⟨3, ![8, 128, 128]⟩
abbrev S1x8x1x128x128 : Shape := ⟨5, ![1, 8, 1, 128, 128]⟩
abbrev S8x1 : Shape := ⟨2, ![8, 1]⟩
abbrev S8x128 : Shape := ⟨2, ![8, 128]⟩
abbrev S1x8x1x1 : Shape := ⟨4, ![1, 8, 1, 1]⟩
abbrev S1x8x1x128x1 : Shape := ⟨5, ![1, 8, 1, 128, 1]⟩
abbrev S16x8x8x128x256 : Shape := ⟨5, ![16, 8, 8, 128, 256]⟩
abbrev S8x8x128x256 : Shape := ⟨4, ![8, 8, 128, 256]⟩
abbrev S0x8x8x128x256 : Shape := ⟨5, ![0, 8, 8, 128, 256]⟩
abbrev S1x8x8x128x256 : Shape := ⟨5, ![1, 8, 8, 128, 256]⟩
abbrev S8x2048x8 : Shape := ⟨3, ![8, 2048, 8]⟩
abbrev S8x2048x8x1 : Shape := ⟨4, ![8, 2048, 8, 1]⟩
abbrev S1x1x8x256 : Shape := ⟨4, ![1, 1, 8, 256]⟩
abbrev S8x2048x4096 : Shape := ⟨3, ![8, 2048, 4096]⟩

abbrev nBuf : Space → Nat
  | .hbm => 461
  | .vmem => 0
  | .smem => 0
  | _ => 0

abbrev hbmTy0_0 (i : Nat) : BufTy := match i % 128 with
  | 0 => ⟨S8x2048x12288, .bf16⟩
  | 1 => ⟨S2x8, .f32⟩
  | 2 => ⟨S8x256, .f32⟩
  | 3 => ⟨S8x2048x12288, .f32⟩
  | 4 => ⟨S8x2048x1024, .f32⟩
  | 5 => ⟨S8x2048x1024, .f32⟩
  | 6 => ⟨S8x2048x2048, .f32⟩
  | 7 => ⟨S8x2048x2048, .f32⟩
  | 8 => ⟨S8x2048x8x128, .f32⟩
  | 9 => ⟨S64, .f32⟩
  | 10 => ⟨S64, .f32⟩
  | 11 => ⟨S_, .f32⟩
  | 12 => ⟨S64, .f32⟩
  | 13 => ⟨S64, .f32⟩
  | 14 => ⟨S_, .f32⟩
  | 15 => ⟨S64, .f32⟩
  | 16 => ⟨S64, .f32⟩
  | 17 => ⟨S2048, .f32⟩
  | 18 => ⟨S2048x1, .f32⟩
  | 19 => ⟨S1x64, .f32⟩
  | 20 => ⟨S2048x64, .f32⟩
  | 21 => ⟨S2048x64, .f32⟩
  | 22 => ⟨S2048x64, .f32⟩
  | 23 => ⟨S2048x64, .f32⟩
  | 24 => ⟨S1x2048x1x64, .f32⟩
  | 25 => ⟨S2048x64, .f32⟩
  | 26 => ⟨S1x2048x1x64, .f32⟩
  | 27 => ⟨S8x2048x8x64, .f32⟩
  | 28 => ⟨S8x2048x8x64, .f32⟩
  | 29 => ⟨S8x2048x8x64, .f32⟩
  | 30 => ⟨S8x2048x8x64, .f32⟩
  | 31 => ⟨S8x2048x8x64, .f32⟩
  | 32 => ⟨S8x2048x8x64, .f32⟩
  | 33 => ⟨S8x2048x8x64, .f32⟩
  | 34 => ⟨S8x2048x8x64, .f32⟩
  | 35 => ⟨S8x2048x8x64, .f32⟩
  | 36 => ⟨S8x2048x8x64, .f32⟩
  | 37 => ⟨S8x2048x8x64, .f32⟩
  | 38 => ⟨S8x2048x8x64, .f32⟩
  | 39 => ⟨S8x2048x8x128, .f32⟩
  | 40 => ⟨S8x2048x8x128, .f32⟩
  | 41 => ⟨S64, .f32⟩
  | 42 => ⟨S64, .f32⟩
  | 43 => ⟨S_, .f32⟩
  | 44 => ⟨S64, .f32⟩
  | 45 => ⟨S64, .f32⟩
  | 46 => ⟨S_, .f32⟩
  | 47 => ⟨S64, .f32⟩
  | 48 => ⟨S64, .f32⟩
  | 49 => ⟨S2048, .f32⟩
  | 50 => ⟨S2048x1, .f32⟩
  | 51 => ⟨S1x64, .f32⟩
  | 52 => ⟨S2048x64, .f32⟩
  | 53 => ⟨S2048x64, .f32⟩
  | 54 => ⟨S2048x64, .f32⟩
  | 55 => ⟨S2048x64, .f32⟩
  | 56 => ⟨S1x2048x1x64, .f32⟩
  | 57 => ⟨S2048x64, .f32⟩
  | 58 => ⟨S1x2048x1x64, .f32⟩
  | 59 => ⟨S8x2048x8x64, .f32⟩
  | 60 => ⟨S8x2048x8x64, .f32⟩
  | 61 => ⟨S8x2048x8x64, .f32⟩
  | 62 => ⟨S8x2048x8x64, .f32⟩
  | 63 => ⟨S8x2048x8x64, .f32⟩
  | 64 => ⟨S8x2048x8x64, .f32⟩
  | 65 => ⟨S8x2048x8x64, .f32⟩
  | 66 => ⟨S8x2048x8x64, .f32⟩
  | 67 => ⟨S8x2048x8x64, .f32⟩
  | 68 => ⟨S8x2048x8x64, .f32⟩
  | 69 => ⟨S8x2048x8x64, .f32⟩
  | 70 => ⟨S8x2048x8x64, .f32⟩
  | 71 => ⟨S8x2048x8x128, .f32⟩
  | 72 => ⟨S_, .f32⟩
  | 73 => ⟨S8x2048x8x128, .f32⟩
  | 74 => ⟨S8x2048x8x128, .f32⟩
  | 75 => ⟨S8x2048x8x256, .f32⟩
  | 76 => ⟨S8x8x2048x128, .f32⟩
  | 77 => ⟨S8x8x2048x128, .f32⟩
  | 78 => ⟨S8x8x2048x256, .f32⟩
  | 79 => ⟨S2x8, .f32⟩
  | 80 => ⟨S2x8, .f32⟩
  | 81 => ⟨S1x8, .f32⟩
  | 82 => ⟨S8, .f32⟩
  | 83 => ⟨S8x8x16x128x128, .f32⟩
  | 84 => ⟨S8x8x16x128x128, .f32⟩
  | 85 => ⟨S8x8x16x128x256, .f32⟩
  | 86 => ⟨S128, .f32⟩
  | 87 => ⟨S128x1, .f32⟩
  | 88 => ⟨S1x128, .f32⟩
  | 89 => ⟨S128x128, .f32⟩
  | 90 => ⟨S128x128, .f32⟩
  | 91 => ⟨S128x128, .f32⟩
  | 92 => ⟨S_, .f32⟩
  | 93 => ⟨S128x128, .f32⟩
  | 94 => ⟨S128x128, .i1⟩
  | 95 => ⟨S8x1x1, .f32⟩
  | 96 => ⟨S1x128x128, .i1⟩
  | 97 => ⟨S_, .f32⟩
  | 98 => ⟨S128x128, .f32⟩
  | 99 => ⟨S128x128, .f32⟩
  | 100 => ⟨S1x128x128, .f32⟩
  | 101 => ⟨S8x128x128, .f32⟩
  | 102 => ⟨S8x128x128, .f32⟩
  | 103 => ⟨S8x128x128, .f32⟩
  | 104 => ⟨S8x128x128, .f32⟩
  | 105 => ⟨S_, .f32⟩
  | 106 => ⟨S_, .f32⟩
  | 107 => ⟨S8x128x128, .i1⟩
  | 108 => ⟨S8x128x128, .f32⟩
  | 109 => ⟨S8x128x128, .f32⟩
  | 110 => ⟨S8x8x16x128x128, .f32⟩
  | 111 => ⟨S1x8x1x128x128, .f32⟩
  | 112 => ⟨S8x8x16x128x128, .f32⟩
  | 113 => ⟨S8x8x16x128x128, .f32⟩
  | 114 => ⟨S8x8x16x128x256, .f32⟩
  | 115 => ⟨S8x1, .f32⟩
  | 116 => ⟨S_, .f32⟩
  | 117 => ⟨S128, .f32⟩
  | 118 => ⟨S128, .f32⟩
  | 119 => ⟨S1x128, .f32⟩
  | 120 => ⟨S8x128, .f32⟩
  | 121 => ⟨S8x128, .f32⟩
  | 122 => ⟨S8x128, .f32⟩
  | 123 => ⟨S8x128, .f32⟩
  | 124 => ⟨S8x1, .f32⟩
  | 125 => ⟨S_, .f32⟩
  | 126 => ⟨S128, .f32⟩
  | 127 => ⟨S128, .f32⟩
  | _ => ⟨S8x2048x12288, .bf16⟩

abbrev hbmTy0_1 (i : Nat) : BufTy := match i % 128 with
  | 0 => ⟨S1x128, .f32⟩
  | 1 => ⟨S8x128, .f32⟩
  | 2 => ⟨S8x128, .f32⟩
  | 3 => ⟨S8x128, .f32⟩
  | 4 => ⟨S8x128, .f32⟩
  | 5 => ⟨S_, .f32⟩
  | 6 => ⟨S8, .f32⟩
  | 7 => ⟨S8, .f32⟩
  | 8 => ⟨S8, .f32⟩
  | 9 => ⟨S1x8x1x1, .f32⟩
  | 10 => ⟨S1x8x1x128x1, .f32⟩
  | 11 => ⟨S8x8x16x128x128, .f32⟩
  | 12 => ⟨S8x8x16x128x128, .f32⟩
  | 13 => ⟨S16x8x8x128x256, .f32⟩
  | 14 => ⟨S_, .f32⟩
  | 15 => ⟨S8x8x128x256, .f32⟩
  | 16 => ⟨S0x8x8x128x256, .f32⟩
  | 17 => ⟨S16x8x8x128x256, .f32⟩
  | 18 => ⟨S_, .f32⟩
  | 19 => ⟨S0x8x8x128x256, .f32⟩
  | 20 => ⟨S1x8x8x128x256, .f32⟩
  | 21 => ⟨S8x8x128x256, .f32⟩
  | 22 => ⟨S8x8x128x256, .f32⟩
  | 23 => ⟨S8x8x128x256, .f32⟩
  | 24 => ⟨S8x8x128x256, .f32⟩
  | 25 => ⟨S1x8x8x128x256, .f32⟩
  | 26 => ⟨S8x8x128x256, .f32⟩
  | 27 => ⟨S8x8x128x256, .f32⟩
  | 28 => ⟨S8x8x128x256, .f32⟩
  | 29 => ⟨S8x8x128x256, .f32⟩
  | 30 => ⟨S1x8x8x128x256, .f32⟩
  | 31 => ⟨S8x8x128x256, .f32⟩
  | 32 => ⟨S8x8x128x256, .f32⟩
  | 33 => ⟨S8x8x128x256, .f32⟩
  | 34 => ⟨S8x8x128x256, .f32⟩
  | 35 => ⟨S1x8x8x128x256, .f32⟩
  | 36 => ⟨S8x8x128x256, .f32⟩
  | 37 => ⟨S8x8x128x256, .f32⟩
  | 38 => ⟨S8x8x128x256, .f32⟩
  | 39 => ⟨S8x8x128x256, .f32⟩
  | 40 => ⟨S1x8x8x128x256, .f32⟩
  | 41 => ⟨S8x8x128x256, .f32⟩
  | 42 => ⟨S8x8x128x256, .f32⟩
  | 43 => ⟨S8x8x128x256, .f32⟩
  | 44 => ⟨S8x8x128x256, .f32⟩
  | 45 => ⟨S1x8x8x128x256, .f32⟩
  | 46 => ⟨S8x8x128x256, .f32⟩
  | 47 => ⟨S8x8x128x256, .f32⟩
  | 48 => ⟨S8x8x128x256, .f32⟩
  | 49 => ⟨S8x8x128x256, .f32⟩
  | 50 => ⟨S1x8x8x128x256, .f32⟩
  | 51 => ⟨S8x8x128x256, .f32⟩
  | 52 => ⟨S8x8x128x256, .f32⟩
  | 53 => ⟨S8x8x128x256, .f32⟩
  | 54 => ⟨S8x8x128x256, .f32⟩
  | 55 => ⟨S1x8x8x128x256, .f32⟩
  | 56 => ⟨S8x8x128x256, .f32⟩
  | 57 => ⟨S8x8x128x256, .f32⟩
  | 58 => ⟨S8x8x128x256, .f32⟩
  | 59 => ⟨S8x8x128x256, .f32⟩
  | 60 => ⟨S1x8x8x128x256, .f32⟩
  | 61 => ⟨S8x8x128x256, .f32⟩
  | 62 => ⟨S8x8x128x256, .f32⟩
  | 63 => ⟨S8x8x128x256, .f32⟩
  | 64 => ⟨S8x8x128x256, .f32⟩
  | 65 => ⟨S1x8x8x128x256, .f32⟩
  | 66 => ⟨S8x8x128x256, .f32⟩
  | 67 => ⟨S8x8x128x256, .f32⟩
  | 68 => ⟨S8x8x128x256, .f32⟩
  | 69 => ⟨S8x8x128x256, .f32⟩
  | 70 => ⟨S1x8x8x128x256, .f32⟩
  | 71 => ⟨S8x8x128x256, .f32⟩
  | 72 => ⟨S8x8x128x256, .f32⟩
  | 73 => ⟨S8x8x128x256, .f32⟩
  | 74 => ⟨S8x8x128x256, .f32⟩
  | 75 => ⟨S1x8x8x128x256, .f32⟩
  | 76 => ⟨S8x8x128x256, .f32⟩
  | 77 => ⟨S8x8x128x256, .f32⟩
  | 78 => ⟨S8x8x128x256, .f32⟩
  | 79 => ⟨S8x8x128x256, .f32⟩
  | 80 => ⟨S1x8x8x128x256, .f32⟩
  | 81 => ⟨S8x8x128x256, .f32⟩
  | 82 => ⟨S8x8x128x256, .f32⟩
  | 83 => ⟨S8x8x128x256, .f32⟩
  | 84 => ⟨S8x8x128x256, .f32⟩
  | 85 => ⟨S1x8x8x128x256, .f32⟩
  | 86 => ⟨S8x8x128x256, .f32⟩
  | 87 => ⟨S8x8x128x256, .f32⟩
  | 88 => ⟨S8x8x128x256, .f32⟩
  | 89 => ⟨S8x8x128x256, .f32⟩
  | 90 => ⟨S1x8x8x128x256, .f32⟩
  | 91 => ⟨S8x8x128x256, .f32⟩
  | 92 => ⟨S8x8x128x256, .f32⟩
  | 93 => ⟨S8x8x128x256, .f32⟩
  | 94 => ⟨S8x8x128x256, .f32⟩
  | 95 => ⟨S1x8x8x128x256, .f32⟩
  | 96 => ⟨S8x8x128x256, .f32⟩
  | 97 => ⟨S8x8x128x256, .f32⟩
  | 98 => ⟨S8x8x128x256, .f32⟩
  | 99 => ⟨S8x8x128x256, .f32⟩
  | 100 => ⟨S1x8x8x128x256, .f32⟩
  | 101 => ⟨S1x8x8x128x256, .f32⟩
  | 102 => ⟨S1x8x8x128x256, .f32⟩
  | 103 => ⟨S1x8x8x128x256, .f32⟩
  | 104 => ⟨S1x8x8x128x256, .f32⟩
  | 105 => ⟨S1x8x8x128x256, .f32⟩
  | 106 => ⟨S1x8x8x128x256, .f32⟩
  | 107 => ⟨S1x8x8x128x256, .f32⟩
  | 108 => ⟨S1x8x8x128x256, .f32⟩
  | 109 => ⟨S1x8x8x128x256, .f32⟩
  | 110 => ⟨S1x8x8x128x256, .f32⟩
  | 111 => ⟨S1x8x8x128x256, .f32⟩
  | 112 => ⟨S1x8x8x128x256, .f32⟩
  | 113 => ⟨S1x8x8x128x256, .f32⟩
  | 114 => ⟨S1x8x8x128x256, .f32⟩
  | 115 => ⟨S1x8x8x128x256, .f32⟩
  | 116 => ⟨S16x8x8x128x256, .f32⟩
  | 117 => ⟨S16x8x8x128x256, .f32⟩
  | 118 => ⟨S1x8x1x128x1, .f32⟩
  | 119 => ⟨S8x8x16x128x128, .f32⟩
  | 120 => ⟨S8x8x16x128x128, .f32⟩
  | 121 => ⟨S8x8x16x128x256, .f32⟩
  | 122 => ⟨S8x8x16x128x256, .f32⟩
  | 123 => ⟨S8x8x2048x256, .f32⟩
  | 124 => ⟨S8x8x2048x128, .f32⟩
  | 125 => ⟨S8x8x2048x128, .f32⟩
  | 126 => ⟨S8x8x2048x256, .f32⟩
  | 127 => ⟨S1x8, .f32⟩
  | _ => ⟨S8x2048x12288, .bf16⟩

abbrev hbmTy0_2 (i : Nat) : BufTy := match i % 128 with
  | 0 => ⟨S8, .f32⟩
  | 1 => ⟨S8x8x16x128x128, .f32⟩
  | 2 => ⟨S8x8x16x128x128, .f32⟩
  | 3 => ⟨S8x8x16x128x256, .f32⟩
  | 4 => ⟨S128, .f32⟩
  | 5 => ⟨S128x1, .f32⟩
  | 6 => ⟨S1x128, .f32⟩
  | 7 => ⟨S128x128, .f32⟩
  | 8 => ⟨S128x128, .f32⟩
  | 9 => ⟨S128x128, .f32⟩
  | 10 => ⟨S_, .f32⟩
  | 11 => ⟨S128x128, .f32⟩
  | 12 => ⟨S128x128, .i1⟩
  | 13 => ⟨S8x1x1, .f32⟩
  | 14 => ⟨S1x128x128, .i1⟩
  | 15 => ⟨S_, .f32⟩
  | 16 => ⟨S128x128, .f32⟩
  | 17 => ⟨S128x128, .f32⟩
  | 18 => ⟨S1x128x128, .f32⟩
  | 19 => ⟨S8x128x128, .f32⟩
  | 20 => ⟨S8x128x128, .f32⟩
  | 21 => ⟨S8x128x128, .f32⟩
  | 22 => ⟨S8x128x128, .f32⟩
  | 23 => ⟨S_, .f32⟩
  | 24 => ⟨S_, .f32⟩
  | 25 => ⟨S8x128x128, .i1⟩
  | 26 => ⟨S8x128x128, .f32⟩
  | 27 => ⟨S8x128x128, .f32⟩
  | 28 => ⟨S8x8x16x128x128, .f32⟩
  | 29 => ⟨S1x8x1x128x128, .f32⟩
  | 30 => ⟨S8x8x16x128x128, .f32⟩
  | 31 => ⟨S8x8x16x128x128, .f32⟩
  | 32 => ⟨S8x8x16x128x256, .f32⟩
  | 33 => ⟨S8x1, .f32⟩
  | 34 => ⟨S_, .f32⟩
  | 35 => ⟨S128, .f32⟩
  | 36 => ⟨S128, .f32⟩
  | 37 => ⟨S1x128, .f32⟩
  | 38 => ⟨S8x128, .f32⟩
  | 39 => ⟨S8x128, .f32⟩
  | 40 => ⟨S8x128, .f32⟩
  | 41 => ⟨S8x128, .f32⟩
  | 42 => ⟨S8x1, .f32⟩
  | 43 => ⟨S_, .f32⟩
  | 44 => ⟨S128, .f32⟩
  | 45 => ⟨S128, .f32⟩
  | 46 => ⟨S1x128, .f32⟩
  | 47 => ⟨S8x128, .f32⟩
  | 48 => ⟨S8x128, .f32⟩
  | 49 => ⟨S8x128, .f32⟩
  | 50 => ⟨S8x128, .f32⟩
  | 51 => ⟨S_, .f32⟩
  | 52 => ⟨S8, .f32⟩
  | 53 => ⟨S8, .f32⟩
  | 54 => ⟨S8, .f32⟩
  | 55 => ⟨S1x8x1x1, .f32⟩
  | 56 => ⟨S1x8x1x128x1, .f32⟩
  | 57 => ⟨S8x8x16x128x128, .f32⟩
  | 58 => ⟨S8x8x16x128x128, .f32⟩
  | 59 => ⟨S16x8x8x128x256, .f32⟩
  | 60 => ⟨S_, .f32⟩
  | 61 => ⟨S8x8x128x256, .f32⟩
  | 62 => ⟨S0x8x8x128x256, .f32⟩
  | 63 => ⟨S16x8x8x128x256, .f32⟩
  | 64 => ⟨S_, .f32⟩
  | 65 => ⟨S0x8x8x128x256, .f32⟩
  | 66 => ⟨S1x8x8x128x256, .f32⟩
  | 67 => ⟨S8x8x128x256, .f32⟩
  | 68 => ⟨S8x8x128x256, .f32⟩
  | 69 => ⟨S8x8x128x256, .f32⟩
  | 70 => ⟨S8x8x128x256, .f32⟩
  | 71 => ⟨S1x8x8x128x256, .f32⟩
  | 72 => ⟨S8x8x128x256, .f32⟩
  | 73 => ⟨S8x8x128x256, .f32⟩
  | 74 => ⟨S8x8x128x256, .f32⟩
  | 75 => ⟨S8x8x128x256, .f32⟩
  | 76 => ⟨S1x8x8x128x256, .f32⟩
  | 77 => ⟨S8x8x128x256, .f32⟩
  | 78 => ⟨S8x8x128x256, .f32⟩
  | 79 => ⟨S8x8x128x256, .f32⟩
  | 80 => ⟨S8x8x128x256, .f32⟩
  | 81 => ⟨S1x8x8x128x256, .f32⟩
  | 82 => ⟨S8x8x128x256, .f32⟩
  | 83 => ⟨S8x8x128x256, .f32⟩
  | 84 => ⟨S8x8x128x256, .f32⟩
  | 85 => ⟨S8x8x128x256, .f32⟩
  | 86 => ⟨S1x8x8x128x256, .f32⟩
  | 87 => ⟨S8x8x128x256, .f32⟩
  | 88 => ⟨S8x8x128x256, .f32⟩
  | 89 => ⟨S8x8x128x256, .f32⟩
  | 90 => ⟨S8x8x128x256, .f32⟩
  | 91 => ⟨S1x8x8x128x256, .f32⟩
  | 92 => ⟨S8x8x128x256, .f32⟩
  | 93 => ⟨S8x8x128x256, .f32⟩
  | 94 => ⟨S8x8x128x256, .f32⟩
  | 95 => ⟨S8x8x128x256, .f32⟩
  | 96 => ⟨S1x8x8x128x256, .f32⟩
  | 97 => ⟨S8x8x128x256, .f32⟩
  | 98 => ⟨S8x8x128x256, .f32⟩
  | 99 => ⟨S8x8x128x256, .f32⟩
  | 100 => ⟨S8x8x128x256, .f32⟩
  | 101 => ⟨S1x8x8x128x256, .f32⟩
  | 102 => ⟨S8x8x128x256, .f32⟩
  | 103 => ⟨S8x8x128x256, .f32⟩
  | 104 => ⟨S8x8x128x256, .f32⟩
  | 105 => ⟨S8x8x128x256, .f32⟩
  | 106 => ⟨S1x8x8x128x256, .f32⟩
  | 107 => ⟨S8x8x128x256, .f32⟩
  | 108 => ⟨S8x8x128x256, .f32⟩
  | 109 => ⟨S8x8x128x256, .f32⟩
  | 110 => ⟨S8x8x128x256, .f32⟩
  | 111 => ⟨S1x8x8x128x256, .f32⟩
  | 112 => ⟨S8x8x128x256, .f32⟩
  | 113 => ⟨S8x8x128x256, .f32⟩
  | 114 => ⟨S8x8x128x256, .f32⟩
  | 115 => ⟨S8x8x128x256, .f32⟩
  | 116 => ⟨S1x8x8x128x256, .f32⟩
  | 117 => ⟨S8x8x128x256, .f32⟩
  | 118 => ⟨S8x8x128x256, .f32⟩
  | 119 => ⟨S8x8x128x256, .f32⟩
  | 120 => ⟨S8x8x128x256, .f32⟩
  | 121 => ⟨S1x8x8x128x256, .f32⟩
  | 122 => ⟨S8x8x128x256, .f32⟩
  | 123 => ⟨S8x8x128x256, .f32⟩
  | 124 => ⟨S8x8x128x256, .f32⟩
  | 125 => ⟨S8x8x128x256, .f32⟩
  | 126 => ⟨S1x8x8x128x256, .f32⟩
  | 127 => ⟨S8x8x128x256, .f32⟩
  | _ => ⟨S8x2048x12288, .bf16⟩

abbrev hbmTy0_3 (i : Nat) : BufTy := match i % 128 with
  | 0 => ⟨S8x8x128x256, .f32⟩
  | 1 => ⟨S8x8x128x256, .f32⟩
  | 2 => ⟨S8x8x128x256, .f32⟩
  | 3 => ⟨S1x8x8x128x256, .f32⟩
  | 4 => ⟨S8x8x128x256, .f32⟩
  | 5 => ⟨S8x8x128x256, .f32⟩
  | 6 => ⟨S8x8x128x256, .f32⟩
  | 7 => ⟨S8x8x128x256, .f32⟩
  | 8 => ⟨S1x8x8x128x256, .f32⟩
  | 9 => ⟨S8x8x128x256, .f32⟩
  | 10 => ⟨S8x8x128x256, .f32⟩
  | 11 => ⟨S8x8x128x256, .f32⟩
  | 12 => ⟨S8x8x128x256, .f32⟩
  | 13 => ⟨S1x8x8x128x256, .f32⟩
  | 14 => ⟨S8x8x128x256, .f32⟩
  | 15 => ⟨S8x8x128x256, .f32⟩
  | 16 => ⟨S8x8x128x256, .f32⟩
  | 17 => ⟨S8x8x128x256, .f32⟩
  | 18 => ⟨S1x8x8x128x256, .f32⟩
  | 19 => ⟨S1x8x8x128x256, .f32⟩
  | 20 => ⟨S1x8x8x128x256, .f32⟩
  | 21 => ⟨S1x8x8x128x256, .f32⟩
  | 22 => ⟨S1x8x8x128x256, .f32⟩
  | 23 => ⟨S1x8x8x128x256, .f32⟩
  | 24 => ⟨S1x8x8x128x256, .f32⟩
  | 25 => ⟨S1x8x8x128x256, .f32⟩
  | 26 => ⟨S1x8x8x128x256, .f32⟩
  | 27 => ⟨S1x8x8x128x256, .f32⟩
  | 28 => ⟨S1x8x8x128x256, .f32⟩
  | 29 => ⟨S1x8x8x128x256, .f32⟩
  | 30 => ⟨S1x8x8x128x256, .f32⟩
  | 31 => ⟨S1x8x8x128x256, .f32⟩
  | 32 => ⟨S1x8x8x128x256, .f32⟩
  | 33 => ⟨S1x8x8x128x256, .f32⟩
  | 34 => ⟨S16x8x8x128x256, .f32⟩
  | 35 => ⟨S16x8x8x128x256, .f32⟩
  | 36 => ⟨S1x8x1x128x1, .f32⟩
  | 37 => ⟨S8x8x16x128x128, .f32⟩
  | 38 => ⟨S8x8x16x128x128, .f32⟩
  | 39 => ⟨S8x8x16x128x256, .f32⟩
  | 40 => ⟨S8x8x16x128x256, .f32⟩
  | 41 => ⟨S8x8x2048x256, .f32⟩
  | 42 => ⟨S8x8x2048x256, .f32⟩
  | 43 => ⟨S8x8x2048x256, .f32⟩
  | 44 => ⟨S8x2048x8x256, .f32⟩
  | 45 => ⟨S8x2048x8x256, .f32⟩
  | 46 => ⟨S_, .f32⟩
  | 47 => ⟨S8x2048x8, .f32⟩
  | 48 => ⟨S8x2048x8x1, .f32⟩
  | 49 => ⟨S_, .f32⟩
  | 50 => ⟨S8x2048x8x1, .f32⟩
  | 51 => ⟨S8x2048x8x1, .f32⟩
  | 52 => ⟨S_, .f32⟩
  | 53 => ⟨S8x2048x8x1, .f32⟩
  | 54 => ⟨S8x2048x8x1, .f32⟩
  | 55 => ⟨S8x2048x8x1, .f32⟩
  | 56 => ⟨S8x2048x8x256, .f32⟩
  | 57 => ⟨S8x2048x8x256, .f32⟩
  | 58 => ⟨S1x1x8x256, .f32⟩
  | 59 => ⟨S8x2048x8x256, .f32⟩
  | 60 => ⟨S8x2048x8x256, .f32⟩
  | 61 => ⟨S8x2048x8x256, .f32⟩
  | 62 => ⟨S8x2048x8x256, .f32⟩
  | 63 => ⟨S8x2048x8x256, .f32⟩
  | 64 => ⟨S_, .f32⟩
  | 65 => ⟨S8x2048x8x256, .f32⟩
  | 66 => ⟨S8x2048x8x256, .f32⟩
  | 67 => ⟨S_, .f32⟩
  | 68 => ⟨S8x2048x8x256, .f32⟩
  | 69 => ⟨S8x2048x8x256, .f32⟩
  | 70 => ⟨S8x2048x8x256, .f32⟩
  | 71 => ⟨S8x2048x8x256, .f32⟩
  | 72 => ⟨S8x2048x2048, .f32⟩
  | 73 => ⟨S_, .f32⟩
  | 74 => ⟨S8x2048x2048, .f32⟩
  | 75 => ⟨S8x2048x4096, .f32⟩
  | 76 => ⟨S8x2048x4096, .bf16⟩
  | _ => ⟨S8x2048x12288, .bf16⟩

abbrev hbmTy (i : Nat) : BufTy := match i / 128 with
  | 0 => hbmTy0_0 i
  | 1 => hbmTy0_1 i
  | 2 => hbmTy0_2 i
  | 3 => hbmTy0_3 i
  | _ => ⟨S8x2048x12288, .bf16⟩

abbrev bufTy : (tb : Table) → Fin (tcTables nBuf tb) → BufTy
  | .hbm, ⟨i, _⟩ => hbmTy i
  | _, _ => ⟨S8x2048x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_cst_1 : Ref sig .tc := ⟨.hbm, 43, rfl⟩
abbrev main_v38 : Ref sig .tc := ⟨.hbm, 44, rfl⟩
abbrev main_v39 : Ref sig .tc := ⟨.hbm, 45, rfl⟩
abbrev main_cst_2 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_cst_3 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_cst_4 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_cst_5 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_cst_6 : Ref sig .tc := ⟨.hbm, 105, rfl⟩
abbrev main_call0_v0 : Ref sig .tc := ⟨.hbm, 106, rfl⟩
abbrev main_call0_v1 : Ref sig .tc := ⟨.hbm, 107, rfl⟩
abbrev main_call0_v2 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_cst_7 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_cst_8 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_cst_9 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_cst_10 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_cst_11 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_v138 : Ref sig .tc := ⟨.hbm, 157, rfl⟩
abbrev main_v139 : Ref sig .tc := ⟨.hbm, 158, rfl⟩
abbrev main_v140 : Ref sig .tc := ⟨.hbm, 159, rfl⟩
abbrev main_v141 : Ref sig .tc := ⟨.hbm, 160, rfl⟩
abbrev main_v142 : Ref sig .tc := ⟨.hbm, 161, rfl⟩
abbrev main_v143 : Ref sig .tc := ⟨.hbm, 162, rfl⟩
abbrev main_v144 : Ref sig .tc := ⟨.hbm, 163, rfl⟩
abbrev main_v145 : Ref sig .tc := ⟨.hbm, 164, rfl⟩
abbrev main_v146 : Ref sig .tc := ⟨.hbm, 165, rfl⟩
abbrev main_v147 : Ref sig .tc := ⟨.hbm, 166, rfl⟩
abbrev main_v148 : Ref sig .tc := ⟨.hbm, 167, rfl⟩
abbrev main_v149 : Ref sig .tc := ⟨.hbm, 168, rfl⟩
abbrev main_v150 : Ref sig .tc := ⟨.hbm, 169, rfl⟩
abbrev main_v151 : Ref sig .tc := ⟨.hbm, 170, rfl⟩
abbrev main_v152 : Ref sig .tc := ⟨.hbm, 171, rfl⟩
abbrev main_v153 : Ref sig .tc := ⟨.hbm, 172, rfl⟩
abbrev main_v154 : Ref sig .tc := ⟨.hbm, 173, rfl⟩
abbrev main_v155 : Ref sig .tc := ⟨.hbm, 174, rfl⟩
abbrev main_v156 : Ref sig .tc := ⟨.hbm, 175, rfl⟩
abbrev main_v157 : Ref sig .tc := ⟨.hbm, 176, rfl⟩
abbrev main_v158 : Ref sig .tc := ⟨.hbm, 177, rfl⟩
abbrev main_v159 : Ref sig .tc := ⟨.hbm, 178, rfl⟩
abbrev main_v160 : Ref sig .tc := ⟨.hbm, 179, rfl⟩
abbrev main_v161 : Ref sig .tc := ⟨.hbm, 180, rfl⟩
abbrev main_v162 : Ref sig .tc := ⟨.hbm, 181, rfl⟩
abbrev main_v163 : Ref sig .tc := ⟨.hbm, 182, rfl⟩
abbrev main_v164 : Ref sig .tc := ⟨.hbm, 183, rfl⟩
abbrev main_v165 : Ref sig .tc := ⟨.hbm, 184, rfl⟩
abbrev main_v166 : Ref sig .tc := ⟨.hbm, 185, rfl⟩
abbrev main_v167 : Ref sig .tc := ⟨.hbm, 186, rfl⟩
abbrev main_v168 : Ref sig .tc := ⟨.hbm, 187, rfl⟩
abbrev main_v169 : Ref sig .tc := ⟨.hbm, 188, rfl⟩
abbrev main_v170 : Ref sig .tc := ⟨.hbm, 189, rfl⟩
abbrev main_v171 : Ref sig .tc := ⟨.hbm, 190, rfl⟩
abbrev main_v172 : Ref sig .tc := ⟨.hbm, 191, rfl⟩
abbrev main_v173 : Ref sig .tc := ⟨.hbm, 192, rfl⟩
abbrev main_v174 : Ref sig .tc := ⟨.hbm, 193, rfl⟩
abbrev main_v175 : Ref sig .tc := ⟨.hbm, 194, rfl⟩
abbrev main_v176 : Ref sig .tc := ⟨.hbm, 195, rfl⟩
abbrev main_v177 : Ref sig .tc := ⟨.hbm, 196, rfl⟩
abbrev main_v178 : Ref sig .tc := ⟨.hbm, 197, rfl⟩
abbrev main_v179 : Ref sig .tc := ⟨.hbm, 198, rfl⟩
abbrev main_v180 : Ref sig .tc := ⟨.hbm, 199, rfl⟩
abbrev main_v181 : Ref sig .tc := ⟨.hbm, 200, rfl⟩
abbrev main_v182 : Ref sig .tc := ⟨.hbm, 201, rfl⟩
abbrev main_v183 : Ref sig .tc := ⟨.hbm, 202, rfl⟩
abbrev main_v184 : Ref sig .tc := ⟨.hbm, 203, rfl⟩
abbrev main_v185 : Ref sig .tc := ⟨.hbm, 204, rfl⟩
abbrev main_v186 : Ref sig .tc := ⟨.hbm, 205, rfl⟩
abbrev main_v187 : Ref sig .tc := ⟨.hbm, 206, rfl⟩
abbrev main_v188 : Ref sig .tc := ⟨.hbm, 207, rfl⟩
abbrev main_v189 : Ref sig .tc := ⟨.hbm, 208, rfl⟩
abbrev main_v190 : Ref sig .tc := ⟨.hbm, 209, rfl⟩
abbrev main_v191 : Ref sig .tc := ⟨.hbm, 210, rfl⟩
abbrev main_v192 : Ref sig .tc := ⟨.hbm, 211, rfl⟩
abbrev main_v193 : Ref sig .tc := ⟨.hbm, 212, rfl⟩
abbrev main_v194 : Ref sig .tc := ⟨.hbm, 213, rfl⟩
abbrev main_v195 : Ref sig .tc := ⟨.hbm, 214, rfl⟩
abbrev main_v196 : Ref sig .tc := ⟨.hbm, 215, rfl⟩
abbrev main_v197 : Ref sig .tc := ⟨.hbm, 216, rfl⟩
abbrev main_v198 : Ref sig .tc := ⟨.hbm, 217, rfl⟩
abbrev main_v199 : Ref sig .tc := ⟨.hbm, 218, rfl⟩
abbrev main_v200 : Ref sig .tc := ⟨.hbm, 219, rfl⟩
abbrev main_v201 : Ref sig .tc := ⟨.hbm, 220, rfl⟩
abbrev main_v202 : Ref sig .tc := ⟨.hbm, 221, rfl⟩
abbrev main_v203 : Ref sig .tc := ⟨.hbm, 222, rfl⟩
abbrev main_v204 : Ref sig .tc := ⟨.hbm, 223, rfl⟩
abbrev main_v205 : Ref sig .tc := ⟨.hbm, 224, rfl⟩
abbrev main_v206 : Ref sig .tc := ⟨.hbm, 225, rfl⟩
abbrev main_v207 : Ref sig .tc := ⟨.hbm, 226, rfl⟩
abbrev main_v208 : Ref sig .tc := ⟨.hbm, 227, rfl⟩
abbrev main_v209 : Ref sig .tc := ⟨.hbm, 228, rfl⟩
abbrev main_v210 : Ref sig .tc := ⟨.hbm, 229, rfl⟩
abbrev main_v211 : Ref sig .tc := ⟨.hbm, 230, rfl⟩
abbrev main_v212 : Ref sig .tc := ⟨.hbm, 231, rfl⟩
abbrev main_v213 : Ref sig .tc := ⟨.hbm, 232, rfl⟩
abbrev main_v214 : Ref sig .tc := ⟨.hbm, 233, rfl⟩
abbrev main_v215 : Ref sig .tc := ⟨.hbm, 234, rfl⟩
abbrev main_v216 : Ref sig .tc := ⟨.hbm, 235, rfl⟩
abbrev main_v217 : Ref sig .tc := ⟨.hbm, 236, rfl⟩
abbrev main_v218 : Ref sig .tc := ⟨.hbm, 237, rfl⟩
abbrev main_v219 : Ref sig .tc := ⟨.hbm, 238, rfl⟩
abbrev main_v220 : Ref sig .tc := ⟨.hbm, 239, rfl⟩
abbrev main_v221 : Ref sig .tc := ⟨.hbm, 240, rfl⟩
abbrev main_v222 : Ref sig .tc := ⟨.hbm, 241, rfl⟩
abbrev main_v223 : Ref sig .tc := ⟨.hbm, 242, rfl⟩
abbrev main_v224 : Ref sig .tc := ⟨.hbm, 243, rfl⟩
abbrev main_v225 : Ref sig .tc := ⟨.hbm, 244, rfl⟩
abbrev main_v226 : Ref sig .tc := ⟨.hbm, 245, rfl⟩
abbrev main_v227 : Ref sig .tc := ⟨.hbm, 246, rfl⟩
abbrev main_v228 : Ref sig .tc := ⟨.hbm, 247, rfl⟩
abbrev main_v229 : Ref sig .tc := ⟨.hbm, 248, rfl⟩
abbrev main_v230 : Ref sig .tc := ⟨.hbm, 249, rfl⟩
abbrev main_v231 : Ref sig .tc := ⟨.hbm, 250, rfl⟩
abbrev main_v232 : Ref sig .tc := ⟨.hbm, 251, rfl⟩
abbrev main_v233 : Ref sig .tc := ⟨.hbm, 252, rfl⟩
abbrev main_v234 : Ref sig .tc := ⟨.hbm, 253, rfl⟩
abbrev main_v235 : Ref sig .tc := ⟨.hbm, 254, rfl⟩
abbrev main_v236 : Ref sig .tc := ⟨.hbm, 255, rfl⟩
abbrev main_v237 : Ref sig .tc := ⟨.hbm, 256, rfl⟩
abbrev main_v238 : Ref sig .tc := ⟨.hbm, 257, rfl⟩
abbrev main_v239 : Ref sig .tc := ⟨.hbm, 258, rfl⟩
abbrev main_v240 : Ref sig .tc := ⟨.hbm, 259, rfl⟩
abbrev main_v241 : Ref sig .tc := ⟨.hbm, 260, rfl⟩
abbrev main_v242 : Ref sig .tc := ⟨.hbm, 261, rfl⟩
abbrev main_v243 : Ref sig .tc := ⟨.hbm, 262, rfl⟩
abbrev main_v244 : Ref sig .tc := ⟨.hbm, 263, rfl⟩
abbrev main_v245 : Ref sig .tc := ⟨.hbm, 264, rfl⟩
abbrev main_v246 : Ref sig .tc := ⟨.hbm, 265, rfl⟩
abbrev main_cst_12 : Ref sig .tc := ⟨.hbm, 266, rfl⟩
abbrev main_v247 : Ref sig .tc := ⟨.hbm, 267, rfl⟩
abbrev main_v248 : Ref sig .tc := ⟨.hbm, 268, rfl⟩
abbrev main_v249 : Ref sig .tc := ⟨.hbm, 269, rfl⟩
abbrev main_v250 : Ref sig .tc := ⟨.hbm, 270, rfl⟩
abbrev main_cst_13 : Ref sig .tc := ⟨.hbm, 271, rfl⟩
abbrev main_v251 : Ref sig .tc := ⟨.hbm, 272, rfl⟩
abbrev main_v252 : Ref sig .tc := ⟨.hbm, 273, rfl⟩
abbrev main_v253 : Ref sig .tc := ⟨.hbm, 274, rfl⟩
abbrev main_v254 : Ref sig .tc := ⟨.hbm, 275, rfl⟩
abbrev main_v255 : Ref sig .tc := ⟨.hbm, 276, rfl⟩
abbrev main_v256 : Ref sig .tc := ⟨.hbm, 277, rfl⟩
abbrev main_v257 : Ref sig .tc := ⟨.hbm, 278, rfl⟩
abbrev main_cst_14 : Ref sig .tc := ⟨.hbm, 279, rfl⟩
abbrev main_call1_v0 : Ref sig .tc := ⟨.hbm, 280, rfl⟩
abbrev main_call1_v1 : Ref sig .tc := ⟨.hbm, 281, rfl⟩
abbrev main_call1_v2 : Ref sig .tc := ⟨.hbm, 282, rfl⟩
abbrev main_v258 : Ref sig .tc := ⟨.hbm, 283, rfl⟩
abbrev main_v259 : Ref sig .tc := ⟨.hbm, 284, rfl⟩
abbrev main_v260 : Ref sig .tc := ⟨.hbm, 285, rfl⟩
abbrev main_v261 : Ref sig .tc := ⟨.hbm, 286, rfl⟩
abbrev main_v262 : Ref sig .tc := ⟨.hbm, 287, rfl⟩
abbrev main_v263 : Ref sig .tc := ⟨.hbm, 288, rfl⟩
abbrev main_v264 : Ref sig .tc := ⟨.hbm, 289, rfl⟩
abbrev main_cst_15 : Ref sig .tc := ⟨.hbm, 290, rfl⟩
abbrev main_v265 : Ref sig .tc := ⟨.hbm, 291, rfl⟩
abbrev main_v266 : Ref sig .tc := ⟨.hbm, 292, rfl⟩
abbrev main_v267 : Ref sig .tc := ⟨.hbm, 293, rfl⟩
abbrev main_v268 : Ref sig .tc := ⟨.hbm, 294, rfl⟩
abbrev main_v269 : Ref sig .tc := ⟨.hbm, 295, rfl⟩
abbrev main_v270 : Ref sig .tc := ⟨.hbm, 296, rfl⟩
abbrev main_v271 : Ref sig .tc := ⟨.hbm, 297, rfl⟩
abbrev main_v272 : Ref sig .tc := ⟨.hbm, 298, rfl⟩
abbrev main_cst_16 : Ref sig .tc := ⟨.hbm, 299, rfl⟩
abbrev main_v273 : Ref sig .tc := ⟨.hbm, 300, rfl⟩
abbrev main_v274 : Ref sig .tc := ⟨.hbm, 301, rfl⟩
abbrev main_v275 : Ref sig .tc := ⟨.hbm, 302, rfl⟩
abbrev main_v276 : Ref sig .tc := ⟨.hbm, 303, rfl⟩
abbrev main_v277 : Ref sig .tc := ⟨.hbm, 304, rfl⟩
abbrev main_v278 : Ref sig .tc := ⟨.hbm, 305, rfl⟩
abbrev main_v279 : Ref sig .tc := ⟨.hbm, 306, rfl⟩
abbrev main_cst_17 : Ref sig .tc := ⟨.hbm, 307, rfl⟩
abbrev main_v280 : Ref sig .tc := ⟨.hbm, 308, rfl⟩
abbrev main_v281 : Ref sig .tc := ⟨.hbm, 309, rfl⟩
abbrev main_v282 : Ref sig .tc := ⟨.hbm, 310, rfl⟩
abbrev main_v283 : Ref sig .tc := ⟨.hbm, 311, rfl⟩
abbrev main_v284 : Ref sig .tc := ⟨.hbm, 312, rfl⟩
abbrev main_v285 : Ref sig .tc := ⟨.hbm, 313, rfl⟩
abbrev main_v286 : Ref sig .tc := ⟨.hbm, 314, rfl⟩
abbrev main_v287 : Ref sig .tc := ⟨.hbm, 315, rfl⟩
abbrev main_cst_18 : Ref sig .tc := ⟨.hbm, 316, rfl⟩
abbrev main_v288 : Ref sig .tc := ⟨.hbm, 317, rfl⟩
abbrev main_v289 : Ref sig .tc := ⟨.hbm, 318, rfl⟩
abbrev main_v290 : Ref sig .tc := ⟨.hbm, 319, rfl⟩
abbrev main_cst_19 : Ref sig .tc := ⟨.hbm, 320, rfl⟩
abbrev main_v291 : Ref sig .tc := ⟨.hbm, 321, rfl⟩
abbrev main_v292 : Ref sig .tc := ⟨.hbm, 322, rfl⟩
abbrev main_v293 : Ref sig .tc := ⟨.hbm, 323, rfl⟩
abbrev main_v294 : Ref sig .tc := ⟨.hbm, 324, rfl⟩
abbrev main_v295 : Ref sig .tc := ⟨.hbm, 325, rfl⟩
abbrev main_v296 : Ref sig .tc := ⟨.hbm, 326, rfl⟩
abbrev main_v297 : Ref sig .tc := ⟨.hbm, 327, rfl⟩
abbrev main_v298 : Ref sig .tc := ⟨.hbm, 328, rfl⟩
abbrev main_v299 : Ref sig .tc := ⟨.hbm, 329, rfl⟩
abbrev main_v300 : Ref sig .tc := ⟨.hbm, 330, rfl⟩
abbrev main_v301 : Ref sig .tc := ⟨.hbm, 331, rfl⟩
abbrev main_v302 : Ref sig .tc := ⟨.hbm, 332, rfl⟩
abbrev main_v303 : Ref sig .tc := ⟨.hbm, 333, rfl⟩
abbrev main_v304 : Ref sig .tc := ⟨.hbm, 334, rfl⟩
abbrev main_v305 : Ref sig .tc := ⟨.hbm, 335, rfl⟩
abbrev main_v306 : Ref sig .tc := ⟨.hbm, 336, rfl⟩
abbrev main_v307 : Ref sig .tc := ⟨.hbm, 337, rfl⟩
abbrev main_v308 : Ref sig .tc := ⟨.hbm, 338, rfl⟩
abbrev main_v309 : Ref sig .tc := ⟨.hbm, 339, rfl⟩
abbrev main_v310 : Ref sig .tc := ⟨.hbm, 340, rfl⟩
abbrev main_v311 : Ref sig .tc := ⟨.hbm, 341, rfl⟩
abbrev main_v312 : Ref sig .tc := ⟨.hbm, 342, rfl⟩
abbrev main_v313 : Ref sig .tc := ⟨.hbm, 343, rfl⟩
abbrev main_v314 : Ref sig .tc := ⟨.hbm, 344, rfl⟩
abbrev main_v315 : Ref sig .tc := ⟨.hbm, 345, rfl⟩
abbrev main_v316 : Ref sig .tc := ⟨.hbm, 346, rfl⟩
abbrev main_v317 : Ref sig .tc := ⟨.hbm, 347, rfl⟩
abbrev main_v318 : Ref sig .tc := ⟨.hbm, 348, rfl⟩
abbrev main_v319 : Ref sig .tc := ⟨.hbm, 349, rfl⟩
abbrev main_v320 : Ref sig .tc := ⟨.hbm, 350, rfl⟩
abbrev main_v321 : Ref sig .tc := ⟨.hbm, 351, rfl⟩
abbrev main_v322 : Ref sig .tc := ⟨.hbm, 352, rfl⟩
abbrev main_v323 : Ref sig .tc := ⟨.hbm, 353, rfl⟩
abbrev main_v324 : Ref sig .tc := ⟨.hbm, 354, rfl⟩
abbrev main_v325 : Ref sig .tc := ⟨.hbm, 355, rfl⟩
abbrev main_v326 : Ref sig .tc := ⟨.hbm, 356, rfl⟩
abbrev main_v327 : Ref sig .tc := ⟨.hbm, 357, rfl⟩
abbrev main_v328 : Ref sig .tc := ⟨.hbm, 358, rfl⟩
abbrev main_v329 : Ref sig .tc := ⟨.hbm, 359, rfl⟩
abbrev main_v330 : Ref sig .tc := ⟨.hbm, 360, rfl⟩
abbrev main_v331 : Ref sig .tc := ⟨.hbm, 361, rfl⟩
abbrev main_v332 : Ref sig .tc := ⟨.hbm, 362, rfl⟩
abbrev main_v333 : Ref sig .tc := ⟨.hbm, 363, rfl⟩
abbrev main_v334 : Ref sig .tc := ⟨.hbm, 364, rfl⟩
abbrev main_v335 : Ref sig .tc := ⟨.hbm, 365, rfl⟩
abbrev main_v336 : Ref sig .tc := ⟨.hbm, 366, rfl⟩
abbrev main_v337 : Ref sig .tc := ⟨.hbm, 367, rfl⟩
abbrev main_v338 : Ref sig .tc := ⟨.hbm, 368, rfl⟩
abbrev main_v339 : Ref sig .tc := ⟨.hbm, 369, rfl⟩
abbrev main_v340 : Ref sig .tc := ⟨.hbm, 370, rfl⟩
abbrev main_v341 : Ref sig .tc := ⟨.hbm, 371, rfl⟩
abbrev main_v342 : Ref sig .tc := ⟨.hbm, 372, rfl⟩
abbrev main_v343 : Ref sig .tc := ⟨.hbm, 373, rfl⟩
abbrev main_v344 : Ref sig .tc := ⟨.hbm, 374, rfl⟩
abbrev main_v345 : Ref sig .tc := ⟨.hbm, 375, rfl⟩
abbrev main_v346 : Ref sig .tc := ⟨.hbm, 376, rfl⟩
abbrev main_v347 : Ref sig .tc := ⟨.hbm, 377, rfl⟩
abbrev main_v348 : Ref sig .tc := ⟨.hbm, 378, rfl⟩
abbrev main_v349 : Ref sig .tc := ⟨.hbm, 379, rfl⟩
abbrev main_v350 : Ref sig .tc := ⟨.hbm, 380, rfl⟩
abbrev main_v351 : Ref sig .tc := ⟨.hbm, 381, rfl⟩
abbrev main_v352 : Ref sig .tc := ⟨.hbm, 382, rfl⟩
abbrev main_v353 : Ref sig .tc := ⟨.hbm, 383, rfl⟩
abbrev main_v354 : Ref sig .tc := ⟨.hbm, 384, rfl⟩
abbrev main_v355 : Ref sig .tc := ⟨.hbm, 385, rfl⟩
abbrev main_v356 : Ref sig .tc := ⟨.hbm, 386, rfl⟩
abbrev main_v357 : Ref sig .tc := ⟨.hbm, 387, rfl⟩
abbrev main_v358 : Ref sig .tc := ⟨.hbm, 388, rfl⟩
abbrev main_v359 : Ref sig .tc := ⟨.hbm, 389, rfl⟩
abbrev main_v360 : Ref sig .tc := ⟨.hbm, 390, rfl⟩
abbrev main_v361 : Ref sig .tc := ⟨.hbm, 391, rfl⟩
abbrev main_v362 : Ref sig .tc := ⟨.hbm, 392, rfl⟩
abbrev main_v363 : Ref sig .tc := ⟨.hbm, 393, rfl⟩
abbrev main_v364 : Ref sig .tc := ⟨.hbm, 394, rfl⟩
abbrev main_v365 : Ref sig .tc := ⟨.hbm, 395, rfl⟩
abbrev main_v366 : Ref sig .tc := ⟨.hbm, 396, rfl⟩
abbrev main_v367 : Ref sig .tc := ⟨.hbm, 397, rfl⟩
abbrev main_v368 : Ref sig .tc := ⟨.hbm, 398, rfl⟩
abbrev main_v369 : Ref sig .tc := ⟨.hbm, 399, rfl⟩
abbrev main_v370 : Ref sig .tc := ⟨.hbm, 400, rfl⟩
abbrev main_v371 : Ref sig .tc := ⟨.hbm, 401, rfl⟩
abbrev main_v372 : Ref sig .tc := ⟨.hbm, 402, rfl⟩
abbrev main_v373 : Ref sig .tc := ⟨.hbm, 403, rfl⟩
abbrev main_v374 : Ref sig .tc := ⟨.hbm, 404, rfl⟩
abbrev main_v375 : Ref sig .tc := ⟨.hbm, 405, rfl⟩
abbrev main_v376 : Ref sig .tc := ⟨.hbm, 406, rfl⟩
abbrev main_v377 : Ref sig .tc := ⟨.hbm, 407, rfl⟩
abbrev main_v378 : Ref sig .tc := ⟨.hbm, 408, rfl⟩
abbrev main_v379 : Ref sig .tc := ⟨.hbm, 409, rfl⟩
abbrev main_v380 : Ref sig .tc := ⟨.hbm, 410, rfl⟩
abbrev main_v381 : Ref sig .tc := ⟨.hbm, 411, rfl⟩
abbrev main_v382 : Ref sig .tc := ⟨.hbm, 412, rfl⟩
abbrev main_v383 : Ref sig .tc := ⟨.hbm, 413, rfl⟩
abbrev main_v384 : Ref sig .tc := ⟨.hbm, 414, rfl⟩
abbrev main_v385 : Ref sig .tc := ⟨.hbm, 415, rfl⟩
abbrev main_v386 : Ref sig .tc := ⟨.hbm, 416, rfl⟩
abbrev main_v387 : Ref sig .tc := ⟨.hbm, 417, rfl⟩
abbrev main_v388 : Ref sig .tc := ⟨.hbm, 418, rfl⟩
abbrev main_v389 : Ref sig .tc := ⟨.hbm, 419, rfl⟩
abbrev main_v390 : Ref sig .tc := ⟨.hbm, 420, rfl⟩
abbrev main_v391 : Ref sig .tc := ⟨.hbm, 421, rfl⟩
abbrev main_v392 : Ref sig .tc := ⟨.hbm, 422, rfl⟩
abbrev main_v393 : Ref sig .tc := ⟨.hbm, 423, rfl⟩
abbrev main_v394 : Ref sig .tc := ⟨.hbm, 424, rfl⟩
abbrev main_v395 : Ref sig .tc := ⟨.hbm, 425, rfl⟩
abbrev main_v396 : Ref sig .tc := ⟨.hbm, 426, rfl⟩
abbrev main_v397 : Ref sig .tc := ⟨.hbm, 427, rfl⟩
abbrev main_v398 : Ref sig .tc := ⟨.hbm, 428, rfl⟩
abbrev main_v399 : Ref sig .tc := ⟨.hbm, 429, rfl⟩
abbrev main_cst_20 : Ref sig .tc := ⟨.hbm, 430, rfl⟩
abbrev main_v400 : Ref sig .tc := ⟨.hbm, 431, rfl⟩
abbrev main_v401 : Ref sig .tc := ⟨.hbm, 432, rfl⟩
abbrev main_cst_21 : Ref sig .tc := ⟨.hbm, 433, rfl⟩
abbrev main_v402 : Ref sig .tc := ⟨.hbm, 434, rfl⟩
abbrev main_v403 : Ref sig .tc := ⟨.hbm, 435, rfl⟩
abbrev main_cst_22 : Ref sig .tc := ⟨.hbm, 436, rfl⟩
abbrev main_v404 : Ref sig .tc := ⟨.hbm, 437, rfl⟩
abbrev main_v405 : Ref sig .tc := ⟨.hbm, 438, rfl⟩
abbrev main_v406 : Ref sig .tc := ⟨.hbm, 439, rfl⟩
abbrev main_v407 : Ref sig .tc := ⟨.hbm, 440, rfl⟩
abbrev main_v408 : Ref sig .tc := ⟨.hbm, 441, rfl⟩
abbrev main_v409 : Ref sig .tc := ⟨.hbm, 442, rfl⟩
abbrev main_v410 : Ref sig .tc := ⟨.hbm, 443, rfl⟩
abbrev main_v411 : Ref sig .tc := ⟨.hbm, 444, rfl⟩
abbrev main_v412 : Ref sig .tc := ⟨.hbm, 445, rfl⟩
abbrev main_call2_v0 : Ref sig .tc := ⟨.hbm, 446, rfl⟩
abbrev main_call2_v1 : Ref sig .tc := ⟨.hbm, 447, rfl⟩
abbrev main_call2_cst : Ref sig .tc := ⟨.hbm, 448, rfl⟩
abbrev main_call2_v2 : Ref sig .tc := ⟨.hbm, 449, rfl⟩
abbrev main_call2_v3 : Ref sig .tc := ⟨.hbm, 450, rfl⟩
abbrev main_call2_cst_0 : Ref sig .tc := ⟨.hbm, 451, rfl⟩
abbrev main_call2_v4 : Ref sig .tc := ⟨.hbm, 452, rfl⟩
abbrev main_call2_v5 : Ref sig .tc := ⟨.hbm, 453, rfl⟩
abbrev main_v413 : Ref sig .tc := ⟨.hbm, 454, rfl⟩
abbrev main_v414 : Ref sig .tc := ⟨.hbm, 455, rfl⟩
abbrev main_v415 : Ref sig .tc := ⟨.hbm, 456, rfl⟩
abbrev main_cst_23 : Ref sig .tc := ⟨.hbm, 457, rfl⟩
abbrev main_v416 : Ref sig .tc := ⟨.hbm, 458, rfl⟩
abbrev main_v417 : Ref sig .tc := ⟨.hbm, 459, rfl⟩
abbrev main_v418 : Ref sig .tc := ⟨.hbm, 460, rfl⟩

abbrev nD : Nat := 1
abbrev τ : Topo := Topo.v7x

variable {F : FTy → Type} [FloatOps F]
-- ==== Up.lean ====
abbrev S16384x4096 : Shape := ⟨2, ![16384, 4096]⟩
abbrev S4096 : Shape := ⟨1, ![4096]⟩
abbrev S4096x16384 : Shape := ⟨2, ![4096, 16384]⟩
abbrev S1x4096 : Shape := ⟨2, ![1, 4096]⟩
abbrev S16384x16384 : Shape := ⟨2, ![16384, 16384]⟩
abbrev S512x4096 : Shape := ⟨2, ![512, 4096]⟩
abbrev S4096x512 : Shape := ⟨2, ![4096, 512]⟩
abbrev S512x512 : Shape := ⟨2, ![512, 512]⟩
abbrev S16x4096 : Shape := ⟨2, ![16, 4096]⟩
abbrev S16 : Shape := ⟨1, ![16]⟩
abbrev S16x1 : Shape := ⟨2, ![16, 1]⟩

abbrev nBuf : Space → Nat
  | .hbm => 5
  | .vmem => 8
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096x16384, .bf16⟩
  | .hbm, ⟨3, _⟩ => ⟨S1x4096, .f32⟩
  | .hbm, ⟨4, _⟩ => ⟨S16384x16384, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S4096x512, .bf16⟩
  | .local _ .vmem, ⟨4, _⟩ => ⟨S4096x512, .bf16⟩
  | .local _ .vmem, ⟨5, _⟩ => ⟨S512x512, .bf16⟩
  | .local _ .vmem, ⟨6, _⟩ => ⟨S512x512, .bf16⟩
  | .local _ .vmem, ⟨7, _⟩ => ⟨S512x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 32], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_9 : BitVec 32 := 0#32
  let c32_i32 : BitVec 32 := 32#32
  let v13 : BitVec 32 := Scalar.addi c0_i32_9 c32_i32
  let c1_i32 : BitVec 32 := 1#32
  ⟨c0_i32_9, v13, c1_i32⟩
def k0_mult1 (k0_t1 : Fin k0_t1_loop.trips) : BitVec 32 :=
  let c0_i32_9 : BitVec 32 := 0#32
  let c1_i32 : BitVec 32 := 1#32
  let arg7 : BitVec 32 := Scf.iv c0_i32_9 c1_i32 k0_t1
  let c16_i32 : BitVec 32 := 16#32
  let v14 : BitVec 32 := Scalar.muli arg7 c16_i32
  v14
def k0_off1 (k0_t1 : Fin k0_t1_loop.trips) : Fin 2 → Nat :=
  let c0_i32_9 : BitVec 32 := 0#32
  let c1_i32 : BitVec 32 := 1#32
  let arg7 : BitVec 32 := Scf.iv c0_i32_9 c1_i32 k0_t1
  let c16_i32 : BitVec 32 := 16#32
  let v14 : BitVec 32 := Scalar.muli arg7 c16_i32
  let v15 : BitVec 32 := v14
  let v16 : Index := Scalar.indexCast v15
  let c0_11 : Index := 0#32
  ![v16.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== UpRefIdeal.lean ====
abbrev S16384x4096 : Shape := ⟨2, ![16384, 4096]⟩
abbrev S4096 : Shape := ⟨1, ![4096]⟩
abbrev S4096x16384 : Shape := ⟨2, ![4096, 16384]⟩
abbrev S_ : Shape := ⟨0, ![]⟩
abbrev S16384 : Shape := ⟨1, ![16384]⟩
abbrev S16384x1 : Shape := ⟨2, ![16384, 1]⟩
abbrev S1x4096 : Shape := ⟨2, ![1, 4096]⟩
abbrev S16384x16384 : Shape := ⟨2, ![16384, 16384]⟩

abbrev nBuf : Space → Nat
  | .hbm => 26
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096x16384, .bf16⟩
  | .hbm, ⟨3, _⟩ => ⟨S16384x4096, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x4096, .f32⟩
  | .hbm, ⟨15, _⟩ => ⟨S16384x4096, .f32⟩
  | .hbm, ⟨16, _⟩ => ⟨S1x4096, .f32⟩
  | .hbm, ⟨17, _⟩ => ⟨S16384x4096, .f32⟩
  | .hbm, ⟨18, _⟩ => ⟨S16384x4096, .f32⟩
  | .hbm, ⟨19, _⟩ => ⟨S4096x16384, .f32⟩
  | .hbm, ⟨20, _⟩ => ⟨S16384x16384, .f32⟩
  | .hbm, ⟨21, _⟩ => ⟨S_, .f32⟩
  | .hbm, ⟨22, _⟩ => ⟨S16384x16384, .f32⟩
  | .hbm, ⟨23, _⟩ => ⟨S16384x16384, .f32⟩
  | .hbm, ⟨24, _⟩ => ⟨S16384x16384, .f32⟩
  | .hbm, ⟨25, _⟩ => ⟨S16384x16384, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Inp.lean ====
abbrev S16384x4096 : Shape := ⟨2, ![16384, 4096]⟩
abbrev S4096 : Shape := ⟨1, ![4096]⟩
abbrev S4096x12288 : Shape := ⟨2, ![4096, 12288]⟩
abbrev S1x4096 : Shape := ⟨2, ![1, 4096]⟩
abbrev S16384x12288 : Shape := ⟨2, ![16384, 12288]⟩
abbrev S512x4096 : Shape := ⟨2, ![512, 4096]⟩
abbrev S4096x512 : Shape := ⟨2, ![4096, 512]⟩
abbrev S512x512 : Shape := ⟨2, ![512, 512]⟩
abbrev S16x4096 : Shape := ⟨2, ![16, 4096]⟩
abbrev S16 : Shape := ⟨1, ![16]⟩
abbrev S16x1 : Shape := ⟨2, ![16, 1]⟩

abbrev nBuf : Space → Nat
  | .hbm => 5
  | .vmem => 8
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096x12288, .bf16⟩
  | .hbm, ⟨3, _⟩ => ⟨S1x4096, .f32⟩
  | .hbm, ⟨4, _⟩ => ⟨S16384x12288, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S4096x512, .bf16⟩
  | .local _ .vmem, ⟨4, _⟩ => ⟨S4096x512, .bf16⟩
  | .local _ .vmem, ⟨5, _⟩ => ⟨S512x512, .bf16⟩
  | .local _ .vmem, ⟨6, _⟩ => ⟨S512x512, .bf16⟩
  | .local _ .vmem, ⟨7, _⟩ => ⟨S512x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 24], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_8 : BitVec 32 := 0#32
  let c32_i32 : BitVec 32 := 32#32
  let v10 : BitVec 32 := Scalar.addi c0_i32_8 c32_i32
  let c1_i32 : BitVec 32 := 1#32
  ⟨c0_i32_8, v10, c1_i32⟩
def k0_mult1 (k0_t1 : Fin k0_t1_loop.trips) : BitVec 32 :=
  let c0_i32_8 : BitVec 32 := 0#32
  let c1_i32 : BitVec 32 := 1#32
  let arg7 : BitVec 32 := Scf.iv c0_i32_8 c1_i32 k0_t1
  let c16_i32 : BitVec 32 := 16#32
  let v11 : BitVec 32 := Scalar.muli arg7 c16_i32
  v11
def k0_off1 (k0_t1 : Fin k0_t1_loop.trips) : Fin 2 → Nat :=
  let c0_i32_8 : BitVec 32 := 0#32
  let c1_i32 : BitVec 32 := 1#32
  let arg7 : BitVec 32 := Scf.iv c0_i32_8 c1_i32 k0_t1
  let c16_i32 : BitVec 32 := 16#32
  let v11 : BitVec 32 := Scalar.muli arg7 c16_i32
  let v12 : BitVec 32 := v11
  let v13 : Index := Scalar.indexCast v12
  let c0_10 : Index := 0#32
  ![v13.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InpRefIdeal.lean ====
abbrev S16384x4096 : Shape := ⟨2, ![16384, 4096]⟩
abbrev S4096 : Shape := ⟨1, ![4096]⟩
abbrev S4096x12288 : Shape := ⟨2, ![4096, 12288]⟩
abbrev S_ : Shape := ⟨0, ![]⟩
abbrev S16384 : Shape := ⟨1, ![16384]⟩
abbrev S16384x1 : Shape := ⟨2, ![16384, 1]⟩
abbrev S1x4096 : Shape := ⟨2, ![1, 4096]⟩
abbrev S16384x12288 : Shape := ⟨2, ![16384, 12288]⟩

abbrev nBuf : Space → Nat
  | .hbm => 22
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096x12288, .bf16⟩
  | .hbm, ⟨3, _⟩ => ⟨S16384x4096, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x4096, .f32⟩
  | .hbm, ⟨15, _⟩ => ⟨S16384x4096, .f32⟩
  | .hbm, ⟨16, _⟩ => ⟨S1x4096, .f32⟩
  | .hbm, ⟨17, _⟩ => ⟨S16384x4096, .f32⟩
  | .hbm, ⟨18, _⟩ => ⟨S16384x4096, .f32⟩
  | .hbm, ⟨19, _⟩ => ⟨S4096x12288, .f32⟩
  | .hbm, ⟨20, _⟩ => ⟨S16384x12288, .f32⟩
  | .hbm, ⟨21, _⟩ => ⟨S16384x12288, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Down.lean ====
abbrev S16384x16384 : Shape := ⟨2, ![16384, 16384]⟩
abbrev S16384x4096 : Shape := ⟨2, ![16384, 4096]⟩
abbrev S4096 : Shape := ⟨1, ![4096]⟩
abbrev S1x4096 : Shape := ⟨2, ![1, 4096]⟩
abbrev S512x512 : Shape := ⟨2, ![512, 512]⟩
abbrev S512x4096 : Shape := ⟨2, ![512, 4096]⟩
abbrev S16x4096 : Shape := ⟨2, ![16, 4096]⟩
abbrev S16 : Shape := ⟨1, ![16]⟩
abbrev S16x1 : Shape := ⟨2, ![16, 1]⟩

abbrev nBuf : Space → Nat
  | .hbm => 6
  | .vmem => 10
  | .smem => 0
  | _ => 0

abbrev bufTy : (tb : Table) → Fin (tcTables nBuf tb) → BufTy
  | .hbm, ⟨0, _⟩ => ⟨S16384x16384, .bf16⟩
  | .hbm, ⟨1, _⟩ => ⟨S16384x4096, .bf16⟩
  | .hbm, ⟨2, _⟩ => ⟨S16384x4096, .f32⟩
  | .hbm, ⟨3, _⟩ => ⟨S4096, .f32⟩
  | .hbm, ⟨4, _⟩ => ⟨S1x4096, .f32⟩
  | .hbm, ⟨5, _⟩ => ⟨S16384x4096, .f32⟩
  | .local _ .vmem, ⟨0, _⟩ => ⟨S512x512, .bf16⟩
  | .local _ .vmem, ⟨1, _⟩ => ⟨S512x512, .bf16⟩
  | .local _ .vmem, ⟨2, _⟩ => ⟨S512x4096, .bf16⟩
  | .local _ .vmem, ⟨3, _⟩ => ⟨S512x4096, .bf16⟩
  | .local _ .vmem, ⟨4, _⟩ => ⟨S512x4096, .f32⟩
  | .local _ .vmem, ⟨5, _⟩ => ⟨S512x4096, .f32⟩
  | .local _ .vmem, ⟨6, _⟩ => ⟨S1x4096, .f32⟩
  | .local _ .vmem, ⟨7, _⟩ => ⟨S512x4096, .f32⟩
  | .local _ .vmem, ⟨8, _⟩ => ⟨S512x4096, .f32⟩
  | .local _ .vmem, ⟨9, _⟩ => ⟨S512x4096, .f32⟩
  | _, _ => ⟨S16384x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 32], ![false, false]⟩

def k0_cond3 (i : grid0.Coords) : BitVec 1 :=
  let arg1 : BitVec 32 := BitVec.ofNat 32 (i 1).val
  let c31_i32 : BitVec 32 := 31#32
  let v9 : BitVec 1 := Scalar.cmpi .eq arg1 c31_i32
  let v10 : BitVec 32 := Scalar.extui v9
  let c0_i32_6 : BitVec 32 := 0#32
  let v11 : BitVec 1 := Scalar.cmpi .ne v10 c0_i32_6
  v11

@[reducible] def k0_t1_loop : Scf.Loop 32 :=
  let c0_i32_9 : BitVec 32 := 0#32
  let c32_i32 : BitVec 32 := 32#32
  let v14 : BitVec 32 := Scalar.addi c0_i32_9 c32_i32
  let c1_i32 : BitVec 32 := 1#32
  ⟨c0_i32_9, v14, c1_i32⟩
def k0_mult1 (k0_t1 : Fin k0_t1_loop.trips) : BitVec 32 :=
  let c0_i32_9 : BitVec 32 := 0#32
  let c1_i32 : BitVec 32 := 1#32
  let arg8 : BitVec 32 := Scf.iv c0_i32_9 c1_i32 k0_t1
  let c16_i32 : BitVec 32 := 16#32
  let v15 : BitVec 32 := Scalar.muli arg8 c16_i32
  v15
def k0_off1 (k0_t1 : Fin k0_t1_loop.trips) : Fin 2 → Nat :=
  let c0_i32_9 : BitVec 32 := 0#32
  let c1_i32 : BitVec 32 := 1#32
  let arg8 : BitVec 32 := Scf.iv c0_i32_9 c1_i32 k0_t1
  let c16_i32 : BitVec 32 := 16#32
  let v15 : BitVec 32 := Scalar.muli arg8 c16_i32
  let v16 : BitVec 32 := v15
  let v17 : Index := Scalar.indexCast v16
  let c0_11 : Index := 0#32
  ![v17.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== DownRefIdeal.lean ====
abbrev S16384x16384 : Shape := ⟨2, ![16384, 16384]⟩
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 24
  | .vmem => 0
  | .smem => 0
  | _ => 0

abbrev bufTy : (tb : Table) → Fin (tcTables nBuf tb) → BufTy
  | .hbm, ⟨0, _⟩ => ⟨S16384x16384, .bf16⟩
  | .hbm, ⟨1, _⟩ => ⟨S16384x4096, .bf16⟩
  | .hbm, ⟨2, _⟩ => ⟨S16384x4096, .f32⟩
  | .hbm, ⟨3, _⟩ => ⟨S4096, .f32⟩
  | .hbm, ⟨4, _⟩ => ⟨S16384x16384, .f32⟩
  | .hbm, ⟨5, _⟩ => ⟨S16384x4096, .f32⟩
  | .hbm, ⟨6, _⟩ => ⟨S16384x4096, .f32⟩
  | .hbm, ⟨7, _⟩ => ⟨S16384x4096, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x4096, .f32⟩
  | .hbm, ⟨19, _⟩ => ⟨S16384x4096, .f32⟩
  | .hbm, ⟨20, _⟩ => ⟨S1x4096, .f32⟩
  | .hbm, ⟨21, _⟩ => ⟨S16384x4096, .f32⟩
  | .hbm, ⟨22, _⟩ => ⟨S16384x4096, .f32⟩
  | .hbm, ⟨23, _⟩ => ⟨S16384x4096, .f32⟩
  | _, _ => ⟨S16384x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Outp.lean ====
abbrev S16384x4096 : Shape := ⟨2, ![16384, 4096]⟩
abbrev S4096x4096 : Shape := ⟨2, ![4096, 4096]⟩
abbrev S4096 : Shape := ⟨1, ![4096]⟩
abbrev S1x4096 : Shape := ⟨2, ![1, 4096]⟩
abbrev S512x512 : Shape := ⟨2, ![512, 512]⟩
abbrev S512x4096 : Shape := ⟨2, ![512, 4096]⟩
abbrev S16x4096 : Shape := ⟨2, ![16, 4096]⟩
abbrev S16 : Shape := ⟨1, ![16]⟩
abbrev S16x1 : Shape := ⟨2, ![16, 1]⟩

abbrev nBuf : Space → Nat
  | .hbm => 6
  | .vmem => 10
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .bf16⟩
  | .hbm, ⟨2, _⟩ => ⟨S16384x4096, .f32⟩
  | .hbm, ⟨3, _⟩ => ⟨S4096, .f32⟩
  | .hbm, ⟨4, _⟩ => ⟨S1x4096, .f32⟩
  | .hbm, ⟨5, _⟩ => ⟨S16384x4096, .f32⟩
  | .local _ .vmem, ⟨0, _⟩ => ⟨S512x512, .bf16⟩
  | .local _ .vmem, ⟨1, _⟩ => ⟨S512x512, .bf16⟩
  | .local _ .vmem, ⟨2, _⟩ => ⟨S512x4096, .bf16⟩
  | .local _ .vmem, ⟨3, _⟩ => ⟨S512x4096, .bf16⟩
  | .local _ .vmem, ⟨4, _⟩ => ⟨S512x4096, .f32⟩
  | .local _ .vmem, ⟨5, _⟩ => ⟨S512x4096, .f32⟩
  | .local _ .vmem, ⟨6, _⟩ => ⟨S1x4096, .f32⟩
  | .local _ .vmem, ⟨7, _⟩ => ⟨S512x4096, .f32⟩
  | .local _ .vmem, ⟨8, _⟩ => ⟨S512x4096, .f32⟩
  | .local _ .vmem, ⟨9, _⟩ => ⟨S512x4096, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 8], ![false, false]⟩

def k0_cond3 (i : grid0.Coords) : BitVec 1 :=
  let arg1 : BitVec 32 := BitVec.ofNat 32 (i 1).val
  let c7_i32 : BitVec 32 := 7#32
  let v9 : BitVec 1 := Scalar.cmpi .eq arg1 c7_i32
  let v10 : BitVec 32 := Scalar.extui v9
  let c0_i32_6 : BitVec 32 := 0#32
  let v11 : BitVec 1 := Scalar.cmpi .ne v10 c0_i32_6
  v11

@[reducible] def k0_t1_loop : Scf.Loop 32 :=
  let c0_i32_9 : BitVec 32 := 0#32
  let c32_i32 : BitVec 32 := 32#32
  let v14 : BitVec 32 := Scalar.addi c0_i32_9 c32_i32
  let c1_i32 : BitVec 32 := 1#32
  ⟨c0_i32_9, v14, c1_i32⟩
def k0_mult1 (k0_t1 : Fin k0_t1_loop.trips) : BitVec 32 :=
  let c0_i32_9 : BitVec 32 := 0#32
  let c1_i32 : BitVec 32 := 1#32
  let arg8 : BitVec 32 := Scf.iv c0_i32_9 c1_i32 k0_t1
  let c16_i32 : BitVec 32 := 16#32
  let v15 : BitVec 32 := Scalar.muli arg8 c16_i32
  v15
def k0_off1 (k0_t1 : Fin k0_t1_loop.trips) : Fin 2 → Nat :=
  let c0_i32_9 : BitVec 32 := 0#32
  let c1_i32 : BitVec 32 := 1#32
  let arg8 : BitVec 32 := Scf.iv c0_i32_9 c1_i32 k0_t1
  let c16_i32 : BitVec 32 := 16#32
  let v15 : BitVec 32 := Scalar.muli arg8 c16_i32
  let v16 : BitVec 32 := v15
  let v17 : Index := Scalar.indexCast v16
  let c0_11 : Index := 0#32
  ![v17.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== OutpRefIdeal.lean ====
abbrev S16384x4096 : Shape := ⟨2, ![16384, 4096]⟩
abbrev S4096x4096 : Shape := ⟨2, ![4096, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 24
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .bf16⟩
  | .hbm, ⟨2, _⟩ => ⟨S16384x4096, .f32⟩
  | .hbm, ⟨3, _⟩ => ⟨S4096, .f32⟩
  | .hbm, ⟨4, _⟩ => ⟨S16384x4096, .f32⟩
  | .hbm, ⟨5, _⟩ => ⟨S4096x4096, .f32⟩
  | .hbm, ⟨6, _⟩ => ⟨S16384x4096, .f32⟩
  | .hbm, ⟨7, _⟩ => ⟨S16384x4096, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x4096, .f32⟩
  | .hbm, ⟨19, _⟩ => ⟨S16384x4096, .f32⟩
  | .hbm, ⟨20, _⟩ => ⟨S1x4096, .f32⟩
  | .hbm, ⟨21, _⟩ => ⟨S16384x4096, .f32⟩
  | .hbm, ⟨22, _⟩ => ⟨S16384x4096, .f32⟩
  | .hbm, ⟨23, _⟩ => ⟨S16384x4096, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Att.lean ====
abbrev S8x2048x12288 : Shape := ⟨3, ![8, 2048, 12288]⟩
abbrev S32x16 : Shape := ⟨2, ![32, 16]⟩
abbrev S8x2048x4096 : Shape := ⟨3, ![8, 2048, 4096]⟩
abbrev S_ : Shape := ⟨0, ![]⟩
abbrev S3x3x128x256 : Shape := ⟨4, ![3, 3, 128, 256]⟩
abbrev S16x32 : Shape := ⟨2, ![16, 32]⟩
abbrev S3x3x128x256x1 : Shape := ⟨5, ![3, 3, 128, 256, 1]⟩
abbrev S16x3x3x128x256 : Shape := ⟨5, ![16, 3, 3, 128, 256]⟩
abbrev S1x3x3x128x256 : Shape := ⟨5, ![1, 3, 3, 128, 256]⟩
abbrev S1x2048x128 : Shape := ⟨3, ![1, 2048, 128]⟩
abbrev S2048x128 : Shape := ⟨2, ![2048, 128]⟩
abbrev S3x2048x128 : Shape := ⟨3, ![3, 2048, 128]⟩
abbrev S1x128x128 : Shape := ⟨3, ![1, 128, 128]⟩
abbrev S128x128 : Shape := ⟨2, ![128, 128]⟩
abbrev S1x256x128 : Shape := ⟨3, ![1, 256, 128]⟩
abbrev S256x128 : Shape := ⟨2, ![256, 128]⟩
abbrev S128x256 : Shape := ⟨2, ![128, 256]⟩
abbrev S1x1x1x128x256 : Shape := ⟨5, ![1, 1, 1, 128, 256]⟩
abbrev S128 : Shape := ⟨1, ![128]⟩
abbrev S128x1 : Shape := ⟨2, ![128, 1]⟩
abbrev S1x1x1x128x128 : Shape := ⟨5, ![1, 1, 1, 128, 128]⟩

abbrev nBuf : Space → Nat
  | .hbm => 76
  | .vmem => 22
  | .smem => 0
  | _ => 0

abbrev bufTy : (tb : Table) → Fin (tcTables nBuf tb) → BufTy
  | .hbm, ⟨0, _⟩ => ⟨S8x2048x12288, .bf16⟩
  | .hbm, ⟨1, _⟩ => ⟨S32x16, .f32⟩
  | .hbm, ⟨2, _⟩ => ⟨S8x2048x4096, .bf16⟩
  | .hbm, ⟨3, _⟩ => ⟨S_, .i32⟩
  | .hbm, ⟨4, _⟩ => ⟨S3x3x128x256, .i32⟩
  | .hbm, ⟨5, _⟩ => ⟨S3x3x128x256, .i32⟩
  | .hbm, ⟨6, _⟩ => ⟨S_, .i32⟩
  | .hbm, ⟨7, _⟩ => ⟨S3x3x128x256, .i32⟩
  | .hbm, ⟨8, _⟩ => ⟨S3x3x128x256, .i32⟩
  | .hbm, ⟨9, _⟩ => ⟨S3x3x128x256, .i32⟩
  | .hbm, ⟨10, _⟩ => ⟨S3x3x128x256, .i32⟩
  | .hbm, ⟨11, _⟩ => ⟨S_, .i32⟩
  | .hbm, ⟨12, _⟩ => ⟨S3x3x128x256, .i32⟩
  | .hbm, ⟨13, _⟩ => ⟨S3x3x128x256, .i32⟩
  | .hbm, ⟨14, _⟩ => ⟨S3x3x128x256, .i32⟩
  | .hbm, ⟨15, _⟩ => ⟨S3x3x128x256, .i32⟩
  | .hbm, ⟨16, _⟩ => ⟨S3x3x128x256, .i32⟩
  | .hbm, ⟨17, _⟩ => ⟨S3x3x128x256, .i32⟩
  | .hbm, ⟨18, _⟩ => ⟨S3x3x128x256, .i32⟩
  | .hbm, ⟨19, _⟩ => ⟨S3x3x128x256, .i32⟩
  | .hbm, ⟨20, _⟩ => ⟨S_, .i32⟩
  | .hbm, ⟨21, _⟩ => ⟨S3x3x128x256, .i32⟩
  | .hbm, ⟨22, _⟩ => ⟨S3x3x128x256, .i32⟩
  | .hbm, ⟨23, _⟩ => ⟨S3x3x128x256, .f32⟩
  | .hbm, ⟨24, _⟩ => ⟨S_, .f32⟩
  | .hbm, ⟨25, _⟩ => ⟨S3x3x128x256, .f32⟩
  | .hbm, ⟨26, _⟩ => ⟨S3x3x128x256, .f32⟩
  | .hbm, ⟨27, _⟩ => ⟨S3x3x128x256, .f32⟩
  | .hbm, ⟨28, _⟩ => ⟨S_, .f32⟩
  | .hbm, ⟨29, _⟩ => ⟨S3x3x128x256, .f32⟩
  | .hbm, ⟨30, _⟩ => ⟨S3x3x128x256, .f32⟩
  | .hbm, ⟨31, _⟩ => ⟨S_, .f32⟩
  | .hbm, ⟨32, _⟩ => ⟨S3x3x128x256, .f32⟩
  | .hbm, ⟨33, _⟩ => ⟨S3x3x128x256, .f32⟩
  | .hbm, ⟨34, _⟩ => ⟨S3x3x128x256, .i32⟩
  | .hbm, ⟨35, _⟩ => ⟨S_, .i32⟩
  | .hbm, ⟨36, _⟩ => ⟨S3x3x128x256, .i32⟩
  | .hbm, ⟨37, _⟩ => ⟨S3x3x128x256, .i32⟩
  | .hbm, ⟨38, _⟩ => ⟨S_, .i32⟩
  | .hbm, ⟨39, _⟩ => ⟨S3x3x128x256, .i32⟩
  | .hbm, ⟨40, _⟩ => ⟨S3x3x128x256, .i32⟩
  | .hbm, ⟨41, _⟩ => ⟨S_, .i32⟩
  | .hbm, ⟨42, _⟩ => ⟨S3x3x128x256, .i32⟩
  | .hbm, ⟨43, _⟩ => ⟨S3x3x128x256, .i1⟩
  | .hbm, ⟨44, _⟩ => ⟨S_, .i32⟩
  | .hbm, ⟨45, _⟩ => ⟨S_, .i32⟩
  | .hbm, ⟨46, _⟩ => ⟨S3x3x128x256, .i32⟩
  | .hbm, ⟨47, _⟩ => ⟨S3x3x128x256, .i32⟩
  | .hbm, ⟨48, _⟩ => ⟨S3x3x128x256, .i32⟩
  | .hbm, ⟨49, _⟩ => ⟨S_, .i32⟩
  | .hbm, ⟨50, _⟩ => ⟨S3x3x128x256, .i32⟩
  | .hbm, ⟨51, _⟩ => ⟨S3x3x128x256, .i1⟩
  | .hbm, ⟨52, _⟩ => ⟨S3x3x128x256, .i32⟩
  | .hbm, ⟨53, _⟩ => ⟨S3x3x128x256, .i32⟩
  | .hbm, ⟨54, _⟩ => ⟨S3x3x128x256, .i32⟩
  | .hbm, ⟨55, _⟩ => ⟨S3x3x128x256, .i32⟩
  | .hbm, ⟨56, _⟩ => ⟨S_, .i32⟩
  | .hbm, ⟨57, _⟩ => ⟨S3x3x128x256, .i32⟩
  | .hbm, ⟨58, _⟩ => ⟨S3x3x128x256, .i1⟩
  | .hbm, ⟨59, _⟩ => ⟨S16x32, .f32⟩
  | .hbm, ⟨60, _⟩ => ⟨S_, .i32⟩
  | .hbm, ⟨61, _⟩ => ⟨S3x3x128x256, .i32⟩
  | .hbm, ⟨62, _⟩ => ⟨S3x3x128x256, .i1⟩
  | .hbm, ⟨63, _⟩ => ⟨S_, .i32⟩
  | .hbm, ⟨64, _⟩ => ⟨S3x3x128x256, .i32⟩
  | .hbm, ⟨65, _⟩ => ⟨S3x3x128x256, .i32⟩
  | .hbm, ⟨66, _⟩ => ⟨S3x3x128x256, .i32⟩
  | .hbm, ⟨67, _⟩ => ⟨S3x3x128x256x1, .i32⟩
  | .hbm, ⟨68, _⟩ => ⟨S16x3x3x128x256, .f32⟩
  | .hbm, ⟨69, _⟩ => ⟨S1x3x3x128x256, .i1⟩
  | .hbm, ⟨70, _⟩ => ⟨S_, .f32⟩
  | .hbm, ⟨71, _⟩ => ⟨S_, .f32⟩
  | .hbm, ⟨72, _⟩ => ⟨S16x3x3x128x256, .i1⟩
  | .hbm, ⟨73, _⟩ => ⟨S16x3x3x128x256, .f32⟩
  | .hbm, ⟨74, _⟩ => ⟨S16x3x3x128x256, .f32⟩
  | .hbm, ⟨75, _⟩ => ⟨S8x2048x4096, .bf16⟩
  | .local _ .vmem, ⟨0, _⟩ => ⟨S1x2048x128, .bf16⟩
  | .local _ .vmem, ⟨1, _⟩ => ⟨S1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x3x3x128x256, .f32⟩
  | .local _ .vmem, ⟨7, _⟩ => ⟨S1x3x3x128x256, .f32⟩
  | .local _ .vmem, ⟨8, _⟩ => ⟨S1x2048x128, .bf16⟩
  | .local _ .vmem, ⟨9, _⟩ => ⟨S1x2048x128, .bf16⟩
  | .local _ .vmem, ⟨10, _⟩ => ⟨S2048x128, .f32⟩
  | .local _ .vmem, ⟨11, _⟩ => ⟨S2048x128, .bf16⟩
  | .local _ .vmem, ⟨12, _⟩ => ⟨S2048x128, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | .local _ .vmem, ⟨16, _⟩ => ⟨S2048x128, .bf16⟩
  | .local _ .vmem, ⟨17, _⟩ => ⟨S2048x128, .bf16⟩
  | .local _ .vmem, ⟨18, _⟩ => ⟨S3x2048x128, .f32⟩
  | .local _ .vmem, ⟨19, _⟩ => ⟨S3x2048x128, .f32⟩
  | .local _ .vmem, ⟨20, _⟩ => ⟨S2048x128, .f32⟩
  | .local _ .vmem, ⟨21, _⟩ => ⟨S2048x128, .f32⟩
  | _, _ => ⟨S8x2048x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c_5 : Ref sig .tc := ⟨.hbm, 35, rfl⟩
abbrev main_v25 : Ref sig .tc := ⟨.hbm, 36, rfl⟩
abbrev main_v26 : Ref sig .tc := ⟨.hbm, 37, rfl⟩
abbrev main_c_6 : Ref sig .tc := ⟨.hbm, 38, rfl⟩
abbrev main_v27 : Ref sig .tc := ⟨.hbm, 39, rfl⟩
abbrev main_v28 : Ref sig .tc := ⟨.hbm, 40, rfl⟩
abbrev main_c_7 : Ref sig .tc := ⟨.hbm, 41, rfl⟩
abbrev main_v29 : Ref sig .tc := ⟨.hbm, 42, rfl⟩
abbrev main_v30 : Ref sig .tc := ⟨.hbm, 43, rfl⟩
abbrev main_c_8 : Ref sig .tc := ⟨.hbm, 44, rfl⟩
abbrev main_c_9 : Ref sig .tc := ⟨.hbm, 45, rfl⟩
abbrev main_call0_v0 : Ref sig .tc := ⟨.hbm, 46, rfl⟩
abbrev main_call0_v1 : Ref sig .tc := ⟨.hbm, 47, rfl⟩
abbrev main_v31 : Ref sig .tc := ⟨.hbm, 48, rfl⟩
abbrev main_c_10 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_c_11 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_c_12 : Ref sig .tc := ⟨.hbm, 60, rfl⟩
abbrev main_v41 : Ref sig .tc := ⟨.hbm, 61, rfl⟩
abbrev main_v42 : Ref sig .tc := ⟨.hbm, 62, rfl⟩
abbrev main_c_13 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_14 : Ref sig .tc := ⟨.hbm, 70, rfl⟩
abbrev main_call2_v0 : Ref sig .tc := ⟨.hbm, 71, rfl⟩
abbrev main_call2_v1 : Ref sig .tc := ⟨.hbm, 72, rfl⟩
abbrev main_call2_v2 : Ref sig .tc := ⟨.hbm, 73, rfl⟩
abbrev main_v49 : Ref sig .tc := ⟨.hbm, 74, rfl⟩
abbrev main_v50 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_scratch7 : Ref sig .tc := ⟨.vmem, 17, rfl⟩
abbrev cc0_scratch8 : Ref sig .tc := ⟨.vmem, 18, rfl⟩
abbrev cc0_scratch9 : Ref sig .tc := ⟨.vmem, 19, rfl⟩
abbrev cc0_scratch10 : Ref sig .tc := ⟨.vmem, 20, rfl⟩
abbrev cc0_scratch11 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 16], ![false, false]⟩

@[reducible] def k0_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg20 : BitVec 32 := Scf.iv c0_i32 c1_i32 k0_t1
  let c128_i32 : BitVec 32 := 128#32
  let v744 : BitVec 32 := Scalar.muli arg20 c128_i32
  v744
def k0_off1 (k0_t1 : Fin k0_t1_loop.trips) : Fin 3 → Nat :=
  let c0_695 : Index := 0#32
  let c0_i32 : BitVec 32 := 0#32
  let c1_i32 : BitVec 32 := 1#32
  let arg20 : BitVec 32 := Scf.iv c0_i32 c1_i32 k0_t1
  let c128_i32 : BitVec 32 := 128#32
  let v744 : BitVec 32 := Scalar.muli arg20 c128_i32
  let v745 : BitVec 32 := v744
  let v746 : Index := Scalar.indexCast v745
  let c0_696 : Index := 0#32
  ![0, v746.toNat, 0]
def k0_off2 (k0_t1 : Fin k0_t1_loop.trips) : Fin 2 → Nat :=
  let c0_i32 : BitVec 32 := 0#32
  let c1_i32 : BitVec 32 := 1#32
  let arg20 : BitVec 32 := Scf.iv c0_i32 c1_i32 k0_t1
  let c128_i32 : BitVec 32 := 128#32
  let v744 : BitVec 32 := Scalar.muli arg20 c128_i32
  let v745 : BitVec 32 := v744
  let v752 : Index := Scalar.indexCast v745
  let c0_697 : Index := 0#32
  ![v752.toNat, 0]
@[reducible] def k0_t2_loop : Scf.Loop 32 :=
  let c0_i32_1 : BitVec 32 := 0#32
  let c16_i32_2 : BitVec 32 := 16#32
  let v1 : BitVec 32 := Scalar.addi c0_i32_1 c16_i32_2
  let c1_i32_3 : BitVec 32 := 1#32
  ⟨c0_i32_1, v1, c1_i32_3⟩
def k0_mult2 (k0_t2 : Fin k0_t2_loop.trips) : BitVec 32 :=
  let c0_i32_1 : BitVec 32 := 0#32
  let c1_i32_3 : BitVec 32 := 1#32
  let arg20 : BitVec 32 := Scf.iv c0_i32_1 c1_i32_3 k0_t2
  let c128_i32 : BitVec 32 := 128#32
  let v744 : BitVec 32 := Scalar.muli arg20 c128_i32
  v744
def k0_off3 (k0_t2 : Fin k0_t2_loop.trips) : Fin 2 → Nat :=
  let c0_i32_1 : BitVec 32 := 0#32
  let c1_i32_3 : BitVec 32 := 1#32
  let arg20 : BitVec 32 := Scf.iv c0_i32_1 c1_i32_3 k0_t2
  let c128_i32 : BitVec 32 := 128#32
  let v744 : BitVec 32 := Scalar.muli arg20 c128_i32
  let v745 : BitVec 32 := v744
  let v746 : Index := Scalar.indexCast v745
  let c0_695 : Index := 0#32
  ![v746.toNat, 0]
@[reducible] def k0_t3_loop : Scf.Loop 32 :=
  let c0_i32_93 : BitVec 32 := 0#32
  let c16_i32_94 : BitVec 32 := 16#32
  let v162 : BitVec 32 := Scalar.addi c0_i32_93 c16_i32_94
  let c1_i32_95 : BitVec 32 := 1#32
  ⟨c0_i32_93, v162, c1_i32_95⟩
def k0_mult3 (k0_t3 : Fin k0_t3_loop.trips) : BitVec 32 :=
  let c0_i32_93 : BitVec 32 := 0#32
  let c1_i32_95 : BitVec 32 := 1#32
  let arg20 : BitVec 32 := Scf.iv c0_i32_93 c1_i32_95 k0_t3
  let c128_i32 : BitVec 32 := 128#32
  let v744 : BitVec 32 := Scalar.muli arg20 c128_i32
  v744
def k0_off4 (k0_t3 : Fin k0_t3_loop.trips) : Fin 3 → Nat :=
  let c0_695 : Index := 0#32
  let c0_i32_93 : BitVec 32 := 0#32
  let c1_i32_95 : BitVec 32 := 1#32
  let arg20 : BitVec 32 := Scf.iv c0_i32_93 c1_i32_95 k0_t3
  let c128_i32 : BitVec 32 := 128#32
  let v744 : BitVec 32 := Scalar.muli arg20 c128_i32
  let v745 : BitVec 32 := v744
  let v746 : Index := Scalar.indexCast v745
  let c0_696 : Index := 0#32
  ![0, v746.toNat, 0]
def k0_off5 (k0_t3 : Fin k0_t3_loop.trips) : Fin 2 → Nat :=
  let c0_i32_93 : BitVec 32 := 0#32
  let c1_i32_95 : BitVec 32 := 1#32
  let arg20 : BitVec 32 := Scf.iv c0_i32_93 c1_i32_95 k0_t3
  let c128_i32 : BitVec 32 := 128#32
  let v744 : BitVec 32 := Scalar.muli arg20 c128_i32
  let v745 : BitVec 32 := v744
  let v750 : Index := Scalar.indexCast v745
  let c0_697 : Index := 0#32
  ![v750.toNat, 0]
@[reducible] def k0_t4_loop : Scf.Loop 32 :=
  let c0_i32_225 : BitVec 32 := 0#32
  let c16_i32_226 : BitVec 32 := 16#32
  let v323 : BitVec 32 := Scalar.addi c0_i32_225 c16_i32_226
  let c1_i32_227 : BitVec 32 := 1#32
  ⟨c0_i32_225, v323, c1_i32_227⟩
def k0_mult4 (k0_t4 : Fin k0_t4_loop.trips) : BitVec 32 :=
  let c0_i32_225 : BitVec 32 := 0#32
  let c1_i32_227 : BitVec 32 := 1#32
  let arg20 : BitVec 32 := Scf.iv c0_i32_225 c1_i32_227 k0_t4
  let c128_i32 : BitVec 32 := 128#32
  let v744 : BitVec 32 := Scalar.muli arg20 c128_i32
  v744
def k0_off6 (k0_t4 : Fin k0_t4_loop.trips) : Fin 3 → Nat :=
  let c0_695 : Index := 0#32
  let c0_i32_225 : BitVec 32 := 0#32
  let c1_i32_227 : BitVec 32 := 1#32
  let arg20 : BitVec 32 := Scf.iv c0_i32_225 c1_i32_227 k0_t4
  let c128_i32 : BitVec 32 := 128#32
  let v744 : BitVec 32 := Scalar.muli arg20 c128_i32
  let v745 : BitVec 32 := v744
  let v746 : Index := Scalar.indexCast v745
  let c0_696 : Index := 0#32
  ![0, v746.toNat, 0]
def k0_off7 (k0_t4 : Fin k0_t4_loop.trips) : Fin 2 → Nat :=
  let c0_i32_225 : BitVec 32 := 0#32
  let c1_i32_227 : BitVec 32 := 1#32
  let arg20 : BitVec 32 := Scf.iv c0_i32_225 c1_i32_227 k0_t4
  let c128_i32 : BitVec 32 := 128#32
  let v744 : BitVec 32 := Scalar.muli arg20 c128_i32
  let v745 : BitVec 32 := v744
  let v750 : Index := Scalar.indexCast v745
  let c0_697 : Index := 0#32
  ![v750.toNat, 0]
@[reducible] def k0_t5_loop : Scf.Loop 32 :=
  let c0_i32_359 : BitVec 32 := 0#32
  let c16_i32_360 : BitVec 32 := 16#32
  let v484 : BitVec 32 := Scalar.addi c0_i32_359 c16_i32_360
  let c1_i32_361 : BitVec 32 := 1#32
  ⟨c0_i32_359, v484, c1_i32_361⟩
def k0_mult5 (k0_t5 : Fin k0_t5_loop.trips) : BitVec 32 :=
  let c0_i32_359 : BitVec 32 := 0#32
  let c1_i32_361 : BitVec 32 := 1#32
  let arg20 : BitVec 32 := Scf.iv c0_i32_359 c1_i32_361 k0_t5
  let c0_i32_696 : BitVec 32 := 0#32
  let v745 : BitVec 1 := Scalar.cmpi .sgt arg20 c0_i32_696
  let v746 : BitVec 32 := Scalar.extui v745
  let c0_i32_697 : BitVec 32 := 0#32
  let v747 : BitVec 1 := Scalar.cmpi .slt arg20 c0_i32_697
  let v748 : BitVec 32 := Scalar.extui v747
  let v749 : BitVec 32 := Scalar.subi v746 v748
  let c16_i32_695 : BitVec 32 := 16#32
  let c0_i32_698 : BitVec 32 := 0#32
  let v750 : BitVec 1 := Scalar.cmpi .sgt c16_i32_695 c0_i32_698
  let v751 : BitVec 32 := Scalar.extui v750
  let c0_i32_699 : BitVec 32 := 0#32
  let v752 : BitVec 1 := Scalar.cmpi .slt c16_i32_695 c0_i32_699
  let v753 : BitVec 32 := Scalar.extui v752
  let v754 : BitVec 32 := Scalar.subi v751 v753
  let v755 : BitVec 1 := Scalar.cmpi .ne v749 v754
  let v756 : BitVec 32 := Scalar.remsi arg20 c16_i32_695
  let c0_i32_700 : BitVec 32 := 0#32
  let v757 : BitVec 1 := Scalar.cmpi .ne v756 c0_i32_700
  let v758 : BitVec 1 := Scalar.andi v755 v757
  let v744 : BitVec 32 := Scalar.divsi arg20 c16_i32_695
  let c1_i32_701 : BitVec 32 := 1#32
  let v759 : BitVec 32 := Scalar.subi v744 c1_i32_701
  let v760 : BitVec 32 := Scalar.select v758 v759 v744
  let c2048_i32 : BitVec 32 := 2048#32
  let v771 : BitVec 32 := Scalar.muli v760 c2048_i32
  let c16_i32_702 : BitVec 32 := 16#32
  let v761 : BitVec 32 := Scalar.muli v760 c16_i32_702
  let v762 : BitVec 32 := Scalar.subi arg20 v761
  let c128_i32 : BitVec 32 := 128#32
  let v763 : BitVec 32 := Scalar.muli v762 c128_i32
  let v772 : BitVec 32 := Scalar.addi v771 v763
  v772
def k0_mult6 (k0_t5 : Fin k0_t5_loop.trips) : BitVec 32 :=
  let c0_i32_359 : BitVec 32 := 0#32
  let c1_i32_361 : BitVec 32 := 1#32
  let arg20 : BitVec 32 := Scf.iv c0_i32_359 c1_i32_361 k0_t5
  let c0_i32_696 : BitVec 32 := 0#32
  let v745 : BitVec 1 := Scalar.cmpi .sgt arg20 c0_i32_696
  let v746 : BitVec 32 := Scalar.extui v745
  let c0_i32_697 : BitVec 32 := 0#32
  let v747 : BitVec 1 := Scalar.cmpi .slt arg20 c0_i32_697
  let v748 : BitVec 32 := Scalar.extui v747
  let v749 : BitVec 32 := Scalar.subi v746 v748
  let c16_i32_695 : BitVec 32 := 16#32
  let c0_i32_698 : BitVec 32 := 0#32
  let v750 : BitVec 1 := Scalar.cmpi .sgt c16_i32_695 c0_i32_698
  let v751 : BitVec 32 := Scalar.extui v750
  let c0_i32_699 : BitVec 32 := 0#32
  let v752 : BitVec 1 := Scalar.cmpi .slt c16_i32_695 c0_i32_699
  let v753 : BitVec 32 := Scalar.extui v752
  let v754 : BitVec 32 := Scalar.subi v751 v753
  let v755 : BitVec 1 := Scalar.cmpi .ne v749 v754
  let v756 : BitVec 32 := Scalar.remsi arg20 c16_i32_695
  let c0_i32_700 : BitVec 32 := 0#32
  let v757 : BitVec 1 := Scalar.cmpi .ne v756 c0_i32_700
  let v758 : BitVec 1 := Scalar.andi v755 v757
  let v744 : BitVec 32 := Scalar.divsi arg20 c16_i32_695
  let c1_i32_701 : BitVec 32 := 1#32
  let v759 : BitVec 32 := Scalar.subi v744 c1_i32_701
  let v760 : BitVec 32 := Scalar.select v758 v759 v744
  let c2048_i32 : BitVec 32 := 2048#32
  let v771 : BitVec 32 := Scalar.muli v760 c2048_i32
  let c1792_i32 : BitVec 32 := 1792#32
  let c0_i32_703 : BitVec 32 := 0#32
  let c16_i32_702 : BitVec 32 := 16#32
  let v761 : BitVec 32 := Scalar.muli v760 c16_i32_702
  let v762 : BitVec 32 := Scalar.subi arg20 v761
  let c128_i32 : BitVec 32 := 128#32
  let v763 : BitVec 32 := Scalar.muli v762 c128_i32
  let c64_i32 : BitVec 32 := 64#32
  let v764 : BitVec 32 := Scalar.subi v763 c64_i32
  let v765 : BitVec 32 := Scalar.maxsi c0_i32_703 v764
  let v766 : BitVec 32 := Scalar.minsi c1792_i32 v765
  let v774 : BitVec 32 := Scalar.addi v771 v766
  v774
def k0_off8 (k0_t5 : Fin k0_t5_loop.trips) : Fin 2 → Nat :=
  let c0_i32_359 : BitVec 32 := 0#32
  let c1_i32_361 : BitVec 32 := 1#32
  let arg20 : BitVec 32 := Scf.iv c0_i32_359 c1_i32_361 k0_t5
  let c0_i32_696 : BitVec 32 := 0#32
  let v745 : BitVec 1 := Scalar.cmpi .sgt arg20 c0_i32_696
  let v746 : BitVec 32 := Scalar.extui v745
  let c0_i32_697 : BitVec 32 := 0#32
  let v747 : BitVec 1 := Scalar.cmpi .slt arg20 c0_i32_697
  let v748 : BitVec 32 := Scalar.extui v747
  let v749 : BitVec 32 := Scalar.subi v746 v748
  let c16_i32_695 : BitVec 32 := 16#32
  let c0_i32_698 : BitVec 32 := 0#32
  let v750 : BitVec 1 := Scalar.cmpi .sgt c16_i32_695 c0_i32_698
  let v751 : BitVec 32 := Scalar.extui v750
  let c0_i32_699 : BitVec 32 := 0#32
  let v752 : BitVec 1 := Scalar.cmpi .slt c16_i32_695 c0_i32_699
  let v753 : BitVec 32 := Scalar.extui v752
  let v754 : BitVec 32 := Scalar.subi v751 v753
  let v755 : BitVec 1 := Scalar.cmpi .ne v749 v754
  let v756 : BitVec 32 := Scalar.remsi arg20 c16_i32_695
  let c0_i32_700 : BitVec 32 := 0#32
  let v757 : BitVec 1 := Scalar.cmpi .ne v756 c0_i32_700
  let v758 : BitVec 1 := Scalar.andi v755 v757
  let v744 : BitVec 32 := Scalar.divsi arg20 c16_i32_695
  let c1_i32_701 : BitVec 32 := 1#32
  let v759 : BitVec 32 := Scalar.subi v744 c1_i32_701
  let v760 : BitVec 32 := Scalar.select v758 v759 v744
  let c2048_i32 : BitVec 32 := 2048#32
  let v771 : BitVec 32 := Scalar.muli v760 c2048_i32
  let c16_i32_702 : BitVec 32 := 16#32
  let v761 : BitVec 32 := Scalar.muli v760 c16_i32_702
  let v762 : BitVec 32 := Scalar.subi arg20 v761
  let c128_i32 : BitVec 32 := 128#32
  let v763 : BitVec 32 := Scalar.muli v762 c128_i32
  let v772 : BitVec 32 := Scalar.addi v771 v763
  let v773 : BitVec 32 := v772
  let v776 : Index := Scalar.indexCast v773
  let c0_707 : Index := 0#32
  ![v776.toNat, 0]
def k0_off9 (k0_t5 : Fin k0_t5_loop.trips) : Fin 3 → Nat :=
  let c0_708 : Index := 0#32
  let c0_i32_359 : BitVec 32 := 0#32
  let c1_i32_361 : BitVec 32 := 1#32
  let arg20 : BitVec 32 := Scf.iv c0_i32_359 c1_i32_361 k0_t5
  let c0_i32_696 : BitVec 32 := 0#32
  let v745 : BitVec 1 := Scalar.cmpi .sgt arg20 c0_i32_696
  let v746 : BitVec 32 := Scalar.extui v745
  let c0_i32_697 : BitVec 32 := 0#32
  let v747 : BitVec 1 := Scalar.cmpi .slt arg20 c0_i32_697
  let v748 : BitVec 32 := Scalar.extui v747
  let v749 : BitVec 32 := Scalar.subi v746 v748
  let c16_i32_695 : BitVec 32 := 16#32
  let c0_i32_698 : BitVec 32 := 0#32
  let v750 : BitVec 1 := Scalar.cmpi .sgt c16_i32_695 c0_i32_698
  let v751 : BitVec 32 := Scalar.extui v750
  let c0_i32_699 : BitVec 32 := 0#32
  let v752 : BitVec 1 := Scalar.cmpi .slt c16_i32_695 c0_i32_699
  let v753 : BitVec 32 := Scalar.extui v752
  let v754 : BitVec 32 := Scalar.subi v751 v753
  let v755 : BitVec 1 := Scalar.cmpi .ne v749 v754
  let v756 : BitVec 32 := Scalar.remsi arg20 c16_i32_695
  let c0_i32_700 : BitVec 32 := 0#32
  let v757 : BitVec 1 := Scalar.cmpi .ne v756 c0_i32_700
  let v758 : BitVec 1 := Scalar.andi v755 v757
  let v744 : BitVec 32 := Scalar.divsi arg20 c16_i32_695
  let c1_i32_701 : BitVec 32 := 1#32
  let v759 : BitVec 32 := Scalar.subi v744 c1_i32_701
  let v760 : BitVec 32 := Scalar.select v758 v759 v744
  let c2048_i32 : BitVec 32 := 2048#32
  let v771 : BitVec 32 := Scalar.muli v760 c2048_i32
  let c1792_i32 : BitVec 32 := 1792#32
  let c0_i32_703 : BitVec 32 := 0#32
  let c16_i32_702 : BitVec 32 := 16#32
  let v761 : BitVec 32 := Scalar.muli v760 c16_i32_702
  let v762 : BitVec 32 := Scalar.subi arg20 v761
  let c128_i32 : BitVec 32 := 128#32
  let v763 : BitVec 32 := Scalar.muli v762 c128_i32
  let c64_i32 : BitVec 32 := 64#32
  let v764 : BitVec 32 := Scalar.subi v763 c64_i32
  let v765 : BitVec 32 := Scalar.maxsi c0_i32_703 v764
  let v766 : BitVec 32 := Scalar.minsi c1792_i32 v765
  let v774 : BitVec 32 := Scalar.addi v771 v766
  let v775 : BitVec 32 := v774
  let v778 : Index := Scalar.indexCast v775
  let c0_709 : Index := 0#32
  ![0, v778.toNat, 0]
def k0_off10 (k0_t5 : Fin k0_t5_loop.trips) : Fin 5 → Nat :=
  let c0_712 : Index := 0#32
  let c0_713 : Index := 0#32
  let c0_i32_359 : BitVec 32 := 0#32
  let c1_i32_361 : BitVec 32 := 1#32
  let arg20 : BitVec 32 := Scf.iv c0_i32_359 c1_i32_361 k0_t5
  let c0_i32_696 : BitVec 32 := 0#32
  let v745 : BitVec 1 := Scalar.cmpi .sgt arg20 c0_i32_696
  let v746 : BitVec 32 := Scalar.extui v745
  let c0_i32_697 : BitVec 32 := 0#32
  let v747 : BitVec 1 := Scalar.cmpi .slt arg20 c0_i32_697
  let v748 : BitVec 32 := Scalar.extui v747
  let v749 : BitVec 32 := Scalar.subi v746 v748
  let c16_i32_695 : BitVec 32 := 16#32
  let c0_i32_698 : BitVec 32 := 0#32
  let v750 : BitVec 1 := Scalar.cmpi .sgt c16_i32_695 c0_i32_698
  let v751 : BitVec 32 := Scalar.extui v750
  let c0_i32_699 : BitVec 32 := 0#32
  let v752 : BitVec 1 := Scalar.cmpi .slt c16_i32_695 c0_i32_699
  let v753 : BitVec 32 := Scalar.extui v752
  let v754 : BitVec 32 := Scalar.subi v751 v753
  let v755 : BitVec 1 := Scalar.cmpi .ne v749 v754
  let v756 : BitVec 32 := Scalar.remsi arg20 c16_i32_695
  let c0_i32_700 : BitVec 32 := 0#32
  let v757 : BitVec 1 := Scalar.cmpi .ne v756 c0_i32_700
  let v758 : BitVec 1 := Scalar.andi v755 v757
  let v744 : BitVec 32 := Scalar.divsi arg20 c16_i32_695
  let c1_i32_701 : BitVec 32 := 1#32
  let v759 : BitVec 32 := Scalar.subi v744 c1_i32_701
  let v760 : BitVec 32 := Scalar.select v758 v759 v744
  let c16_i32_702 : BitVec 32 := 16#32
  let v761 : BitVec 32 := Scalar.muli v760 c16_i32_702
  let v762 : BitVec 32 := Scalar.subi arg20 v761
  let c0_i32_704 : BitVec 32 := 0#32
  let v767 : BitVec 1 := Scalar.cmpi .eq v762 c0_i32_704
  let c0_i32_706 : BitVec 32 := 0#32
  let c15_i32 : BitVec 32 := 15#32
  let v768 : BitVec 1 := Scalar.cmpi .eq v762 c15_i32
  let c2_i32 : BitVec 32 := 2#32
  let c1_i32_705 : BitVec 32 := 1#32
  let v769 : BitVec 32 := Scalar.select v768 c2_i32 c1_i32_705
  let v770 : BitVec 32 := Scalar.select v767 c0_i32_706 v769
  let v785 : Index := Scalar.indexCast v770
  let c0_714 : Index := 0#32
  let c0_715 : Index := 0#32
  ![0, 0, v785.toNat, 0, 0]
@[reducible] def k0_t6_loop : Scf.Loop 32 :=
  let c0_i32_363 : BitVec 32 := 0#32
  let c16_i32_364 : BitVec 32 := 16#32
  let v485 : BitVec 32 := Scalar.addi c0_i32_363 c16_i32_364
  let c1_i32_365 : BitVec 32 := 1#32
  ⟨c0_i32_363, v485, c1_i32_365⟩
def k0_mult7 (k0_t6 : Fin k0_t6_loop.trips) : BitVec 32 :=
  let c0_i32_363 : BitVec 32 := 0#32
  let c1_i32_365 : BitVec 32 := 1#32
  let arg20 : BitVec 32 := Scf.iv c0_i32_363 c1_i32_365 k0_t6
  let c0_i32_695 : BitVec 32 := 0#32
  let v745 : BitVec 1 := Scalar.cmpi .sgt arg20 c0_i32_695
  let v746 : BitVec 32 := Scalar.extui v745
  let c0_i32_696 : BitVec 32 := 0#32
  let v747 : BitVec 1 := Scalar.cmpi .slt arg20 c0_i32_696
  let v748 : BitVec 32 := Scalar.extui v747
  let v749 : BitVec 32 := Scalar.subi v746 v748
  let c4_i32 : BitVec 32 := 4#32
  let c0_i32_697 : BitVec 32 := 0#32
  let v750 : BitVec 1 := Scalar.cmpi .sgt c4_i32 c0_i32_697
  let v751 : BitVec 32 := Scalar.extui v750
  let c0_i32_698 : BitVec 32 := 0#32
  let v752 : BitVec 1 := Scalar.cmpi .slt c4_i32 c0_i32_698
  let v753 : BitVec 32 := Scalar.extui v752
  let v754 : BitVec 32 := Scalar.subi v751 v753
  let v755 : BitVec 1 := Scalar.cmpi .ne v749 v754
  let v756 : BitVec 32 := Scalar.remsi arg20 c4_i32
  let c0_i32_699 : BitVec 32 := 0#32
  let v757 : BitVec 1 := Scalar.cmpi .ne v756 c0_i32_699
  let v758 : BitVec 1 := Scalar.andi v755 v757
  let v744 : BitVec 32 := Scalar.divsi arg20 c4_i32
  let c1_i32_700 : BitVec 32 := 1#32
  let v759 : BitVec 32 := Scalar.subi v744 c1_i32_700
  let v760 : BitVec 32 := Scalar.select v758 v759 v744
  let c512_i32 : BitVec 32 := 512#32
  let v771 : BitVec 32 := Scalar.muli v760 c512_i32
  let c4_i32_701 : BitVec 32 := 4#32
  let v761 : BitVec 32 := Scalar.muli v760 c4_i32_701
  let v762 : BitVec 32 := Scalar.subi arg20 v761
  let c128_i32 : BitVec 32 := 128#32
  let v763 : BitVec 32 := Scalar.muli v762 c128_i32
  let v772 : BitVec 32 := Scalar.addi v771 v763
  v772
def k0_mult8 (k0_t6 : Fin k0_t6_loop.trips) : BitVec 32 :=
  let c0_i32_363 : BitVec 32 := 0#32
  let c1_i32_365 : BitVec 32 := 1#32
  let arg20 : BitVec 32 := Scf.iv c0_i32_363 c1_i32_365 k0_t6
  let c0_i32_695 : BitVec 32 := 0#32
  let v745 : BitVec 1 := Scalar.cmpi .sgt arg20 c0_i32_695
  let v746 : BitVec 32 := Scalar.extui v745
  let c0_i32_696 : BitVec 32 := 0#32
  let v747 : BitVec 1 := Scalar.cmpi .slt arg20 c0_i32_696
  let v748 : BitVec 32 := Scalar.extui v747
  let v749 : BitVec 32 := Scalar.subi v746 v748
  let c4_i32 : BitVec 32 := 4#32
  let c0_i32_697 : BitVec 32 := 0#32
  let v750 : BitVec 1 := Scalar.cmpi .sgt c4_i32 c0_i32_697
  let v751 : BitVec 32 := Scalar.extui v750
  let c0_i32_698 : BitVec 32 := 0#32
  let v752 : BitVec 1 := Scalar.cmpi .slt c4_i32 c0_i32_698
  let v753 : BitVec 32 := Scalar.extui v752
  let v754 : BitVec 32 := Scalar.subi v751 v753
  let v755 : BitVec 1 := Scalar.cmpi .ne v749 v754
  let v756 : BitVec 32 := Scalar.remsi arg20 c4_i32
  let c0_i32_699 : BitVec 32 := 0#32
  let v757 : BitVec 1 := Scalar.cmpi .ne v756 c0_i32_699
  let v758 : BitVec 1 := Scalar.andi v755 v757
  let v744 : BitVec 32 := Scalar.divsi arg20 c4_i32
  let c1_i32_700 : BitVec 32 := 1#32
  let v759 : BitVec 32 := Scalar.subi v744 c1_i32_700
  let v760 : BitVec 32 := Scalar.select v758 v759 v744
  let c512_i32 : BitVec 32 := 512#32
  let v771 : BitVec 32 := Scalar.muli v760 c512_i32
  let c256_i32 : BitVec 32 := 256#32
  let c0_i32_702 : BitVec 32 := 0#32
  let c4_i32_701 : BitVec 32 := 4#32
  let v761 : BitVec 32 := Scalar.muli v760 c4_i32_701
  let v762 : BitVec 32 := Scalar.subi arg20 v761
  let c128_i32 : BitVec 32 := 128#32
  let v763 : BitVec 32 := Scalar.muli v762 c128_i32
  let c64_i32 : BitVec 32 := 64#32
  let v764 : BitVec 32 := Scalar.subi v763 c64_i32
  let v765 : BitVec 32 := Scalar.maxsi c0_i32_702 v764
  let v766 : BitVec 32 := Scalar.minsi c256_i32 v765
  let v774 : BitVec 32 := Scalar.addi v771 v766
  v774
def k0_off11 (k0_t6 : Fin k0_t6_loop.trips) : Fin 2 → Nat :=
  let c0_i32_363 : BitVec 32 := 0#32
  let c1_i32_365 : BitVec 32 := 1#32
  let arg20 : BitVec 32 := Scf.iv c0_i32_363 c1_i32_365 k0_t6
  let c0_i32_695 : BitVec 32 := 0#32
  let v745 : BitVec 1 := Scalar.cmpi .sgt arg20 c0_i32_695
  let v746 : BitVec 32 := Scalar.extui v745
  let c0_i32_696 : BitVec 32 := 0#32
  let v747 : BitVec 1 := Scalar.cmpi .slt arg20 c0_i32_696
  let v748 : BitVec 32 := Scalar.extui v747
  let v749 : BitVec 32 := Scalar.subi v746 v748
  let c4_i32 : BitVec 32 := 4#32
  let c0_i32_697 : BitVec 32 := 0#32
  let v750 : BitVec 1 := Scalar.cmpi .sgt c4_i32 c0_i32_697
  let v751 : BitVec 32 := Scalar.extui v750
  let c0_i32_698 : BitVec 32 := 0#32
  let v752 : BitVec 1 := Scalar.cmpi .slt c4_i32 c0_i32_698
  let v753 : BitVec 32 := Scalar.extui v752
  let v754 : BitVec 32 := Scalar.subi v751 v753
  let v755 : BitVec 1 := Scalar.cmpi .ne v749 v754
  let v756 : BitVec 32 := Scalar.remsi arg20 c4_i32
  let c0_i32_699 : BitVec 32 := 0#32
  let v757 : BitVec 1 := Scalar.cmpi .ne v756 c0_i32_699
  let v758 : BitVec 1 := Scalar.andi v755 v757
  let v744 : BitVec 32 := Scalar.divsi arg20 c4_i32
  let c1_i32_700 : BitVec 32 := 1#32
  let v759 : BitVec 32 := Scalar.subi v744 c1_i32_700
  let v760 : BitVec 32 := Scalar.select v758 v759 v744
  let c512_i32 : BitVec 32 := 512#32
  let v771 : BitVec 32 := Scalar.muli v760 c512_i32
  let c4_i32_701 : BitVec 32 := 4#32
  let v761 : BitVec 32 := Scalar.muli v760 c4_i32_701
  let v762 : BitVec 32 := Scalar.subi arg20 v761
  let c128_i32 : BitVec 32 := 128#32
  let v763 : BitVec 32 := Scalar.muli v762 c128_i32
  let v772 : BitVec 32 := Scalar.addi v771 v763
  let v773 : BitVec 32 := v772
  let v776 : Index := Scalar.indexCast v773
  let c0_706 : Index := 0#32
  ![v776.toNat, 0]
def k0_off12 (k0_t6 : Fin k0_t6_loop.trips) : Fin 2 → Nat :=
  let c0_i32_363 : BitVec 32 := 0#32
  let c1_i32_365 : BitVec 32 := 1#32
  let arg20 : BitVec 32 := Scf.iv c0_i32_363 c1_i32_365 k0_t6
  let c0_i32_695 : BitVec 32 := 0#32
  let v745 : BitVec 1 := Scalar.cmpi .sgt arg20 c0_i32_695
  let v746 : BitVec 32 := Scalar.extui v745
  let c0_i32_696 : BitVec 32 := 0#32
  let v747 : BitVec 1 := Scalar.cmpi .slt arg20 c0_i32_696
  let v748 : BitVec 32 := Scalar.extui v747
  let v749 : BitVec 32 := Scalar.subi v746 v748
  let c4_i32 : BitVec 32 := 4#32
  let c0_i32_697 : BitVec 32 := 0#32
  let v750 : BitVec 1 := Scalar.cmpi .sgt c4_i32 c0_i32_697
  let v751 : BitVec 32 := Scalar.extui v750
  let c0_i32_698 : BitVec 32 := 0#32
  let v752 : BitVec 1 := Scalar.cmpi .slt c4_i32 c0_i32_698
  let v753 : BitVec 32 := Scalar.extui v752
  let v754 : BitVec 32 := Scalar.subi v751 v753
  let v755 : BitVec 1 := Scalar.cmpi .ne v749 v754
  let v756 : BitVec 32 := Scalar.remsi arg20 c4_i32
  let c0_i32_699 : BitVec 32 := 0#32
  let v757 : BitVec 1 := Scalar.cmpi .ne v756 c0_i32_699
  let v758 : BitVec 1 := Scalar.andi v755 v757
  let v744 : BitVec 32 := Scalar.divsi arg20 c4_i32
  let c1_i32_700 : BitVec 32 := 1#32
  let v759 : BitVec 32 := Scalar.subi v744 c1_i32_700
  let v760 : BitVec 32 := Scalar.select v758 v759 v744
  let c512_i32 : BitVec 32 := 512#32
  let v771 : BitVec 32 := Scalar.muli v760 c512_i32
  let c256_i32 : BitVec 32 := 256#32
  let c0_i32_702 : BitVec 32 := 0#32
  let c4_i32_701 : BitVec 32 := 4#32
  let v761 : BitVec 32 := Scalar.muli v760 c4_i32_701
  let v762 : BitVec 32 := Scalar.subi arg20 v761
  let c128_i32 : BitVec 32 := 128#32
  let v763 : BitVec 32 := Scalar.muli v762 c128_i32
  let c64_i32 : BitVec 32 := 64#32
  let v764 : BitVec 32 := Scalar.subi v763 c64_i32
  let v765 : BitVec 32 := Scalar.maxsi c0_i32_702 v764
  let v766 : BitVec 32 := Scalar.minsi c256_i32 v765
  let v774 : BitVec 32 := Scalar.addi v771 v766
  let v775 : BitVec 32 := v774
  let v778 : Index := Scalar.indexCast v775
  let c0_707 : Index := 0#32
  ![v778.toNat, 0]
def k0_off13 (k0_t6 : Fin k0_t6_loop.trips) : Fin 5 → Nat :=
  let c0_709 : Index := 0#32
  let c1_710 : Index := 1#32
  let c0_i32_363 : BitVec 32 := 0#32
  let c1_i32_365 : BitVec 32 := 1#32
  let arg20 : BitVec 32 := Scf.iv c0_i32_363 c1_i32_365 k0_t6
  let c0_i32_695 : BitVec 32 := 0#32
  let v745 : BitVec 1 := Scalar.cmpi .sgt arg20 c0_i32_695
  let v746 : BitVec 32 := Scalar.extui v745
  let c0_i32_696 : BitVec 32 := 0#32
  let v747 : BitVec 1 := Scalar.cmpi .slt arg20 c0_i32_696
  let v748 : BitVec 32 := Scalar.extui v747
  let v749 : BitVec 32 := Scalar.subi v746 v748
  let c4_i32 : BitVec 32 := 4#32
  let c0_i32_697 : BitVec 32 := 0#32
  let v750 : BitVec 1 := Scalar.cmpi .sgt c4_i32 c0_i32_697
  let v751 : BitVec 32 := Scalar.extui v750
  let c0_i32_698 : BitVec 32 := 0#32
  let v752 : BitVec 1 := Scalar.cmpi .slt c4_i32 c0_i32_698
  let v753 : BitVec 32 := Scalar.extui v752
  let v754 : BitVec 32 := Scalar.subi v751 v753
  let v755 : BitVec 1 := Scalar.cmpi .ne v749 v754
  let v756 : BitVec 32 := Scalar.remsi arg20 c4_i32
  let c0_i32_699 : BitVec 32 := 0#32
  let v757 : BitVec 1 := Scalar.cmpi .ne v756 c0_i32_699
  let v758 : BitVec 1 := Scalar.andi v755 v757
  let v744 : BitVec 32 := Scalar.divsi arg20 c4_i32
  let c1_i32_700 : BitVec 32 := 1#32
  let v759 : BitVec 32 := Scalar.subi v744 c1_i32_700
  let v760 : BitVec 32 := Scalar.select v758 v759 v744
  let c4_i32_701 : BitVec 32 := 4#32
  let v761 : BitVec 32 := Scalar.muli v760 c4_i32_701
  let v762 : BitVec 32 := Scalar.subi arg20 v761
  let c0_i32_703 : BitVec 32 := 0#32
  let v767 : BitVec 1 := Scalar.cmpi .eq v762 c0_i32_703
  let c0_i32_705 : BitVec 32 := 0#32
  let c3_i32 : BitVec 32 := 3#32
  let v768 : BitVec 1 := Scalar.cmpi .eq v762 c3_i32
  let c2_i32 : BitVec 32 := 2#32
  let c1_i32_704 : BitVec 32 := 1#32
  let v769 : BitVec 32 := Scalar.select v768 c2_i32 c1_i32_704
  let v770 : BitVec 32 := Scalar.select v767 c0_i32_705 v769
  let v783 : Index := Scalar.indexCast v770
  let c0_711 : Index := 0#32
  let c0_712 : Index := 0#32
  ![0, 1, v783.toNat, 0, 0]
@[reducible] def k0_t7_loop : Scf.Loop 32 :=
  let c0_i32_527 : BitVec 32 := 0#32
  let c16_i32_528 : BitVec 32 := 16#32
  let v614 : BitVec 32 := Scalar.addi c0_i32_527 c16_i32_528
  let c1_i32_529 : BitVec 32 := 1#32
  ⟨c0_i32_527, v614, c1_i32_529⟩
def k0_mult9 (k0_t7 : Fin k0_t7_loop.trips) : BitVec 32 :=
  let c0_i32_527 : BitVec 32 := 0#32
  let c1_i32_529 : BitVec 32 := 1#32
  let arg20 : BitVec 32 := Scf.iv c0_i32_527 c1_i32_529 k0_t7
  let c0_i32_696 : BitVec 32 := 0#32
  let v745 : BitVec 1 := Scalar.cmpi .sgt arg20 c0_i32_696
  let v746 : BitVec 32 := Scalar.extui v745
  let c0_i32_697 : BitVec 32 := 0#32
  let v747 : BitVec 1 := Scalar.cmpi .slt arg20 c0_i32_697
  let v748 : BitVec 32 := Scalar.extui v747
  let v749 : BitVec 32 := Scalar.subi v746 v748
  let c1_i32_695 : BitVec 32 := 1#32
  let c0_i32_698 : BitVec 32 := 0#32
  let v750 : BitVec 1 := Scalar.cmpi .sgt c1_i32_695 c0_i32_698
  let v751 : BitVec 32 := Scalar.extui v750
  let c0_i32_699 : BitVec 32 := 0#32
  let v752 : BitVec 1 := Scalar.cmpi .slt c1_i32_695 c0_i32_699
  let v753 : BitVec 32 := Scalar.extui v752
  let v754 : BitVec 32 := Scalar.subi v751 v753
  let v755 : BitVec 1 := Scalar.cmpi .ne v749 v754
  let v756 : BitVec 32 := Scalar.remsi arg20 c1_i32_695
  let c0_i32_700 : BitVec 32 := 0#32
  let v757 : BitVec 1 := Scalar.cmpi .ne v756 c0_i32_700
  let v758 : BitVec 1 := Scalar.andi v755 v757
  let v744 : BitVec 32 := Scalar.divsi arg20 c1_i32_695
  let c1_i32_701 : BitVec 32 := 1#32
  let v759 : BitVec 32 := Scalar.subi v744 c1_i32_701
  let v760 : BitVec 32 := Scalar.select v758 v759 v744
  let c128_i32_709 : BitVec 32 := 128#32
  let v771 : BitVec 32 := Scalar.muli v760 c128_i32_709
  let c1_i32_702 : BitVec 32 := 1#32
  let v761 : BitVec 32 := Scalar.muli v760 c1_i32_702
  let v762 : BitVec 32 := Scalar.subi arg20 v761
  let c128_i32 : BitVec 32 := 128#32
  let v763 : BitVec 32 := Scalar.muli v762 c128_i32
  let v772 : BitVec 32 := Scalar.addi v771 v763
  v772
def k0_mult10 (k0_t7 : Fin k0_t7_loop.trips) : BitVec 32 :=
  let c0_i32_527 : BitVec 32 := 0#32
  let c1_i32_529 : BitVec 32 := 1#32
  let arg20 : BitVec 32 := Scf.iv c0_i32_527 c1_i32_529 k0_t7
  let c0_i32_696 : BitVec 32 := 0#32
  let v745 : BitVec 1 := Scalar.cmpi .sgt arg20 c0_i32_696
  let v746 : BitVec 32 := Scalar.extui v745
  let c0_i32_697 : BitVec 32 := 0#32
  let v747 : BitVec 1 := Scalar.cmpi .slt arg20 c0_i32_697
  let v748 : BitVec 32 := Scalar.extui v747
  let v749 : BitVec 32 := Scalar.subi v746 v748
  let c1_i32_695 : BitVec 32 := 1#32
  let c0_i32_698 : BitVec 32 := 0#32
  let v750 : BitVec 1 := Scalar.cmpi .sgt c1_i32_695 c0_i32_698
  let v751 : BitVec 32 := Scalar.extui v750
  let c0_i32_699 : BitVec 32 := 0#32
  let v752 : BitVec 1 := Scalar.cmpi .slt c1_i32_695 c0_i32_699
  let v753 : BitVec 32 := Scalar.extui v752
  let v754 : BitVec 32 := Scalar.subi v751 v753
  let v755 : BitVec 1 := Scalar.cmpi .ne v749 v754
  let v756 : BitVec 32 := Scalar.remsi arg20 c1_i32_695
  let c0_i32_700 : BitVec 32 := 0#32
  let v757 : BitVec 1 := Scalar.cmpi .ne v756 c0_i32_700
  let v758 : BitVec 1 := Scalar.andi v755 v757
  let v744 : BitVec 32 := Scalar.divsi arg20 c1_i32_695
  let c1_i32_701 : BitVec 32 := 1#32
  let v759 : BitVec 32 := Scalar.subi v744 c1_i32_701
  let v760 : BitVec 32 := Scalar.select v758 v759 v744
  let c128_i32_709 : BitVec 32 := 128#32
  let v771 : BitVec 32 := Scalar.muli v760 c128_i32_709
  let c0_i32_704 : BitVec 32 := 0#32
  let c0_i32_703 : BitVec 32 := 0#32
  let c1_i32_702 : BitVec 32 := 1#32
  let v761 : BitVec 32 := Scalar.muli v760 c1_i32_702
  let v762 : BitVec 32 := Scalar.subi arg20 v761
  let c128_i32 : BitVec 32 := 128#32
  let v763 : BitVec 32 := Scalar.muli v762 c128_i32
  let c64_i32 : BitVec 32 := 64#32
  let v764 : BitVec 32 := Scalar.subi v763 c64_i32
  let v765 : BitVec 32 := Scalar.maxsi c0_i32_703 v764
  let v766 : BitVec 32 := Scalar.minsi c0_i32_704 v765
  let v774 : BitVec 32 := Scalar.addi v771 v766
  v774
def k0_off14 (k0_t7 : Fin k0_t7_loop.trips) : Fin 2 → Nat :=
  let c0_i32_527 : BitVec 32 := 0#32
  let c1_i32_529 : BitVec 32 := 1#32
  let arg20 : BitVec 32 := Scf.iv c0_i32_527 c1_i32_529 k0_t7
  let c0_i32_696 : BitVec 32 := 0#32
  let v745 : BitVec 1 := Scalar.cmpi .sgt arg20 c0_i32_696
  let v746 : BitVec 32 := Scalar.extui v745
  let c0_i32_697 : BitVec 32 := 0#32
  let v747 : BitVec 1 := Scalar.cmpi .slt arg20 c0_i32_697
  let v748 : BitVec 32 := Scalar.extui v747
  let v749 : BitVec 32 := Scalar.subi v746 v748
  let c1_i32_695 : BitVec 32 := 1#32
  let c0_i32_698 : BitVec 32 := 0#32
  let v750 : BitVec 1 := Scalar.cmpi .sgt c1_i32_695 c0_i32_698
  let v751 : BitVec 32 := Scalar.extui v750
  let c0_i32_699 : BitVec 32 := 0#32
  let v752 : BitVec 1 := Scalar.cmpi .slt c1_i32_695 c0_i32_699
  let v753 : BitVec 32 := Scalar.extui v752
  let v754 : BitVec 32 := Scalar.subi v751 v753
  let v755 : BitVec 1 := Scalar.cmpi .ne v749 v754
  let v756 : BitVec 32 := Scalar.remsi arg20 c1_i32_695
  let c0_i32_700 : BitVec 32 := 0#32
  let v757 : BitVec 1 := Scalar.cmpi .ne v756 c0_i32_700
  let v758 : BitVec 1 := Scalar.andi v755 v757
  let v744 : BitVec 32 := Scalar.divsi arg20 c1_i32_695
  let c1_i32_701 : BitVec 32 := 1#32
  let v759 : BitVec 32 := Scalar.subi v744 c1_i32_701
  let v760 : BitVec 32 := Scalar.select v758 v759 v744
  let c128_i32_709 : BitVec 32 := 128#32
  let v771 : BitVec 32 := Scalar.muli v760 c128_i32_709
  let c1_i32_702 : BitVec 32 := 1#32
  let v761 : BitVec 32 := Scalar.muli v760 c1_i32_702
  let v762 : BitVec 32 := Scalar.subi arg20 v761
  let c128_i32 : BitVec 32 := 128#32
  let v763 : BitVec 32 := Scalar.muli v762 c128_i32
  let v772 : BitVec 32 := Scalar.addi v771 v763
  let v773 : BitVec 32 := v772
  let v776 : Index := Scalar.indexCast v773
  let c0_710 : Index := 0#32
  ![v776.toNat, 0]
def k0_off15 (k0_t7 : Fin k0_t7_loop.trips) : Fin 2 → Nat :=
  let c0_i32_527 : BitVec 32 := 0#32
  let c1_i32_529 : BitVec 32 := 1#32
  let arg20 : BitVec 32 := Scf.iv c0_i32_527 c1_i32_529 k0_t7
  let c0_i32_696 : BitVec 32 := 0#32
  let v745 : BitVec 1 := Scalar.cmpi .sgt arg20 c0_i32_696
  let v746 : BitVec 32 := Scalar.extui v745
  let c0_i32_697 : BitVec 32 := 0#32
  let v747 : BitVec 1 := Scalar.cmpi .slt arg20 c0_i32_697
  let v748 : BitVec 32 := Scalar.extui v747
  let v749 : BitVec 32 := Scalar.subi v746 v748
  let c1_i32_695 : BitVec 32 := 1#32
  let c0_i32_698 : BitVec 32 := 0#32
  let v750 : BitVec 1 := Scalar.cmpi .sgt c1_i32_695 c0_i32_698
  let v751 : BitVec 32 := Scalar.extui v750
  let c0_i32_699 : BitVec 32 := 0#32
  let v752 : BitVec 1 := Scalar.cmpi .slt c1_i32_695 c0_i32_699
  let v753 : BitVec 32 := Scalar.extui v752
  let v754 : BitVec 32 := Scalar.subi v751 v753
  let v755 : BitVec 1 := Scalar.cmpi .ne v749 v754
  let v756 : BitVec 32 := Scalar.remsi arg20 c1_i32_695
  let c0_i32_700 : BitVec 32 := 0#32
  let v757 : BitVec 1 := Scalar.cmpi .ne v756 c0_i32_700
  let v758 : BitVec 1 := Scalar.andi v755 v757
  let v744 : BitVec 32 := Scalar.divsi arg20 c1_i32_695
  let c1_i32_701 : BitVec 32 := 1#32
  let v759 : BitVec 32 := Scalar.subi v744 c1_i32_701
  let v760 : BitVec 32 := Scalar.select v758 v759 v744
  let c128_i32_709 : BitVec 32 := 128#32
  let v771 : BitVec 32 := Scalar.muli v760 c128_i32_709
  let c0_i32_704 : BitVec 32 := 0#32
  let c0_i32_703 : BitVec 32 := 0#32
  let c1_i32_702 : BitVec 32 := 1#32
  let v761 : BitVec 32 := Scalar.muli v760 c1_i32_702
  let v762 : BitVec 32 := Scalar.subi arg20 v761
  let c128_i32 : BitVec 32 := 128#32
  let v763 : BitVec 32 := Scalar.muli v762 c128_i32
  let c64_i32 : BitVec 32 := 64#32
  let v764 : BitVec 32 := Scalar.subi v763 c64_i32
  let v765 : BitVec 32 := Scalar.maxsi c0_i32_703 v764
  let v766 : BitVec 32 := Scalar.minsi c0_i32_704 v765
  let v774 : BitVec 32 := Scalar.addi v771 v766
  let v775 : BitVec 32 := v774
  let v778 : Index := Scalar.indexCast v775
  let c0_711 : Index := 0#32
  ![v778.toNat, 0]
def k0_off16 (k0_t7 : Fin k0_t7_loop.trips) : Fin 5 → Nat :=
  let c0_713 : Index := 0#32
  let c2_714 : Index := 2#32
  let c0_i32_527 : BitVec 32 := 0#32
  let c1_i32_529 : BitVec 32 := 1#32
  let arg20 : BitVec 32 := Scf.iv c0_i32_527 c1_i32_529 k0_t7
  let c0_i32_696 : BitVec 32 := 0#32
  let v745 : BitVec 1 := Scalar.cmpi .sgt arg20 c0_i32_696
  let v746 : BitVec 32 := Scalar.extui v745
  let c0_i32_697 : BitVec 32 := 0#32
  let v747 : BitVec 1 := Scalar.cmpi .slt arg20 c0_i32_697
  let v748 : BitVec 32 := Scalar.extui v747
  let v749 : BitVec 32 := Scalar.subi v746 v748
  let c1_i32_695 : BitVec 32 := 1#32
  let c0_i32_698 : BitVec 32 := 0#32
  let v750 : BitVec 1 := Scalar.cmpi .sgt c1_i32_695 c0_i32_698
  let v751 : BitVec 32 := Scalar.extui v750
  let c0_i32_699 : BitVec 32 := 0#32
  let v752 : BitVec 1 := Scalar.cmpi .slt c1_i32_695 c0_i32_699
  let v753 : BitVec 32 := Scalar.extui v752
  let v754 : BitVec 32 := Scalar.subi v751 v753
  let v755 : BitVec 1 := Scalar.cmpi .ne v749 v754
  let v756 : BitVec 32 := Scalar.remsi arg20 c1_i32_695
  let c0_i32_700 : BitVec 32 := 0#32
  let v757 : BitVec 1 := Scalar.cmpi .ne v756 c0_i32_700
  let v758 : BitVec 1 := Scalar.andi v755 v757
  let v744 : BitVec 32 := Scalar.divsi arg20 c1_i32_695
  let c1_i32_701 : BitVec 32 := 1#32
  let v759 : BitVec 32 := Scalar.subi v744 c1_i32_701
  let v760 : BitVec 32 := Scalar.select v758 v759 v744
  let c1_i32_702 : BitVec 32 := 1#32
  let v761 : BitVec 32 := Scalar.muli v760 c1_i32_702
  let v762 : BitVec 32 := Scalar.subi arg20 v761
  let c0_i32_705 : BitVec 32 := 0#32
  let v767 : BitVec 1 := Scalar.cmpi .eq v762 c0_i32_705
  let c0_i32_708 : BitVec 32 := 0#32
  let c0_i32_706 : BitVec 32 := 0#32
  let v768 : BitVec 1 := Scalar.cmpi .eq v762 c0_i32_706
  let c2_i32 : BitVec 32 := 2#32
  let c1_i32_707 : BitVec 32 := 1#32
  let v769 : BitVec 32 := Scalar.select v768 c2_i32 c1_i32_707
  let v770 : BitVec 32 := Scalar.select v767 c0_i32_708 v769
  let v783 : Index := Scalar.indexCast v770
  let c0_715 : Index := 0#32
  let c0_716 : Index := 0#32
  ![0, 2, v783.toNat, 0, 0]
@[reducible] def k0_t8_loop : Scf.Loop 32 :=
  let c0_i32_691 : BitVec 32 := 0#32
  let c16_i32_692 : BitVec 32 := 16#32
  let v743 : BitVec 32 := Scalar.addi c0_i32_691 c16_i32_692
  let c1_i32_693 : BitVec 32 := 1#32
  ⟨c0_i32_691, v743, c1_i32_693⟩
def k0_mult11 (k0_t8 : Fin k0_t8_loop.trips) : BitVec 32 :=
  let c0_i32_691 : BitVec 32 := 0#32
  let c1_i32_693 : BitVec 32 := 1#32
  let arg20 : BitVec 32 := Scf.iv c0_i32_691 c1_i32_693 k0_t8
  let c128_i32 : BitVec 32 := 128#32
  let v744 : BitVec 32 := Scalar.muli arg20 c128_i32
  v744
def k0_off17 (k0_t8 : Fin k0_t8_loop.trips) : Fin 3 → Nat :=
  let c0_695 : Index := 0#32
  let c0_i32_691 : BitVec 32 := 0#32
  let c1_i32_693 : BitVec 32 := 1#32
  let arg20 : BitVec 32 := Scf.iv c0_i32_691 c1_i32_693 k0_t8
  let c128_i32 : BitVec 32 := 128#32
  let v744 : BitVec 32 := Scalar.muli arg20 c128_i32
  let v745 : BitVec 32 := v744
  let v746 : Index := Scalar.indexCast v745
  let c0_696 : Index := 0#32
  ![0, v746.toNat, 0]
def k0_off18 (k0_t8 : Fin k0_t8_loop.trips) : Fin 3 → Nat :=
  let c1_697 : Index := 1#32
  let c0_i32_691 : BitVec 32 := 0#32
  let c1_i32_693 : BitVec 32 := 1#32
  let arg20 : BitVec 32 := Scf.iv c0_i32_691 c1_i32_693 k0_t8
  let c128_i32 : BitVec 32 := 128#32
  let v744 : BitVec 32 := Scalar.muli arg20 c128_i32
  let v745 : BitVec 32 := v744
  let v749 : Index := Scalar.indexCast v745
  let c0_698 : Index := 0#32
  ![1, v749.toNat, 0]
def k0_off19 (k0_t8 : Fin k0_t8_loop.trips) : Fin 3 → Nat :=
  let c2_699 : Index := 2#32
  let c0_i32_691 : BitVec 32 := 0#32
  let c1_i32_693 : BitVec 32 := 1#32
  let arg20 : BitVec 32 := Scf.iv c0_i32_691 c1_i32_693 k0_t8
  let c128_i32 : BitVec 32 := 128#32
  let v744 : BitVec 32 := Scalar.muli arg20 c128_i32
  let v745 : BitVec 32 := v744
  let v752 : Index := Scalar.indexCast v745
  let c0_700 : Index := 0#32
  ![2, v752.toNat, 0]
def k0_off20 (k0_t8 : Fin k0_t8_loop.trips) : Fin 3 → Nat :=
  let c0_707 : Index := 0#32
  let c0_i32_691 : BitVec 32 := 0#32
  let c1_i32_693 : BitVec 32 := 1#32
  let arg20 : BitVec 32 := Scf.iv c0_i32_691 c1_i32_693 k0_t8
  let c128_i32 : BitVec 32 := 128#32
  let v744 : BitVec 32 := Scalar.muli arg20 c128_i32
  let v745 : BitVec 32 := v744
  let v783 : Index := Scalar.indexCast v745
  let c0_708 : Index := 0#32
  ![0, v783.toNat, 0]
def cc0_transform_0 (i : grid0.Coords) : Fin 3 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg1
  let c0_i32 : BitVec 32 := 0#32
  let c0_i32_0 : BitVec 32 := 0#32
  ![arg0.toNat, c0_i32.toNat, v0.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c80_i32 : BitVec 32 := 80#32
  let v0 : BitVec 32 := Scalar.addi c80_i32 arg1
  let c0_i32 : BitVec 32 := 0#32
  let c0_i32_0 : BitVec 32 := 0#32
  ![arg0.toNat, c0_i32.toNat, v0.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg1.toNat, c0_i32.toNat, c0_i32_0.toNat, c0_i32_1.toNat, c0_i32_2.toNat]

def cc0_transform_5 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x3x3x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AttRefIdeal.lean ====
abbrev S8x2048x12288 : Shape := ⟨3, ![8, 2048, 12288]⟩
abbrev S32x16 : Shape := ⟨2, ![32, 16]⟩
abbrev S8x2048x4096 : Shape := ⟨3, ![8, 2048, 4096]⟩
abbrev S8x2048x2048 : Shape := ⟨3, ![8, 2048, 2048]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S8x2048x12288, .bf16⟩
  | .hbm, ⟨1, _⟩ => ⟨S32x16, .f32⟩
  | .hbm, ⟨2, _⟩ => ⟨S8x2048x4096, .bf16⟩
  | .hbm, ⟨3, _⟩ => ⟨S8x2048x2048, .bf16⟩
  | .hbm, ⟨4, _⟩ => ⟨S_, .bf16⟩
  | .hbm, ⟨5, _⟩ => ⟨S8x2048x2048, .bf16⟩
  | .hbm, ⟨6, _⟩ => ⟨S8x2048x4096, .bf16⟩
  | _, _ => ⟨S8x2048x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Proof.RetIdealFrame.lean ====
/- The retention call's frame (program `RetIdeal`): it runs to the end, leaves its arguments unchanged and its semaphores at
   zero. What the call leaves in its output is not named here. -/
module

public import proofs.«01_k».proof.Proof.Gen.RetIdeal.Frame.Runs
public import Idealize.ShloMosaic.Lib.Claim

@[expose] public section

set_option maxRecDepth 16384

noncomputable section

namespace Cert.RetIdeal.Unnamed

open Cert.RetIdeal.Gen hiding frame_of
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's run -/

set_option maxHeartbeats 1000000 in
/-- The body's run on whole buffers: the inputs hold given contents and are handed back so; the output and the
    four scratch buffers hold anything and are handed back at some contents. -/
theorem kernelRun0_A (c : Dev nD) (i : grid0.Coords) (arg2 : Memref sig .tc .smem S2x8 .f32) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x256 .bf16) (harg5 : arg5.IsWhole) (arg6 : Memref sig .tc .vmem S1x2048x256 .bf16) (harg6 : arg6.IsWhole) (arg7 : Memref sig .tc .vmem S2048x128 .f32) (harg7 : arg7.IsWhole) (arg8 : Memref sig .tc .vmem S2048x128 .f32) (harg8 : arg8.IsWhole) (arg9 : Memref sig .tc .vmem S1x1x256 .f32) (harg9 : arg9.IsWhole) (arg10 : Memref sig .tc .vmem S1x2048x256 .bf16) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x256 .f32) (harg13 : arg13.IsWhole) (arg14 : Memref sig .tc .vmem S128x256 .f32) (harg14 : arg14.IsWhole)
    (x0 : Vec F S2x8 .f32) (x1 : Vec F S1x2048x128 .bf16) (x2 : Vec F S1x2048x128 .bf16) (x3 : Vec F S1x2048x256 .bf16) (x4 : Vec F S1x2048x256 .bf16) (x5 : Vec F S2048x128 .f32) (x6 : Vec F S2048x128 .f32) (x7 : Vec F S1x1x256 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0_retention i arg2 harg2 arg3 harg3 arg4 harg4 arg5 harg5 arg6 harg6 arg7 harg7 arg8 harg8 arg9 harg9 arg10 harg10 arg11 harg11 arg12 harg12 arg13 harg13 arg14 harg14) K := by
    intro E K
    simp only [cc0_retention_eq_skeleton]; unfold cc0_retention_skel
    simp only [k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _, _; isplitr; swap; · iexact H8
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

/-! ## The pipeline's proof data -/

/-- The window whose contents are left unnamed: the output's, number 8. -/
def forgets0 : Fin 9 → Bool := fun w => w.val == 8

/-- The pipeline's data on core `c`: the arrays as the call finds them; after the body at point `t` each input's
    buffer holds its block, and the output's holds something unnamed; nothing is owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
  Φ _ := Pipeline.ΦA spec0 c
  q w := Pipeline.shareOf spec0 w
  owed _ := 0

/-- The arrays of the data are those the call finds. -/
theorem A_eq (c : Dev nD) (w : Fin cfg0.W) : (dats m 0 c).A w = V m c (Pipeline.arrRef spec0 w) := by
  dsimp only [dats]

/-- What the body leaves in each input's buffer. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]

/-- Each input's buffer holds its block when the body begins. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ (∃ d, owns (c : Thread nD τ) (ms0_8 t) fullShare d))

set_option maxHeartbeats 1200000 in
/-- The body at any point of the grid, by its run on the buffers of that point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  rw [show (dats m 0 c).Φ t.castSucc = Pipeline.ΦA spec0 c from rfl, PhiA0_eq]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_A c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  isplitl [HS1]; · iexact HS1
  isplitl [HS2]; · iexact HS2
  isplitl [HS3]; · iexact HS3
  iintro ⟨H0, H1, H2, H3, H4, H5, H6, H7, H8, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body the pipeline calls at point `t`. -/
theorem defs₀_row (t : Fin cfg0.N) :
    defs₀ (F := F) .tc cfg0.body (cfg0.bodyArgs t (cfg0.slots t)) = bodyAt0 t := by
  unfold defs₀; rw [Defs.onTc_tc]

/-- The body meets its obligation at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- the implicit arguments below are found by unifying types, which takes unfolding plain definitions
set_option backward.isDefEq.respectTransparency.types false in
/-- The whole program runs, and every semaphore ends at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- The whole program runs, from any memory: every input array of the pipeline ends unchanged. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- A final state's input arrays read off the pipeline's own account of them: each is as launched. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(Pipeline.RDat.FramePost.arr_in h c 4 rfl).trans ((hA c 4).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) h

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (fun c => (dats m 0 c).toRForget forgets0) (A_eq m) (run_main m ρ)

/-- The frame: every run ends, the argument arrays unchanged and the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.RetIdeal.Unnamed

end
-- ==== Proof.AttIdealLoops.lean ====
/- The undilated branch's loop of the attention call (program `AttIdeal`): its sixteen trips run. Each writes its block of rows
   into row 0 of the two stacked scratch arrays; what those hold is not named. -/
module

public import proofs.«01_k».proof.Proof.Gen.AttIdeal.Loops
public import proofs.«01_k».proof.Proof.Gen.AttIdeal.Frame

@[expose] public section

set_option maxRecDepth 8192

noncomputable section

namespace Cert.AttIdeal.Unnamed

open Cert.AttIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The rows that trip `k` reads its queries from and writes to: the block of 128 rows from row `128 k`. -/
theorem k0_off8_eq : ∀ k : Fin k0_t5_loop.trips, k0_off8 k = ![128 * k.val, 0] := by decide +kernel
instance closedOff_k0_off8 (k : Fin k0_t5_loop.trips) : ClosedOff (k0_off8 k) := ⟨![128 * k.val, 0], k0_off8_eq k⟩

/-- Before every trip: the four inputs hold what they held at the loop's entry, the two scratch arrays anything. -/
abbrev inv_k0_t5 (c : Dev nD) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x3x3x128x256 .f32) (harg5 : arg5.IsWhole) (arg6 : Memref sig .tc .hbm S8x2048x4096 .bf16) (harg6 : arg6.IsWhole) (arg7 : Memref sig .tc .vmem S1x2048x128 .bf16) (harg7 : arg7.IsWhole) (arg8 : Memref sig .tc .vmem S2048x128 .f32) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S2048x128 .bf16) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S3x2048x128 .f32) (harg16 : arg16.IsWhole) (arg17 : Memref sig .tc .vmem S3x2048x128 .f32) (harg17 : arg17.IsWhole) (arg18 : Memref sig .tc .vmem S2048x128 .f32) (harg18 : arg18.IsWhole) (arg19 : Memref sig .tc .vmem S2048x128 .f32) (harg19 : arg19.IsWhole) (X_arg3 : BufTy.Contents (Elt F) arg3.view.ty) (X_arg4 : BufTy.Contents (Elt F) arg4.view.ty) (X_arg5 : BufTy.Contents (Elt F) arg5.view.ty) (X_arg9 : BufTy.Contents (Elt F) arg9.view.ty) (k : ℕ) (_u : Unit) : sProp 𝕄 :=
  iprop((arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg9.view.loc (c : Thread nD τ) ↦[arg9.view.set]{fullShare} X_arg9) ∗ (∃ f, (arg16.view.loc (c : Thread nD τ) ↦[arg16.view.set]{fullShare} f)) ∗ (∃ f, (arg17.view.loc (c : Thread nD τ) ↦[arg17.view.set]{fullShare} f)))

set_option sl_exec.squeezeSlice true in
set_option maxHeartbeats 4000000 in
/-- One trip, at a symbolic `k`. -/
theorem trip_k0_t5 (𝒱 : Variants) (c : Dev nD) (bd : Option 𝒱.V) (E : Set ℕ) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x3x3x128x256 .f32) (harg5 : arg5.IsWhole) (arg6 : Memref sig .tc .hbm S8x2048x4096 .bf16) (harg6 : arg6.IsWhole) (arg7 : Memref sig .tc .vmem S1x2048x128 .bf16) (harg7 : arg7.IsWhole) (arg8 : Memref sig .tc .vmem S2048x128 .f32) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S2048x128 .bf16) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S3x2048x128 .f32) (harg16 : arg16.IsWhole) (arg17 : Memref sig .tc .vmem S3x2048x128 .f32) (harg17 : arg17.IsWhole) (arg18 : Memref sig .tc .vmem S2048x128 .f32) (harg18 : arg18.IsWhole) (arg19 : Memref sig .tc .vmem S2048x128 .f32) (harg19 : arg19.IsWhole) (v470 : FVec F S128x128 .bf16) (X_arg3 : BufTy.Contents (Elt F) arg3.view.ty) (X_arg4 : BufTy.Contents (Elt F) arg4.view.ty) (X_arg5 : BufTy.Contents (Elt F) arg5.view.ty) (X_arg9 : BufTy.Contents (Elt F) arg9.view.ty) (k : Fin k0_t5_loop.trips) :
    inv_k0_t5 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X_arg3 X_arg4 X_arg5 X_arg9 k.val ()
      ⊢ wp frame (wpE (defs₀ (F := F)) 𝒱 (c : Thread nD τ) bd) E (k0_t5_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v470 k ())
          (fun u => inv_k0_t5 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X_arg3 X_arg4 X_arg5 X_arg9 (k.val + 1) u) := by
  have hk : k.val < 16 := Nat.lt_of_lt_of_le k.isLt k0_t5_abs.2.1
  unfold k0_t5_body
  iintro ⟨HR_arg3, HR_arg4, HR_arg5, HR_arg9, ⟨%f_arg16, HW_arg16⟩, ⟨%f_arg17, HW_arg17⟩⟩
  sl_exec
  sl_step
  isplitl [HR_arg3]; · iexact HR_arg3
  isplitl [HR_arg4]; · iexact HR_arg4
  isplitl [HR_arg5]; · iexact HR_arg5
  isplitl [HR_arg9]; · iexact HR_arg9
  isplitl [HW_arg16]
  · iexists _; iexact HW_arg16
  iexists _; iexact HW_arg17

set_option warn.classDefReducibility false in
/-- The loop by that invariant. -/
@[sl_loop] def loopInv_k0_t5 (𝒱 : Variants) (c : Dev nD) (bd : Option 𝒱.V) (E : Set ℕ) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x3x3x128x256 .f32) (harg5 : arg5.IsWhole) (arg6 : Memref sig .tc .hbm S8x2048x4096 .bf16) (harg6 : arg6.IsWhole) (arg7 : Memref sig .tc .vmem S1x2048x128 .bf16) (harg7 : arg7.IsWhole) (arg8 : Memref sig .tc .vmem S2048x128 .f32) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S2048x128 .bf16) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S3x2048x128 .f32) (harg16 : arg16.IsWhole) (arg17 : Memref sig .tc .vmem S3x2048x128 .f32) (harg17 : arg17.IsWhole) (arg18 : Memref sig .tc .vmem S2048x128 .f32) (harg18 : arg18.IsWhole) (arg19 : Memref sig .tc .vmem S2048x128 .f32) (harg19 : arg19.IsWhole) (v470 : FVec F S128x128 .bf16) (X_arg3 : BufTy.Contents (Elt F) arg3.view.ty) (X_arg4 : BufTy.Contents (Elt F) arg4.view.ty) (X_arg5 : BufTy.Contents (Elt F) arg5.view.ty) (X_arg9 : BufTy.Contents (Elt F) arg9.view.ty) :
    LoopInvTy_k0_t5 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v470 where
  inv := inv_k0_t5 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X_arg3 X_arg4 X_arg5 X_arg9
  step k acc := trip_k0_t5 (F := F) 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v470 X_arg3 X_arg4 X_arg5 X_arg9 k

end Cert.AttIdeal.Unnamed

end
-- ==== Proof.AttIdealFrame.lean ====
/- The attention call's frame (program `AttIdeal`): it runs to the end, leaves its arguments unchanged and its semaphores at
   zero. What the call leaves in its output is not named here. -/
module

public import proofs.«01_k».proof.Proof.AttIdealLoops
public import proofs.«01_k».proof.Proof.Gen.AttIdeal.Frame
public import Idealize.ShloMosaic.Lib.Claim

@[expose] public section

set_option maxRecDepth 16384

noncomputable section

namespace Cert.AttIdeal.Unnamed

open Cert.AttIdeal.Gen hiding frame_of
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The buffers -/

/-- Each window's buffer at point `t`, as the body is called with it, and that it is a whole buffer; -/
abbrev ms0_0 (t : Fin cfg0.N) : Memref sig .tc .vmem S1x2048x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x3x3x128x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2048x128 .bf16 := win0_4.stage (cfg0.slots t 4)
abbrev hs0_4 (t : Fin cfg0.N) : (ms0_4 t).IsWhole := hstage0_4 ((cfg0.slots t 4).cast nbuf0_4)
/-- and the scratch buffers, whole. -/
abbrev scM0_0 : Memref sig .tc .vmem S2048x128 .f32 := Memref.whole cc0_scratch0
abbrev scM0_1 : Memref sig .tc .vmem S2048x128 .bf16 := Memref.whole cc0_scratch1
abbrev scM0_2 : Memref sig .tc .vmem S2048x128 .bf16 := Memref.whole cc0_scratch2
abbrev scM0_3 : Memref sig .tc .vmem S2048x128 .bf16 := Memref.whole cc0_scratch3
abbrev scM0_4 : Memref sig .tc .vmem S2048x128 .bf16 := Memref.whole cc0_scratch4
abbrev scM0_5 : Memref sig .tc .vmem S2048x128 .bf16 := Memref.whole cc0_scratch5
abbrev scM0_6 : Memref sig .tc .vmem S2048x128 .bf16 := Memref.whole cc0_scratch6
abbrev scM0_7 : Memref sig .tc .vmem S2048x128 .bf16 := Memref.whole cc0_scratch7
abbrev scM0_8 : Memref sig .tc .vmem S3x2048x128 .f32 := Memref.whole cc0_scratch8
abbrev scM0_9 : Memref sig .tc .vmem S3x2048x128 .f32 := Memref.whole cc0_scratch9
abbrev scM0_10 : Memref sig .tc .vmem S2048x128 .f32 := Memref.whole cc0_scratch10
abbrev scM0_11 : Memref sig .tc .vmem S2048x128 .f32 := Memref.whole cc0_scratch11

/-- What the pipeline keeps for the body between points: the scratch buffers at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d) ∗ (∃ d, owns (c : Thread nD τ) scM0_11 fullShare d)) ∗ (∃ r, prngReg c r)) := by
  unfold Pipeline.ΦA; rw [scopedRest0_eq]; simp only [scM0_0, scM0_1, scM0_2, scM0_3, scM0_4, scM0_5, scM0_6, scM0_7, scM0_8, scM0_9, scM0_10, scM0_11, owns_whole]; try rfl

/-! ## The body's run -/

set_option sl_exec.squeezeSlice true in
set_option maxHeartbeats 4000000 in
/-- The body's run on whole buffers: the inputs hold given contents and are handed back so; the output and the
    twelve scratch buffers hold anything and are handed back at some contents. -/
theorem kernelRun0_A (c : Dev nD) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x3x3x128x256 .f32) (harg5 : arg5.IsWhole) (arg6 : Memref sig .tc .hbm S8x2048x4096 .bf16) (harg6 : arg6.IsWhole) (arg7 : Memref sig .tc .vmem S1x2048x128 .bf16) (harg7 : arg7.IsWhole) (arg8 : Memref sig .tc .vmem S2048x128 .f32) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S2048x128 .bf16) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S3x2048x128 .f32) (harg16 : arg16.IsWhole) (arg17 : Memref sig .tc .vmem S3x2048x128 .f32) (harg17 : arg17.IsWhole) (arg18 : Memref sig .tc .vmem S2048x128 .f32) (harg18 : arg18.IsWhole) (arg19 : Memref sig .tc .vmem S2048x128 .f32) (harg19 : arg19.IsWhole)
    (x0 : Vec F S1x2048x128 .bf16) (x1 : Vec F S1x2048x128 .bf16) (x2 : Vec F S1x2048x128 .bf16) (x3 : Vec F S1x3x3x128x256 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ⟨⟩))
          ⊢ wp frame (wpE (defs₀ (F := F)) Variants.none c none) E (cc0_dilated_attention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
    intro E K
    simp only [cc0_dilated_attention_eq_skeleton]; unfold cc0_dilated_attention_skel
    unfold owns
    iintro ⟨⟨%f0, %hf0, H0⟩, ⟨%f1, %hf1, H1⟩, ⟨%f2, %hf2, H2⟩, ⟨%f3, %hf3, H3⟩, ⟨%dH4, %fH4, -, H4⟩, ⟨%dHS0, %fHS0, -, HS0⟩, ⟨%dHS1, %fHS1, -, HS1⟩, ⟨%dHS2, %fHS2, -, HS2⟩, ⟨%dHS3, %fHS3, -, HS3⟩, ⟨%dHS4, %fHS4, -, HS4⟩, ⟨%dHS5, %fHS5, -, HS5⟩, ⟨%dHS6, %fHS6, -, HS6⟩, ⟨%dHS7, %fHS7, -, HS7⟩, ⟨%dHS8, %fHS8, -, HS8⟩, ⟨%dHS9, %fHS9, -, HS9⟩, ⟨%dHS10, %fHS10, -, HS10⟩, ⟨%dHS11, %fHS11, -, HS11⟩, Hk⟩
    obtain rfl := harg2.eq_unread hf0; obtain rfl := harg3.eq_unread hf1; obtain rfl := harg4.eq_unread hf2; obtain rfl := harg5.eq_unread hf3
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _, _; isplitr; swap; · iexact H4
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    isplitl [HS8]
    · iexists _, _; isplitr; swap; · iexact HS8
      ipureintro; rfl
    isplitl [HS9]
    · iexists _, _; isplitr; swap; · iexact HS9
      ipureintro; rfl
    isplitl [HS10]
    · iexists _, _; isplitr; swap; · iexact HS10
      ipureintro; rfl
    iexists _, _; isplitr; swap; · iexact HS11
    ipureintro; rfl

/-! ## The pipeline's proof data -/

/-- The window whose contents are left unnamed: the output's, number 4. -/
def forgets0 : Fin 5 → Bool := fun w => w.val == 4

/-- The pipeline's data on core `c`: the arrays as the call finds them; after the body at point `t` each input's
    buffer holds its block, and the output's holds something unnamed; nothing is owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
  Φ _ := Pipeline.ΦA spec0 c
  q w := Pipeline.shareOf spec0 w
  owed _ := 0

/-- The arrays of the data are those the call finds. -/
theorem A_eq (c : Dev nD) (w : Fin cfg0.W) : (dats m 0 c).A w = V m c (Pipeline.arrRef spec0 w) := by
  dsimp only [dats]

/-- What the body leaves in each input's buffer. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

/-- Each input's buffer holds its block when the body begins. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (∃ d, owns (c : Thread nD τ) (ms0_4 t) fullShare d))

set_option maxHeartbeats 1200000 in
/-- The body at any point of the grid, by its run on the buffers of that point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  iintro ⟨⟨⟨HS0, HS1, HS2, HS3, HS4, HS5, HS6, HS7, HS8, HS9, HS10, HS11⟩, Hg⟩, Ho, ⟨%d0, H0⟩, ⟨%d1, H1⟩, ⟨%d2, H2⟩, ⟨%d3, H3⟩, ⟨%d4, H4⟩⟩
  iapply ((kernelRun0_A c (grid0.coords t) _ _ _ _ _ _ _ _ _ _ _ _ _ _ _ _ _ _ _ _ _ _ _ _ _ _ _ _ _ _ _ _ _ _ _ _ (iblk m c 0 t) (iblk m c 1 t) (iblk m c 2 t) (iblk m c 3 t)) Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [HS11]; · iexact HS11
  iintro ⟨H0, H1, H2, H3, H4, HS0, HS1, HS2, HS3, HS4, HS5, HS6, HS7, HS8, HS9, HS10, HS11⟩
  isplitl [HS0 HS1 HS2 HS3 HS4 HS5 HS6 HS7 HS8 HS9 HS10 HS11 Hg]
  · isplitl [HS0 HS1 HS2 HS3 HS4 HS5 HS6 HS7 HS8 HS9 HS10 HS11]
    · isplitl [HS0]
      · iexact HS0
      isplitl [HS1]
      · iexact HS1
      isplitl [HS2]
      · iexact HS2
      isplitl [HS3]
      · iexact HS3
      isplitl [HS4]
      · iexact HS4
      isplitl [HS5]
      · iexact HS5
      isplitl [HS6]
      · iexact HS6
      isplitl [HS7]
      · iexact HS7
      isplitl [HS8]
      · iexact HS8
      isplitl [HS9]
      · iexact HS9
      isplitl [HS10]
      · iexact HS10
      iexact HS11
    iexact Hg
  isplitl [Ho]; · iexact Ho
  isplitl [H0]; · iexact H0
  isplitl [H1]; · iexact H1
  isplitl [H2]; · iexact H2
  isplitl [H3]; · iexact H3
  iexact H4

/-- The body the pipeline calls at point `t`. -/
theorem defs₀_row (t : Fin cfg0.N) :
    defs₀ (F := F) .tc cfg0.body (cfg0.bodyArgs t (cfg0.slots t)) = bodyAt0 t := by
  unfold defs₀; rw [Defs.onTc_tc]

/-- The body meets its obligation at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- the implicit arguments below are found by unifying types, which takes unfolding plain definitions
set_option backward.isDefEq.respectTransparency.types false in
/-- The whole program runs, and every semaphore ends at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- The whole program runs, from any memory: every input array of the pipeline ends unchanged. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- A final state's input arrays read off the pipeline's own account of them: each is as launched. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(Pipeline.RDat.FramePost.arr_in h c 2 rfl).trans ((hA c 2).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) h

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (fun c => (dats m 0 c).toRForget forgets0) (A_eq m) (run_main m ρ)

/-- The frame: every run ends, the argument arrays unchanged and the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.AttIdeal.Unnamed

end
-- ==== Proof.References.lean ====
module

public import proofs.«01_k».proof.Defs
public import proofs.«01_k».proof.Proof.Gen.RetRefIdeal.Run
public import proofs.«01_k».proof.Proof.Gen.UpRefIdeal.Run
public import proofs.«01_k».proof.Proof.Gen.InpRefIdeal.Run
public import proofs.«01_k».proof.Proof.Gen.DownRefIdeal.Run
public import proofs.«01_k».proof.Proof.Gen.OutpRefIdeal.Run
public import proofs.«01_k».proof.Proof.Gen.AttRefIdeal.Run

@[expose] public section

set_option maxRecDepth 16384

noncomputable section

/-! The references run without a fault and leave their arguments as they were; they have no semaphore, so no counter. -/

namespace Cert.References

open Idealize.ShloMosaic Idealize.SL.Sem

theorem frame_Ret : Cert.quiescent_RetRefIdeal (hRetRefIdeal := Cert.RetRefIdeal.Gen.facts) := fun m g _ =>
  (θ_run _ _ _).mono (fun _ h => ⟨fun c => (h c).2, funext fun k => match k with
    | ⟨_, .reg q⟩ => q.elim0
    | ⟨_, .dma q⟩ => q.elim0⟩) (Cert.RetRefIdeal.Value.run m g)

theorem frame_Up : Cert.quiescent_UpRefIdeal (hUpRefIdeal := Cert.UpRefIdeal.Gen.facts) := fun m g _ =>
  (θ_run _ _ _).mono (fun _ h => ⟨fun c => (h c).2, funext fun k => match k with
    | ⟨_, .reg q⟩ => q.elim0
    | ⟨_, .dma q⟩ => q.elim0⟩) (Cert.UpRefIdeal.Value.run m g)

theorem frame_Inp : Cert.quiescent_InpRefIdeal (hInpRefIdeal := Cert.InpRefIdeal.Gen.facts) := fun m g _ =>
  (θ_run _ _ _).mono (fun _ h => ⟨fun c => (h c).2, funext fun k => match k with
    | ⟨_, .reg q⟩ => q.elim0
    | ⟨_, .dma q⟩ => q.elim0⟩) (Cert.InpRefIdeal.Value.run m g)

theorem frame_Down : Cert.quiescent_DownRefIdeal (hDownRefIdeal := Cert.DownRefIdeal.Gen.facts) := fun m g _ =>
  (θ_run _ _ _).mono (fun _ h => ⟨fun c => (h c).2, funext fun k => match k with
    | ⟨_, .reg q⟩ => q.elim0
    | ⟨_, .dma q⟩ => q.elim0⟩) (Cert.DownRefIdeal.Value.run m g)

theorem frame_Outp : Cert.quiescent_OutpRefIdeal (hOutpRefIdeal := Cert.OutpRefIdeal.Gen.facts) := fun m g _ =>
  (θ_run _ _ _).mono (fun _ h => ⟨fun c => (h c).2, funext fun k => match k with
    | ⟨_, .reg q⟩ => q.elim0
    | ⟨_, .dma q⟩ => q.elim0⟩) (Cert.OutpRefIdeal.Value.run m g)

theorem frame_Att : Cert.quiescent_AttRefIdeal (hAttRefIdeal := Cert.AttRefIdeal.Gen.facts) := fun m g _ =>
  (θ_run _ _ _).mono (fun _ h => ⟨fun c => (h c).2, funext fun k => match k with
    | ⟨_, .reg q⟩ => q.elim0
    | ⟨_, .dma q⟩ => q.elim0⟩) (Cert.AttRefIdeal.Value.run m g)

end Cert.References
-- ==== Proof.UpBlock.lean ====
module

public import proofs.«01_k».proof.Proof.Gen.UpIdeal.Value
public import Idealize.ShloMosaic.Lib.Pipeline.ValueKit.Acc
public import Idealize.ShloMosaic.Lib.Pipeline.ValueKit.Point
public import Idealize.ShloMosaic.Lib.Pointwise

@[expose] public section

set_option maxRecDepth 16384
set_option maxHeartbeats 1000000

noncomputable section

namespace Cert.UpIdeal.Block

open Cert.UpIdeal Cert.UpIdeal.Gen Idealize.ShloMosaic Idealize.ShloMosaic.TcCoe Idealize.SL.Sem

/-- One element of a row under its root-mean-square norm with a gain: `x_j · (mean of x² + ε)^(-1/2) · g`. -/
def normAt (row : Fin 4096 → EReal) (x g : EReal) : EReal :=
  x * Ideal.rsqrt (Ideal.div (∑ k : Fin 4096, row k * row k) (Ideal.ofBits .f32 0x45800000#32) + Ideal.ofBits .f32 0x358637BD#32) * g

/-- The blocks' places, decided over the grid. -/
theorem idx0 : ∀ t : Fin cfg0.N, win0_0.index t = ![t.val / 32, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, t.val % 32] := (by decide +kernel : ∀ t : Fin grid0.N, _)

theorem pay1_apply (g : Vec Ideal S1x4096 .f32) (x : Vec Ideal S16x4096 .f32) (r : Fin 16) (j : Fin 4096) :
    k0_pay1 (F := Ideal) g x (ix2 r j) = normAt (fun k => x (ix2 r k)) (x (ix2 r j)) (g (ix2 0 j)) := by
  pointwise [k0_pay1, normAt]

theorem pay2_apply (h : Vec Ideal S512x4096 .bf16) (w : Vec Ideal S4096x512 .bf16) (r : Fin 512) (j : Fin 512) :
    k0_pay2 (F := Ideal) h w (ix2 r j)
      = max (∑ k : Fin 4096, h (ix2 r k) * w (ix2 k j)) 0 * max (∑ k : Fin 4096, h (ix2 r k) * w (ix2 k j)) 0 := by
  pointwise [k0_pay2]

/-- A block of 512 rows, each under the norm. -/
def normBlock (x : Vec Ideal S512x4096 .f32) (g : Vec Ideal S1x4096 .f32) : Vec Ideal S512x4096 .bf16 := fun y =>
  normAt (fun k => x (ix2 (y 0) k)) (x (ix2 (y 0) (y 1))) (g (ix2 0 (y 1)))

/-- What one trip of the row loop stores: one piece, sixteen rows under the norm. -/
theorem trip_pieces (𝒱 : Variants) (c : Dev nD) (bd : Option 𝒱.V) (i : grid0.Coords) (arg2 : Memref sig .tc .vmem S512x4096 .f32) (harg2 : arg2.IsWhole) (arg3 : Memref sig .tc .vmem S1x4096 .f32) (harg3 : arg3.IsWhole) (arg4 : Memref sig .tc .vmem S4096x512 .bf16) (harg4 : arg4.IsWhole) (arg5 : Memref sig .tc .vmem S512x512 .bf16) (harg5 : arg5.IsWhole) (arg6 : Memref sig .tc .vmem S512x4096 .bf16) (harg6 : arg6.IsWhole) (k0_h1 : k0_cond1 i = 1#1) (v11 : Vec Ideal S1x4096 .f32) (X : BufTy.Contents (Elt Ideal) arg2.view.ty) (k : Fin k0_t1_loop.trips) :
    tripL_k0_t1 (F := Ideal) 𝒱 c bd i arg2 harg2 arg3 harg3 arg4 harg4 arg5 harg5 arg6 harg6 k0_h1 v11 X k
      = [⟨Rect.unit (s := S512x4096) (k0_off1 k) S16x4096.size (k0_off1_inb i k k0_h1),
          k0_pay1 v11 (View.ld (arg2.view.read (Elt Ideal) X) (Rect.unit (s := S512x4096) (k0_off1 k) S16x4096.size (k0_off1_inb i k k0_h1)))⟩] := by
  unfold tripL_k0_t1 trip_k0_t1
  rfl

/-- The row loop leaves the whole block under the norm: every trip's piece agrees with it, and the pieces cover. -/
theorem pb_agree (𝒱 : Variants) (c : Dev nD) (bd : Option 𝒱.V) (i : grid0.Coords) (arg2 : Memref sig .tc .vmem S512x4096 .f32) (harg2 : arg2.IsWhole) (arg3 : Memref sig .tc .vmem S1x4096 .f32) (harg3 : arg3.IsWhole) (arg4 : Memref sig .tc .vmem S4096x512 .bf16) (harg4 : arg4.IsWhole) (arg5 : Memref sig .tc .vmem S512x512 .bf16) (harg5 : arg5.IsWhole) (arg6 : Memref sig .tc .vmem S512x4096 .bf16) (harg6 : arg6.IsWhole) (k0_h1 : k0_cond1 i = 1#1) (g : Vec Ideal S1x4096 .f32) (x : Vec Ideal S512x4096 .f32) :
    ∀ n : ℕ, n ≤ k0_t1_loop.trips → ∀ p ∈ pb_k0_t1 (F := Ideal) 𝒱 c bd i arg2 harg2 arg3 harg3 arg4 harg4 arg5 harg5 arg6 harg6 k0_h1 g (harg2.unread x) n,
      ∀ z : p.1.shape.Idx, p.2 z = normBlock x g (p.1.emb z) := by
  intro n
  induction n with
  | zero => intro _ p hp; exact absurd hp List.not_mem_nil
  | succ n ih =>
    intro hn p hp z
    rw [pb_k0_t1_succ 𝒱 c bd i arg2 harg2 arg3 harg3 arg4 harg4 arg5 harg5 arg6 harg6 k0_h1 g (harg2.unread x) ⟨n, hn⟩, trip_pieces] at hp
    rcases List.mem_cons.mp hp with rfl | hp
    · rw [harg2.read_unread]
      dsimp only
      obtain ⟨r, j, rfl⟩ : ∃ (r : Fin 16) (j : Fin 4096), z = ix2 r j := ⟨z 0, z 1, eq_ix2 z⟩
      rw [pay1_apply]
      have e : ∀ q : Fin 4096, (Rect.unit (s := S512x4096) (k0_off1 ⟨n, hn⟩) ![16, 4096] (k0_off1_inb i ⟨n, hn⟩ k0_h1)).emb (ix2 r q)
          = ix2 ((Rect.unit (s := S512x4096) (k0_off1 ⟨n, hn⟩) ![16, 4096] (k0_off1_inb i ⟨n, hn⟩ k0_h1)).emb (ix2 r j) 0) q := by
        intro q
        funext a
        match a with
        | ⟨0, _⟩ => exact Fin.ext rfl
        | ⟨1, _⟩ => exact Fin.ext (by show 0 + 1 * q.val = q.val; omega)
      have e1 : (Rect.unit (s := S512x4096) (k0_off1 ⟨n, hn⟩) ![16, 4096] (k0_off1_inb i ⟨n, hn⟩ k0_h1)).emb (ix2 r j) 1 = j := congrFun (e j) 1
      unfold normBlock
      exact congr (congr (congrArg normAt (funext fun q => congrArg x (e q)))
        (congrArg x ((e j).trans (congrArg (ix2 _) e1.symm)))) (congrArg (fun q => g (ix2 0 q)) e1.symm)
    · exact ih (Nat.le_of_succ_le hn) p hp z

/-- The row loop's pieces cover the block. -/
theorem pb_cover (𝒱 : Variants) (c : Dev nD) (bd : Option 𝒱.V) (i : grid0.Coords) (arg2 : Memref sig .tc .vmem S512x4096 .f32) (harg2 : arg2.IsWhole) (arg3 : Memref sig .tc .vmem S1x4096 .f32) (harg3 : arg3.IsWhole) (arg4 : Memref sig .tc .vmem S4096x512 .bf16) (harg4 : arg4.IsWhole) (arg5 : Memref sig .tc .vmem S512x512 .bf16) (harg5 : arg5.IsWhole) (arg6 : Memref sig .tc .vmem S512x4096 .bf16) (harg6 : arg6.IsWhole) (k0_h1 : k0_cond1 i = 1#1) (g : Vec Ideal S1x4096 .f32) (x : Vec Ideal S512x4096 .f32) (y : S512x4096.Idx) :
    ∃ p ∈ (pb_k0_t1 (F := Ideal) 𝒱 c bd i arg2 harg2 arg3 harg3 arg4 harg4 arg5 harg5 arg6 harg6 k0_h1 g (harg2.unread x) (Scf.trips (0#32) (Scalar.addi 0#32 32#32) 1#32)), y ∈ p.1.set :=
  View.cover_of_tiledL (pb_k0_t1 (F := Ideal) 𝒱 c bd i arg2 harg2 arg3 harg3 arg4 harg4 arg5 harg5 arg6 harg6 k0_h1 g (harg2.unread x) (Scf.trips (0#32) (Scalar.addi 0#32 32#32) 1#32)) S16x4096.size (by sl_kernel_rfl) y

/-- So the block they leave is the normed block, read at an index or loaded whole. -/
theorem canon_pb (𝒱 : Variants) (c : Dev nD) (bd : Option 𝒱.V) (i : grid0.Coords) (arg2 : Memref sig .tc .vmem S512x4096 .f32) (harg2 : arg2.IsWhole) (arg3 : Memref sig .tc .vmem S1x4096 .f32) (harg3 : arg3.IsWhole) (arg4 : Memref sig .tc .vmem S4096x512 .bf16) (harg4 : arg4.IsWhole) (arg5 : Memref sig .tc .vmem S512x512 .bf16) (harg5 : arg5.IsWhole) (arg6 : Memref sig .tc .vmem S512x4096 .bf16) (harg6 : arg6.IsWhole) (k0_h1 : k0_cond1 i = 1#1) (g : Vec Ideal S1x4096 .f32) (x : Vec Ideal S512x4096 .f32) :
    View.canon (pb_k0_t1 (F := Ideal) 𝒱 c bd i arg2 harg2 arg3 harg3 arg4 harg4 arg5 harg5 arg6 harg6 k0_h1 g (harg2.unread x) (Scf.trips (0#32) (Scalar.addi 0#32 32#32) 1#32)) = normBlock x g :=
  funext fun y => View.canon_apply_of_pieces _ _ (pb_agree 𝒱 c bd i arg2 harg2 arg3 harg3 arg4 harg4 arg5 harg5 arg6 harg6 k0_h1 g x _ le_rfl) y
    (pb_cover 𝒱 c bd i arg2 harg2 arg3 harg3 arg4 harg4 arg5 harg5 arg6 harg6 k0_h1 g x y)

theorem readCov_pb {κ : Kind} {sp : Space} (v : View sig κ sp S512x4096 .bf16) (𝒱 : Variants) (c : Dev nD) (bd : Option 𝒱.V) (i : grid0.Coords) (arg2 : Memref sig .tc .vmem S512x4096 .f32) (harg2 : arg2.IsWhole) (arg3 : Memref sig .tc .vmem S1x4096 .f32) (harg3 : arg3.IsWhole) (arg4 : Memref sig .tc .vmem S4096x512 .bf16) (harg4 : arg4.IsWhole) (arg5 : Memref sig .tc .vmem S512x512 .bf16) (harg5 : arg5.IsWhole) (arg6 : Memref sig .tc .vmem S512x4096 .bf16) (harg6 : arg6.IsWhole) (k0_h1 : k0_cond1 i = 1#1) (g : Vec Ideal S1x4096 .f32) (x : Vec Ideal S512x4096 .f32) :
    v.readCov (pb_k0_t1 (F := Ideal) 𝒱 c bd i arg2 harg2 arg3 harg3 arg4 harg4 arg5 harg5 arg6 harg6 k0_h1 g (harg2.unread x) (Scf.trips (0#32) (Scalar.addi 0#32 32#32) 1#32))
      (Rect.unit ![0, 0] ![512, 4096] inb_S512x4096_S512x4096_0_0).toLoadRect = normBlock x g :=
  (View.readCov_eq_canon v _ _ (fun _ => pb_cover 𝒱 c bd i arg2 harg2 arg3 harg3 arg4 harg4 arg5 harg5 arg6 harg6 k0_h1 g x _)).trans
    (by rw [canon_pb]; exact View.ld_unit_lit inb_S512x4096_S512x4096_0_0 _ (by decide))

variable (m : (ℓ : Loc nD τ sig) → Buf (Elt Ideal) ℓ)

/-- The blocks of the input rows and of the gain do not move within a run of 32 points. -/
theorem iblk0_pred (c : Dev nD) (t : Fin cfg0.N) (h0 : ¬t.val % 32 = 0) (h : t.val - 1 < cfg0.N) :
    (iblk m c 0 ⟨t.val - 1, h⟩ : Vec Ideal S512x4096 .f32) = iblk m c 0 t ∧ (iblk m c 1 ⟨t.val - 1, h⟩ : Vec Ideal S1x4096 .f32) = iblk m c 1 t := by
  have := t.isLt
  constructor
  · funext y
    blk_ext [iblk, V, idx0]
  · funext y
    blk_ext [iblk, V, idx1]

/-- After every point the carried scratch holds the current row block under the norm. -/
theorem scratch_eq (c : Dev nD) : ∀ (n : ℕ) (hn : n < cfg0.N), (outsAt0 m c n hn).2 = normBlock (iblk m c 0 ⟨n, hn⟩) (iblk m c 1 ⟨n, hn⟩) := by
  intro n
  induction n with
  | zero =>
    intro hn
    rw [outsAt0_A m c ⟨0, hn⟩ (Nat.zero_mod _)]
    frame_open
    frame_out
    exact canon_pb ..
  | succ n ih =>
    intro hn
    by_cases h0 : (n + 1) % 32 = 0
    · rw [outsAt0_A m c ⟨n + 1, hn⟩ h0]
      frame_open
      frame_out
      exact canon_pb ..
    · rw [outsAt0_B m c ⟨n + 1, hn⟩ h0]
      dsimp only [sout0_B_0]
      refine (ih (Nat.lt_of_succ_lt hn)).trans ?_
      obtain ⟨e0, e1⟩ := iblk0_pred m c ⟨n + 1, hn⟩ h0 (Nat.lt_of_succ_lt hn)
      exact congrArg₂ normBlock e0 e1

/-- What every point leaves in its block of the result: the product of the normed rows with the point's columns. -/
theorem out_eq (c : Dev nD) (t : Fin cfg0.N) :
    (outsAt0 m c t.val t.isLt).1 = k0_pay2 (F := Ideal) (normBlock (iblk m c 0 t) (iblk m c 1 t)) (iblk m c 2 t) := by
  by_cases h0 : t.val % 32 = 0
  · rw [outsAt0_A m c t h0]
    frame_open
    frame_out
    exact congrArg (fun h => k0_pay2 h _) (readCov_pb ..)
  · have h1 := scratch_eq m c (t.val - 1) (Nat.lt_of_le_of_lt (Nat.sub_le _ _) t.isLt)
    obtain ⟨e0, e1⟩ := iblk0_pred m c t h0 (Nat.lt_of_le_of_lt (Nat.sub_le _ _) t.isLt)
    rw [outsAt0_B m c t h0]
    frame_open
    frame_out
    exact congrArg (fun h => k0_pay2 h _) ((Memref.IsWhole.read_unread _ _).trans (h1.trans (congrArg₂ normBlock e0 e1)))

end Cert.UpIdeal.Block
-- ==== Proof.UpValue.lean ====
module

public import proofs.«01_k».proof.Proof.UpBlock
public import proofs.«01_k».proof.Proof.Gen.UpRefIdeal.Read
public import proofs.«01_k».proof.Defs

@[expose] public section

set_option maxRecDepth 16384
set_option maxHeartbeats 1000000

noncomputable section

namespace Cert.UpIdeal.Block

open Cert.UpIdeal Cert.UpIdeal.Gen Idealize.ShloMosaic Idealize.ShloMosaic.TcCoe Idealize.SL.Sem

/-- The reference at an element: the squared ReLU of the normed row times a column. -/
theorem ref_apply (x0 : Vec Ideal S16384x4096 .f32) (x1 : Vec Ideal S4096 .f32) (x2 : Vec Ideal S4096x16384 .bf16) (r j : Fin 16384) :
    Cert.UpRefIdeal.Read.val_main_v18 (F := Ideal) x0 x1 x2 (ix2 r j)
      = max (∑ k : Fin 4096, normAt (fun q => x0 (ix2 r q)) (x0 (ix2 r k)) (x1 (ix1 k)) * x2 (ix2 k j)) 0
        * max (∑ k : Fin 4096, normAt (fun q => x0 (ix2 r q)) (x0 (ix2 r k)) (x1 (ix1 k)) * x2 (ix2 k j)) 0 := by
  rw [← Cert.UpRefIdeal.Read.val_main_v18_eq]
  pointwise [normAt]

variable (m : (ℓ : Loc nD τ sig) → Buf (Elt Ideal) ℓ)

theorem idx3 : ∀ t : Fin cfg0.N, win0_3.index t = ![t.val / 32, t.val % 32] := (by decide +kernel : ∀ t : Fin grid0.N, _)

/-- The kernel's block at point `t`, at an element, over the arguments. -/
theorem block_apply (c : Dev nD) (t : Fin cfg0.N) (r j : Fin 512) (R J : Fin 16384)
    (hR : R.val = t.val / 32 * 512 + r.val) (hJ : J.val = t.val % 32 * 512 + j.val) :
    k0_pay2 (F := Ideal) (normBlock (iblk m c 0 t) (iblk m c 1 t)) (iblk m c 2 t) (ix2 r j)
      = Cert.UpRefIdeal.Read.val_main_v18 (F := Ideal) (m ((c : Thread nD τ).loc main_arg0)) (m ((c : Thread nD τ).loc main_arg1)) (m ((c : Thread nD τ).loc main_arg2)) (ix2 R J) := by
  have h0 : ∀ q : Fin 4096, (iblk m c 0 t : Vec Ideal S512x4096 .f32) (ix2 r q) = (m ((c : Thread nD τ).loc main_arg0) : Vec Ideal S16384x4096 .f32) (ix2 R q) := by
    intro q
    blk_ext [iblk, V, idx0]
  have h1 : ∀ q : Fin 4096, (iblk m c 1 t : Vec Ideal S1x4096 .f32) (ix2 0 q) = (m ((c : Thread nD τ).loc main_arg1) : Vec Ideal S4096 .f32) (ix1 q) := by
    intro q
    blk_ext! [iblk, V, idx1]
  have h2 : ∀ q : Fin 4096, (iblk m c 2 t : Vec Ideal S4096x512 .bf16) (ix2 q j) = (m ((c : Thread nD τ).loc main_arg2) : Vec Ideal S4096x16384 .bf16) (ix2 q J) := by
    intro q
    blk_ext [iblk, V, idx2]
  have hn : ∀ q : Fin 4096, normBlock (iblk m c 0 t) (iblk m c 1 t) (ix2 r q) = normAt (fun q => (m ((c : Thread nD τ).loc main_arg0) : Vec Ideal S16384x4096 .f32) (ix2 R q)) ((m ((c : Thread nD τ).loc main_arg0) : Vec Ideal S16384x4096 .f32) (ix2 R q)) ((m ((c : Thread nD τ).loc main_arg1) : Vec Ideal S4096 .f32) (ix1 q)) :=
    fun q => congr (congr (congrArg normAt (funext h0)) (h0 q)) (h1 q)
  rw [pay2_apply, ref_apply]
  have hs := Finset.sum_congr (rfl : (Finset.univ : Finset (Fin 4096)) = Finset.univ) fun q _ => congr (congrArg HMul.hMul (hn q)) (h2 q)
  exact congrArg (fun z : EReal => max z 0 * max z 0) hs

/-- The array the kernel leaves is the reference's value of the arguments. -/
theorem arr_eq (c : Dev nD) : (dats m 0 c).arrAt 3 cfg0.N
    = Cert.UpRefIdeal.Read.val_main_v18 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  show (dats m 0 c).after 3 t y = _
  rw [after0_3, out_eq]
  have e : ((cfg0.win 3).blk t).view.emb y = ix2 (((cfg0.win 3).blk t).view.emb y 0) (((cfg0.win 3).blk t).view.emb y 1) := ValueIdx.eq_ix2 _
  rw [e]
  have ey : y = ix2 (y 0) (y 1) := ValueIdx.eq_ix2 _
  refine (congrArg _ ey).trans (block_apply m c t (y 0) (y 1) _ _ ?_ ?_)
  · blk_simp [idx3]
  · blk_simp [idx3]

/-- The up projection's kernel computes what its reference computes, over the extended reals. -/
theorem algebraic : Cert.algebraic_UpIdeal_UpRefIdeal := fun m g m' g' _ hag =>
  ⟨fun c => Cert.UpRefIdeal.Read.val_main_v18 (F := Ideal) (m ((c : Thread nD τ).loc main_arg0)) (m ((c : Thread nD τ).loc main_arg1)) (m ((c : Thread nD τ).loc main_arg2)),
    (θ_run _ _ _).mono (fun _ h c => ⟨(h c).1.trans (arr_eq m c), (h c).2⟩) (Value.run_blocks m g),
    (θ_run _ _ _).mono (fun _ h c => ⟨(h c).1.trans (by
      rw [(hag c).1, (hag c).2.1, (hag c).2.2]
      exact Cert.UpRefIdeal.Read.val_main_v18_eq ..), (h c).2⟩) (Cert.UpRefIdeal.Value.run m' g')⟩

end Cert.UpIdeal.Block
-- ==== Proof.InpBlock.lean ====
module

public import proofs.«01_k».proof.Proof.Gen.InpIdeal.Value
public import Idealize.ShloMosaic.Lib.Pipeline.ValueKit.Acc
public import Idealize.ShloMosaic.Lib.Pipeline.ValueKit.Point
public import Idealize.ShloMosaic.Lib.Pointwise

@[expose] public section

set_option maxRecDepth 16384
set_option maxHeartbeats 1000000

noncomputable section

namespace Cert.InpIdeal.Block

open Cert.InpIdeal Cert.InpIdeal.Gen Idealize.ShloMosaic Idealize.ShloMosaic.TcCoe Idealize.SL.Sem

/-- One element of a row under its root-mean-square norm with a gain: `x_j · (mean of x² + ε)^(-1/2) · g`. -/
def normAt (row : Fin 4096 → EReal) (x g : EReal) : EReal :=
  x * Ideal.rsqrt (Ideal.div (∑ k : Fin 4096, row k * row k) (Ideal.ofBits .f32 0x45800000#32) + Ideal.ofBits .f32 0x358637BD#32) * g

/-- The blocks' places, decided over the grid. -/
theorem idx0 : ∀ t : Fin cfg0.N, win0_0.index t = ![t.val / 24, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, t.val % 24] := (by decide +kernel : ∀ t : Fin grid0.N, _)

theorem pay1_apply (g : Vec Ideal S1x4096 .f32) (x : Vec Ideal S16x4096 .f32) (r : Fin 16) (j : Fin 4096) :
    k0_pay1 (F := Ideal) g x (ix2 r j) = normAt (fun k => x (ix2 r k)) (x (ix2 r j)) (g (ix2 0 j)) := by
  pointwise [k0_pay1, normAt]

theorem pay2_apply (h : Vec Ideal S512x4096 .bf16) (w : Vec Ideal S4096x512 .bf16) (r : Fin 512) (j : Fin 512) :
    k0_pay2 (F := Ideal) h w (ix2 r j)
      = ∑ k : Fin 4096, h (ix2 r k) * w (ix2 k j) := by
  pointwise [k0_pay2]

/-- A block of 512 rows, each under the norm. -/
def normBlock (x : Vec Ideal S512x4096 .f32) (g : Vec Ideal S1x4096 .f32) : Vec Ideal S512x4096 .bf16 := fun y =>
  normAt (fun k => x (ix2 (y 0) k)) (x (ix2 (y 0) (y 1))) (g (ix2 0 (y 1)))

/-- What one trip of the row loop stores: one piece, sixteen rows under the norm. -/
theorem trip_pieces (𝒱 : Variants) (c : Dev nD) (bd : Option 𝒱.V) (i : grid0.Coords) (arg2 : Memref sig .tc .vmem S512x4096 .f32) (harg2 : arg2.IsWhole) (arg3 : Memref sig .tc .vmem S1x4096 .f32) (harg3 : arg3.IsWhole) (arg4 : Memref sig .tc .vmem S4096x512 .bf16) (harg4 : arg4.IsWhole) (arg5 : Memref sig .tc .vmem S512x512 .bf16) (harg5 : arg5.IsWhole) (arg6 : Memref sig .tc .vmem S512x4096 .bf16) (harg6 : arg6.IsWhole) (k0_h1 : k0_cond1 i = 1#1) (v11 : Vec Ideal S1x4096 .f32) (X : BufTy.Contents (Elt Ideal) arg2.view.ty) (k : Fin k0_t1_loop.trips) :
    tripL_k0_t1 (F := Ideal) 𝒱 c bd i arg2 harg2 arg3 harg3 arg4 harg4 arg5 harg5 arg6 harg6 k0_h1 v11 X k
      = [⟨Rect.unit (s := S512x4096) (k0_off1 k) S16x4096.size (k0_off1_inb i k k0_h1),
          k0_pay1 v11 (View.ld (arg2.view.read (Elt Ideal) X) (Rect.unit (s := S512x4096) (k0_off1 k) S16x4096.size (k0_off1_inb i k k0_h1)))⟩] := by
  unfold tripL_k0_t1 trip_k0_t1
  rfl

/-- The row loop leaves the whole block under the norm: every trip's piece agrees with it, and the pieces cover. -/
theorem pb_agree (𝒱 : Variants) (c : Dev nD) (bd : Option 𝒱.V) (i : grid0.Coords) (arg2 : Memref sig .tc .vmem S512x4096 .f32) (harg2 : arg2.IsWhole) (arg3 : Memref sig .tc .vmem S1x4096 .f32) (harg3 : arg3.IsWhole) (arg4 : Memref sig .tc .vmem S4096x512 .bf16) (harg4 : arg4.IsWhole) (arg5 : Memref sig .tc .vmem S512x512 .bf16) (harg5 : arg5.IsWhole) (arg6 : Memref sig .tc .vmem S512x4096 .bf16) (harg6 : arg6.IsWhole) (k0_h1 : k0_cond1 i = 1#1) (g : Vec Ideal S1x4096 .f32) (x : Vec Ideal S512x4096 .f32) :
    ∀ n : ℕ, n ≤ k0_t1_loop.trips → ∀ p ∈ pb_k0_t1 (F := Ideal) 𝒱 c bd i arg2 harg2 arg3 harg3 arg4 harg4 arg5 harg5 arg6 harg6 k0_h1 g (harg2.unread x) n,
      ∀ z : p.1.shape.Idx, p.2 z = normBlock x g (p.1.emb z) := by
  intro n
  induction n with
  | zero => intro _ p hp; exact absurd hp List.not_mem_nil
  | succ n ih =>
    intro hn p hp z
    rw [pb_k0_t1_succ 𝒱 c bd i arg2 harg2 arg3 harg3 arg4 harg4 arg5 harg5 arg6 harg6 k0_h1 g (harg2.unread x) ⟨n, hn⟩, trip_pieces] at hp
    rcases List.mem_cons.mp hp with rfl | hp
    · rw [harg2.read_unread]
      dsimp only
      obtain ⟨r, j, rfl⟩ : ∃ (r : Fin 16) (j : Fin 4096), z = ix2 r j := ⟨z 0, z 1, eq_ix2 z⟩
      rw [pay1_apply]
      have e : ∀ q : Fin 4096, (Rect.unit (s := S512x4096) (k0_off1 ⟨n, hn⟩) ![16, 4096] (k0_off1_inb i ⟨n, hn⟩ k0_h1)).emb (ix2 r q)
          = ix2 ((Rect.unit (s := S512x4096) (k0_off1 ⟨n, hn⟩) ![16, 4096] (k0_off1_inb i ⟨n, hn⟩ k0_h1)).emb (ix2 r j) 0) q := by
        intro q
        funext a
        match a with
        | ⟨0, _⟩ => exact Fin.ext rfl
        | ⟨1, _⟩ => exact Fin.ext (by show 0 + 1 * q.val = q.val; omega)
      have e1 : (Rect.unit (s := S512x4096) (k0_off1 ⟨n, hn⟩) ![16, 4096] (k0_off1_inb i ⟨n, hn⟩ k0_h1)).emb (ix2 r j) 1 = j := congrFun (e j) 1
      unfold normBlock
      exact congr (congr (congrArg normAt (funext fun q => congrArg x (e q)))
        (congrArg x ((e j).trans (congrArg (ix2 _) e1.symm)))) (congrArg (fun q => g (ix2 0 q)) e1.symm)
    · exact ih (Nat.le_of_succ_le hn) p hp z

/-- The row loop's pieces cover the block. -/
theorem pb_cover (𝒱 : Variants) (c : Dev nD) (bd : Option 𝒱.V) (i : grid0.Coords) (arg2 : Memref sig .tc .vmem S512x4096 .f32) (harg2 : arg2.IsWhole) (arg3 : Memref sig .tc .vmem S1x4096 .f32) (harg3 : arg3.IsWhole) (arg4 : Memref sig .tc .vmem S4096x512 .bf16) (harg4 : arg4.IsWhole) (arg5 : Memref sig .tc .vmem S512x512 .bf16) (harg5 : arg5.IsWhole) (arg6 : Memref sig .tc .vmem S512x4096 .bf16) (harg6 : arg6.IsWhole) (k0_h1 : k0_cond1 i = 1#1) (g : Vec Ideal S1x4096 .f32) (x : Vec Ideal S512x4096 .f32) (y : S512x4096.Idx) :
    ∃ p ∈ (pb_k0_t1 (F := Ideal) 𝒱 c bd i arg2 harg2 arg3 harg3 arg4 harg4 arg5 harg5 arg6 harg6 k0_h1 g (harg2.unread x) (Scf.trips (0#32) (Scalar.addi 0#32 32#32) 1#32)), y ∈ p.1.set :=
  View.cover_of_tiledL (pb_k0_t1 (F := Ideal) 𝒱 c bd i arg2 harg2 arg3 harg3 arg4 harg4 arg5 harg5 arg6 harg6 k0_h1 g (harg2.unread x) (Scf.trips (0#32) (Scalar.addi 0#32 32#32) 1#32)) S16x4096.size (by sl_kernel_rfl) y

/-- So the block they leave is the normed block, read at an index or loaded whole. -/
theorem canon_pb (𝒱 : Variants) (c : Dev nD) (bd : Option 𝒱.V) (i : grid0.Coords) (arg2 : Memref sig .tc .vmem S512x4096 .f32) (harg2 : arg2.IsWhole) (arg3 : Memref sig .tc .vmem S1x4096 .f32) (harg3 : arg3.IsWhole) (arg4 : Memref sig .tc .vmem S4096x512 .bf16) (harg4 : arg4.IsWhole) (arg5 : Memref sig .tc .vmem S512x512 .bf16) (harg5 : arg5.IsWhole) (arg6 : Memref sig .tc .vmem S512x4096 .bf16) (harg6 : arg6.IsWhole) (k0_h1 : k0_cond1 i = 1#1) (g : Vec Ideal S1x4096 .f32) (x : Vec Ideal S512x4096 .f32) :
    View.canon (pb_k0_t1 (F := Ideal) 𝒱 c bd i arg2 harg2 arg3 harg3 arg4 harg4 arg5 harg5 arg6 harg6 k0_h1 g (harg2.unread x) (Scf.trips (0#32) (Scalar.addi 0#32 32#32) 1#32)) = normBlock x g :=
  funext fun y => View.canon_apply_of_pieces _ _ (pb_agree 𝒱 c bd i arg2 harg2 arg3 harg3 arg4 harg4 arg5 harg5 arg6 harg6 k0_h1 g x _ le_rfl) y
    (pb_cover 𝒱 c bd i arg2 harg2 arg3 harg3 arg4 harg4 arg5 harg5 arg6 harg6 k0_h1 g x y)

theorem readCov_pb {κ : Kind} {sp : Space} (v : View sig κ sp S512x4096 .bf16) (𝒱 : Variants) (c : Dev nD) (bd : Option 𝒱.V) (i : grid0.Coords) (arg2 : Memref sig .tc .vmem S512x4096 .f32) (harg2 : arg2.IsWhole) (arg3 : Memref sig .tc .vmem S1x4096 .f32) (harg3 : arg3.IsWhole) (arg4 : Memref sig .tc .vmem S4096x512 .bf16) (harg4 : arg4.IsWhole) (arg5 : Memref sig .tc .vmem S512x512 .bf16) (harg5 : arg5.IsWhole) (arg6 : Memref sig .tc .vmem S512x4096 .bf16) (harg6 : arg6.IsWhole) (k0_h1 : k0_cond1 i = 1#1) (g : Vec Ideal S1x4096 .f32) (x : Vec Ideal S512x4096 .f32) :
    v.readCov (pb_k0_t1 (F := Ideal) 𝒱 c bd i arg2 harg2 arg3 harg3 arg4 harg4 arg5 harg5 arg6 harg6 k0_h1 g (harg2.unread x) (Scf.trips (0#32) (Scalar.addi 0#32 32#32) 1#32))
      (Rect.unit ![0, 0] ![512, 4096] inb_S512x4096_S512x4096_0_0).toLoadRect = normBlock x g :=
  (View.readCov_eq_canon v _ _ (fun _ => pb_cover 𝒱 c bd i arg2 harg2 arg3 harg3 arg4 harg4 arg5 harg5 arg6 harg6 k0_h1 g x _)).trans
    (by rw [canon_pb]; exact View.ld_unit_lit inb_S512x4096_S512x4096_0_0 _ (by decide))

variable (m : (ℓ : Loc nD τ sig) → Buf (Elt Ideal) ℓ)

/-- The blocks of the input rows and of the gain do not move within a run of 24 points. -/
theorem iblk0_pred (c : Dev nD) (t : Fin cfg0.N) (h0 : ¬t.val % 24 = 0) (h : t.val - 1 < cfg0.N) :
    (iblk m c 0 ⟨t.val - 1, h⟩ : Vec Ideal S512x4096 .f32) = iblk m c 0 t ∧ (iblk m c 1 ⟨t.val - 1, h⟩ : Vec Ideal S1x4096 .f32) = iblk m c 1 t := by
  have := t.isLt
  constructor
  · funext y
    blk_ext [iblk, V, idx0]
  · funext y
    blk_ext [iblk, V, idx1]

/-- After every point the carried scratch holds the current row block under the norm. -/
theorem scratch_eq (c : Dev nD) : ∀ (n : ℕ) (hn : n < cfg0.N), (outsAt0 m c n hn).2 = normBlock (iblk m c 0 ⟨n, hn⟩) (iblk m c 1 ⟨n, hn⟩) := by
  intro n
  induction n with
  | zero =>
    intro hn
    rw [outsAt0_A m c ⟨0, hn⟩ (Nat.zero_mod _)]
    frame_open
    frame_out
    exact canon_pb ..
  | succ n ih =>
    intro hn
    by_cases h0 : (n + 1) % 24 = 0
    · rw [outsAt0_A m c ⟨n + 1, hn⟩ h0]
      frame_open
      frame_out
      exact canon_pb ..
    · rw [outsAt0_B m c ⟨n + 1, hn⟩ h0]
      dsimp only [sout0_B_0]
      refine (ih (Nat.lt_of_succ_lt hn)).trans ?_
      obtain ⟨e0, e1⟩ := iblk0_pred m c ⟨n + 1, hn⟩ h0 (Nat.lt_of_succ_lt hn)
      exact congrArg₂ normBlock e0 e1

/-- What every point leaves in its block of the result: the product of the normed rows with the point's columns. -/
theorem out_eq (c : Dev nD) (t : Fin cfg0.N) :
    (outsAt0 m c t.val t.isLt).1 = k0_pay2 (F := Ideal) (normBlock (iblk m c 0 t) (iblk m c 1 t)) (iblk m c 2 t) := by
  by_cases h0 : t.val % 24 = 0
  · rw [outsAt0_A m c t h0]
    frame_open
    frame_out
    exact congrArg (fun h => k0_pay2 h _) (readCov_pb ..)
  · have h1 := scratch_eq m c (t.val - 1) (Nat.lt_of_le_of_lt (Nat.sub_le _ _) t.isLt)
    obtain ⟨e0, e1⟩ := iblk0_pred m c t h0 (Nat.lt_of_le_of_lt (Nat.sub_le _ _) t.isLt)
    rw [outsAt0_B m c t h0]
    frame_open
    frame_out
    exact congrArg (fun h => k0_pay2 h _) ((Memref.IsWhole.read_unread _ _).trans (h1.trans (congrArg₂ normBlock e0 e1)))

end Cert.InpIdeal.Block
-- ==== Proof.InpValue.lean ====
module

public import proofs.«01_k».proof.Proof.InpBlock
public import proofs.«01_k».proof.Proof.Gen.InpRefIdeal.Read
public import proofs.«01_k».proof.Defs

@[expose] public section

set_option maxRecDepth 16384
set_option maxHeartbeats 1000000

noncomputable section

namespace Cert.InpIdeal.Block

open Cert.InpIdeal Cert.InpIdeal.Gen Idealize.ShloMosaic Idealize.ShloMosaic.TcCoe Idealize.SL.Sem

/-- The reference at an element: the normed row times a column. -/
theorem ref_apply (x0 : Vec Ideal S16384x4096 .f32) (x1 : Vec Ideal S4096 .f32) (x2 : Vec Ideal S4096x12288 .bf16) (r : Fin 16384) (j : Fin 12288) :
    Cert.InpRefIdeal.Read.val_main_v15 (F := Ideal) x0 x1 x2 (ix2 r j)
      = ∑ k : Fin 4096, normAt (fun q => x0 (ix2 r q)) (x0 (ix2 r k)) (x1 (ix1 k)) * x2 (ix2 k j) := by
  rw [← Cert.InpRefIdeal.Read.val_main_v15_eq]
  pointwise [normAt]

variable (m : (ℓ : Loc nD τ sig) → Buf (Elt Ideal) ℓ)

theorem idx3 : ∀ t : Fin cfg0.N, win0_3.index t = ![t.val / 24, t.val % 24] := (by decide +kernel : ∀ t : Fin grid0.N, _)

/-- The kernel's block at point `t`, at an element, over the arguments. -/
theorem block_apply (c : Dev nD) (t : Fin cfg0.N) (r j : Fin 512) (R : Fin 16384) (J : Fin 12288)
    (hR : R.val = t.val / 24 * 512 + r.val) (hJ : J.val = t.val % 24 * 512 + j.val) :
    k0_pay2 (F := Ideal) (normBlock (iblk m c 0 t) (iblk m c 1 t)) (iblk m c 2 t) (ix2 r j)
      = Cert.InpRefIdeal.Read.val_main_v15 (F := Ideal) (m ((c : Thread nD τ).loc main_arg0)) (m ((c : Thread nD τ).loc main_arg1)) (m ((c : Thread nD τ).loc main_arg2)) (ix2 R J) := by
  have h0 : ∀ q : Fin 4096, (iblk m c 0 t : Vec Ideal S512x4096 .f32) (ix2 r q) = (m ((c : Thread nD τ).loc main_arg0) : Vec Ideal S16384x4096 .f32) (ix2 R q) := by
    intro q
    blk_ext [iblk, V, idx0]
  have h1 : ∀ q : Fin 4096, (iblk m c 1 t : Vec Ideal S1x4096 .f32) (ix2 0 q) = (m ((c : Thread nD τ).loc main_arg1) : Vec Ideal S4096 .f32) (ix1 q) := by
    intro q
    blk_ext! [iblk, V, idx1]
  have h2 : ∀ q : Fin 4096, (iblk m c 2 t : Vec Ideal S4096x512 .bf16) (ix2 q j) = (m ((c : Thread nD τ).loc main_arg2) : Vec Ideal S4096x12288 .bf16) (ix2 q J) := by
    intro q
    blk_ext [iblk, V, idx2]
  have hn : ∀ q : Fin 4096, normBlock (iblk m c 0 t) (iblk m c 1 t) (ix2 r q) = normAt (fun q => (m ((c : Thread nD τ).loc main_arg0) : Vec Ideal S16384x4096 .f32) (ix2 R q)) ((m ((c : Thread nD τ).loc main_arg0) : Vec Ideal S16384x4096 .f32) (ix2 R q)) ((m ((c : Thread nD τ).loc main_arg1) : Vec Ideal S4096 .f32) (ix1 q)) :=
    fun q => congr (congr (congrArg normAt (funext h0)) (h0 q)) (h1 q)
  rw [pay2_apply, ref_apply]
  have hs := Finset.sum_congr (rfl : (Finset.univ : Finset (Fin 4096)) = Finset.univ) fun q _ => congr (congrArg HMul.hMul (hn q)) (h2 q)
  exact hs

/-- The array the kernel leaves is the reference's value of the arguments. -/
theorem arr_eq (c : Dev nD) : (dats m 0 c).arrAt 3 cfg0.N
    = Cert.InpRefIdeal.Read.val_main_v15 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  show (dats m 0 c).after 3 t y = _
  rw [after0_3, out_eq]
  have e : ((cfg0.win 3).blk t).view.emb y = ix2 (((cfg0.win 3).blk t).view.emb y 0) (((cfg0.win 3).blk t).view.emb y 1) := ValueIdx.eq_ix2 _
  rw [e]
  have ey : y = ix2 (y 0) (y 1) := ValueIdx.eq_ix2 _
  refine (congrArg _ ey).trans (block_apply m c t (y 0) (y 1) _ _ ?_ ?_)
  · blk_simp [idx3]
  · blk_simp [idx3]

/-- The input projection's kernel computes what its reference computes, over the extended reals. -/
theorem algebraic : Cert.algebraic_InpIdeal_InpRefIdeal := fun m g m' g' _ hag =>
  ⟨fun c => Cert.InpRefIdeal.Read.val_main_v15 (F := Ideal) (m ((c : Thread nD τ).loc main_arg0)) (m ((c : Thread nD τ).loc main_arg1)) (m ((c : Thread nD τ).loc main_arg2)),
    (θ_run _ _ _).mono (fun _ h c => ⟨(h c).1.trans (arr_eq m c), (h c).2⟩) (Value.run_blocks m g),
    (θ_run _ _ _).mono (fun _ h c => ⟨(h c).1.trans (by
      rw [(hag c).1, (hag c).2.1, (hag c).2.2]
      exact Cert.InpRefIdeal.Read.val_main_v15_eq ..), (h c).2⟩) (Cert.InpRefIdeal.Value.run m' g')⟩

end Cert.InpIdeal.Block
-- ==== Proof.DownBlock.lean ====
module

public import proofs.«01_k».proof.Proof.Gen.DownIdeal.Value
public import Idealize.ShloMosaic.Lib.Pipeline.ValueKit.Acc
public import Idealize.ShloMosaic.Lib.Pipeline.ValueKit.Point
public import Idealize.ShloMosaic.Lib.Pointwise

@[expose] public section

set_option maxRecDepth 16384
set_option maxHeartbeats 1000000

noncomputable section

namespace Cert.DownIdeal.Block

open Cert.DownIdeal Cert.DownIdeal.Gen Idealize.ShloMosaic Idealize.ShloMosaic.TcCoe Idealize.SL.Sem

/-- One element of a row under its root-mean-square norm with a gain: `x_j · (mean of x² + ε)^(-1/2) · g`. -/
def normAt (row : Fin 4096 → EReal) (x g : EReal) : EReal :=
  x * Ideal.rsqrt (Ideal.div (∑ k : Fin 4096, row k * row k) (Ideal.ofBits .f32 0x45800000#32) + Ideal.ofBits .f32 0x358637BD#32) * g

/-- A matrix as a function of any two numbers, zero outside it. -/
def ext {n0 n1 : ℕ} (A : (⟨2, ![n0, n1]⟩ : Shape).Idx → EReal) (a b : ℕ) : EReal :=
  if h : a < n0 ∧ b < n1 then A (ix2 ⟨a, h.1⟩ ⟨b, h.2⟩) else 0

theorem ext_at {n0 n1 : ℕ} (A : (⟨2, ![n0, n1]⟩ : Shape).Idx → EReal) (a : Fin n0) (b : Fin n1) : ext A a.val b.val = A (ix2 a b) :=
  dif_pos ⟨a.isLt, b.isLt⟩

/-- The first `n` terms of a row times a column. -/
def dotTo (U : Vec Ideal S16384x16384 .bf16) (W : Vec Ideal S16384x4096 .bf16) (a b n : ℕ) : EReal :=
  ∑ q ∈ Finset.range n, ext U a q * ext W q b

theorem idx0 : ∀ t : Fin cfg0.N, win0_0.index t = ![t.val / 32, t.val % 32] := (by decide +kernel : ∀ t : Fin grid0.N, _)
theorem idx1 : ∀ t : Fin cfg0.N, win0_1.index t = ![t.val % 32, 0] := (by decide +kernel : ∀ t : Fin grid0.N, _)
theorem idx2 : ∀ t : Fin cfg0.N, win0_2.index t = ![t.val / 32, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val / 32, 0] := (by decide +kernel : ∀ t : Fin grid0.N, _)

theorem pay1_apply (u : Vec Ideal S512x512 .bf16) (w : Vec Ideal S512x4096 .bf16) (r : Fin 512) (j : Fin 4096) :
    k0_pay1 (F := Ideal) u w (ix2 r j) = ∑ q : Fin 512, u (ix2 r q) * w (ix2 q j) := by
  pointwise [k0_pay1]

theorem pay2_eq (u : Vec Ideal S512x512 .bf16) (w : Vec Ideal S512x4096 .bf16) :
    k0_pay2 (F := Ideal) u w = k0_pay1 (F := Ideal) u w := by
  funext y
  unfold k0_pay2
  exact congrFun (shapeCast_self _ _) y

theorem pay3_apply (u : Vec Ideal S512x512 .bf16) (w : Vec Ideal S512x4096 .bf16) (acc : Vec Ideal S512x4096 .f32) (y : S512x4096.Idx) :
    k0_pay3 (F := Ideal) u w acc y = acc y + k0_pay1 (F := Ideal) u w y := by
  unfold k0_pay3
  exact congrFun (shapeCast_self _ _) y

theorem pay4_apply (g : Vec Ideal S1x4096 .f32) (a x : Vec Ideal S16x4096 .f32) (r : Fin 16) (j : Fin 4096) :
    k0_pay4 (F := Ideal) g a x (ix2 r j) = x (ix2 r j) + normAt (fun k => a (ix2 r k)) (a (ix2 r j)) (g (ix2 0 j)) := by
  pointwise [k0_pay4, normAt]

/-- A block of 512 rows: the residual plus each row of the product under the norm. -/
def resBlock (x a : Vec Ideal S512x4096 .f32) (g : Vec Ideal S1x4096 .f32) : Vec Ideal S512x4096 .f32 := fun y =>
  x y + normAt (fun k => a (ix2 (y 0) k)) (a y) (g (ix2 0 (y 1)))

/-- What one trip of the row loop stores: one piece, sixteen rows. -/
theorem trip_pieces (𝒱 : Variants) (c : Dev nD) (bd : Option 𝒱.V) (i : grid0.Coords) (arg2 : Memref sig .tc .vmem S512x512 .bf16) (harg2 : arg2.IsWhole) (arg3 : Memref sig .tc .vmem S512x4096 .bf16) (harg3 : arg3.IsWhole) (arg4 : Memref sig .tc .vmem S512x4096 .f32) (harg4 : arg4.IsWhole) (arg5 : Memref sig .tc .vmem S1x4096 .f32) (harg5 : arg5.IsWhole) (arg6 : Memref sig .tc .vmem S512x4096 .f32) (harg6 : arg6.IsWhole) (arg7 : Memref sig .tc .vmem S512x4096 .f32) (harg7 : arg7.IsWhole) (k0_h3 : k0_cond3 i = 1#1) (g : Vec Ideal S1x4096 .f32) (X4 : BufTy.Contents (Elt Ideal) arg4.view.ty) (X7 : BufTy.Contents (Elt Ideal) arg7.view.ty) (k : Fin k0_t1_loop.trips) :
    tripL_k0_t1 (F := Ideal) 𝒱 c bd i arg2 harg2 arg3 harg3 arg4 harg4 arg5 harg5 arg6 harg6 arg7 harg7 k0_h3 g X4 X7 k
      = [⟨Rect.unit (s := S512x4096) (k0_off1 k) S16x4096.size (k0_off1_inb i k k0_h3),
          k0_pay4 g (View.ld (arg7.view.read (Elt Ideal) X7) (Rect.unit (s := S512x4096) (k0_off1 k) S16x4096.size (k0_off1_inb i k k0_h3)))
            (View.ld (arg4.view.read (Elt Ideal) X4) (Rect.unit (s := S512x4096) (k0_off1 k) S16x4096.size (k0_off1_inb i k k0_h3)))⟩] := by
  unfold tripL_k0_t1 trip_k0_t1
  rfl

/-- Every trip's piece agrees with the block `resBlock`. -/
theorem pb_agree (𝒱 : Variants) (c : Dev nD) (bd : Option 𝒱.V) (i : grid0.Coords) (arg2 : Memref sig .tc .vmem S512x512 .bf16) (harg2 : arg2.IsWhole) (arg3 : Memref sig .tc .vmem S512x4096 .bf16) (harg3 : arg3.IsWhole) (arg4 : Memref sig .tc .vmem S512x4096 .f32) (harg4 : arg4.IsWhole) (arg5 : Memref sig .tc .vmem S1x4096 .f32) (harg5 : arg5.IsWhole) (arg6 : Memref sig .tc .vmem S512x4096 .f32) (harg6 : arg6.IsWhole) (arg7 : Memref sig .tc .vmem S512x4096 .f32) (harg7 : arg7.IsWhole) (k0_h3 : k0_cond3 i = 1#1) (g : Vec Ideal S1x4096 .f32) (x : Vec Ideal S512x4096 .f32) (X7 : BufTy.Contents (Elt Ideal) arg7.view.ty) (a : Vec Ideal S512x4096 .f32) (h7 : arg7.view.read (Elt Ideal) X7 = a) :
    ∀ n : ℕ, n ≤ k0_t1_loop.trips → ∀ p ∈ (pb_k0_t1 (F := Ideal) 𝒱 c bd i arg2 harg2 arg3 harg3 arg4 harg4 arg5 harg5 arg6 harg6 arg7 harg7 k0_h3 g (harg4.unread x) X7 n),
      ∀ z : p.1.shape.Idx, p.2 z = resBlock x a g (p.1.emb z) := by
  intro n
  induction n with
  | zero => intro _ p hp; exact absurd hp List.not_mem_nil
  | succ n ih =>
    intro hn p hp z
    rw [pb_k0_t1_succ 𝒱 c bd i arg2 harg2 arg3 harg3 arg4 harg4 arg5 harg5 arg6 harg6 arg7 harg7 k0_h3 g (harg4.unread x) X7 ⟨n, hn⟩, trip_pieces] at hp
    rcases List.mem_cons.mp hp with rfl | hp
    · rw [harg4.read_unread, h7]
      dsimp only
      obtain ⟨r, j, rfl⟩ : ∃ (r : Fin 16) (j : Fin 4096), z = ix2 r j := ⟨z 0, z 1, eq_ix2 z⟩
      rw [pay4_apply]
      have e : ∀ q : Fin 4096, (Rect.unit (s := S512x4096) (k0_off1 ⟨n, hn⟩) ![16, 4096] (k0_off1_inb i ⟨n, hn⟩ k0_h3)).emb (ix2 r q)
          = ix2 ((Rect.unit (s := S512x4096) (k0_off1 ⟨n, hn⟩) ![16, 4096] (k0_off1_inb i ⟨n, hn⟩ k0_h3)).emb (ix2 r j) 0) q := by
        intro q
        funext b
        match b with
        | ⟨0, _⟩ => exact Fin.ext rfl
        | ⟨1, _⟩ => exact Fin.ext (by show 0 + 1 * q.val = q.val; omega)
      have e1 : (Rect.unit (s := S512x4096) (k0_off1 ⟨n, hn⟩) ![16, 4096] (k0_off1_inb i ⟨n, hn⟩ k0_h3)).emb (ix2 r j) 1 = j := congrFun (e j) 1
      unfold resBlock
      exact congrArg (x _ + ·) (congr (congr (congrArg normAt (funext fun q => congrArg a (e q))) rfl)
        (congrArg (fun q => g (ix2 0 q)) e1.symm))
    · exact ih (Nat.le_of_succ_le hn) p hp z

/-- The row loop's pieces cover the block, so the block they leave is `resBlock`. -/
theorem canon_pb (𝒱 : Variants) (c : Dev nD) (bd : Option 𝒱.V) (i : grid0.Coords) (arg2 : Memref sig .tc .vmem S512x512 .bf16) (harg2 : arg2.IsWhole) (arg3 : Memref sig .tc .vmem S512x4096 .bf16) (harg3 : arg3.IsWhole) (arg4 : Memref sig .tc .vmem S512x4096 .f32) (harg4 : arg4.IsWhole) (arg5 : Memref sig .tc .vmem S1x4096 .f32) (harg5 : arg5.IsWhole) (arg6 : Memref sig .tc .vmem S512x4096 .f32) (harg6 : arg6.IsWhole) (arg7 : Memref sig .tc .vmem S512x4096 .f32) (harg7 : arg7.IsWhole) (k0_h3 : k0_cond3 i = 1#1) (g : Vec Ideal S1x4096 .f32) (x : Vec Ideal S512x4096 .f32) (X7 : BufTy.Contents (Elt Ideal) arg7.view.ty) (a : Vec Ideal S512x4096 .f32) (h7 : arg7.view.read (Elt Ideal) X7 = a) :
    View.canon (pb_k0_t1 (F := Ideal) 𝒱 c bd i arg2 harg2 arg3 harg3 arg4 harg4 arg5 harg5 arg6 harg6 arg7 harg7 k0_h3 g (harg4.unread x) X7 (Scf.trips (0#32) (Scalar.addi 0#32 32#32) 1#32)) = resBlock x a g :=
  funext fun y => View.canon_apply_of_pieces _ _ (pb_agree 𝒱 c bd i arg2 harg2 arg3 harg3 arg4 harg4 arg5 harg5 arg6 harg6 arg7 harg7 k0_h3 g x X7 a h7 _ le_rfl) y
    (View.cover_of_tiledL (pb_k0_t1 (F := Ideal) 𝒱 c bd i arg2 harg2 arg3 harg3 arg4 harg4 arg5 harg5 arg6 harg6 arg7 harg7 k0_h3 g (harg4.unread x) X7 (Scf.trips (0#32) (Scalar.addi 0#32 32#32) 1#32)) S16x4096.size (by sl_kernel_rfl) y)

variable (m : (ℓ : Loc nD τ sig) → Buf (Elt Ideal) ℓ)

/-- The product of one point's blocks: the terms `512 k … 512 k + 511` of a row times a column. -/
theorem part_eq (c : Dev nD) (t : Fin cfg0.N) (r : Fin 512) (j : Fin 4096) :
    k0_pay1 (F := Ideal) (iblk m c 0 t) (iblk m c 1 t) (ix2 r j)
      = ∑ q ∈ Finset.range 512, ext (n0 := 16384) (n1 := 16384) (m ((c : Thread nD τ).loc main_arg0)) (t.val / 32 * 512 + r.val) (t.val % 32 * 512 + q)
          * ext (n0 := 16384) (n1 := 4096) (m ((c : Thread nD τ).loc main_arg1)) (t.val % 32 * 512 + q) j.val := by
  have hN : t.val < 1024 := lt_of_lt_of_eq t.isLt N_0
  rw [pay1_apply, Finset.sum_range]
  refine Finset.sum_congr rfl fun q _ => ?_
  have e0 := ext_at (n0 := 16384) (n1 := 16384) (m ((c : Thread nD τ).loc main_arg0)) ⟨t.val / 32 * 512 + r.val, by omega⟩ ⟨t.val % 32 * 512 + q.val, by omega⟩
  have e1 := ext_at (n0 := 16384) (n1 := 4096) (m ((c : Thread nD τ).loc main_arg1)) ⟨t.val % 32 * 512 + q.val, by omega⟩ j
  refine congr (congrArg HMul.hMul (Eq.trans ?_ e0.symm)) (Eq.trans ?_ e1.symm)
  · blk_ext [iblk, V, idx0]
  · blk_ext [iblk, V, idx1]

/-- After every point the accumulator holds the row's product with the column up to the point's last term. -/
theorem scratch_eq (c : Dev nD) : ∀ (n : ℕ) (hn : n < cfg0.N) (r : Fin 512) (j : Fin 4096), (outsAt0 m c n hn).2 (ix2 r j)
    = dotTo (m ((c : Thread nD τ).loc main_arg0)) (m ((c : Thread nD τ).loc main_arg1)) (n / 32 * 512 + r.val) j.val (n % 32 * 512 + 512) := by
  intro n
  induction n with
  | zero =>
    intro hn r j
    rw [outsAt0_A m c ⟨0, hn⟩ (Nat.zero_mod _) (show ¬1 ≤ 0 % 32 by decide) (show ¬0 % 32 = 31 by decide)]
    frame_open
    frame_out
    rw [pay2_eq, part_eq]
    exact Finset.sum_congr rfl fun q _ => by simp
  | succ n ih =>
    intro hn r j
    by_cases h0 : (n + 1) % 32 = 0
    · rw [outsAt0_A m c ⟨n + 1, hn⟩ h0 (by dsimp only; omega) (by dsimp only; omega)]
      frame_open
      frame_out
      rw [pay2_eq, part_eq]
      unfold dotTo
      simp only [h0, Nat.zero_mul, Nat.zero_add]
    · have hd : (n + 1) / 32 = n / 32 := by omega
      have hm : (n + 1) % 32 = n % 32 + 1 := by omega
      have fin : k0_pay3 (F := Ideal) (iblk m c 0 ⟨n + 1, hn⟩) (iblk m c 1 ⟨n + 1, hn⟩) (outsAt0 m c n (Nat.lt_of_succ_lt hn)).2 (ix2 r j)
          = dotTo (m ((c : Thread nD τ).loc main_arg0)) (m ((c : Thread nD τ).loc main_arg1)) ((n + 1) / 32 * 512 + r.val) j.val ((n + 1) % 32 * 512 + 512) := by
        rw [pay3_apply, ih, part_eq]
        unfold dotTo
        simp only [hd, hm, Nat.add_mul, Nat.one_mul]
        exact (Finset.sum_range_add _ _ _).symm
      by_cases h2 : (n + 1) % 32 = 31
      · rw [outsAt0_C m c ⟨n + 1, hn⟩ h0 (by dsimp only; omega) h2]
        frame_open
        frame_out
        exact Eq.trans (congrArg (fun a => k0_pay3 (F := Ideal) _ _ a (ix2 r j)) ((Memref.isWhole_whole cc0_scratch0).read_unread _)) fin
      · rw [outsAt0_B m c ⟨n + 1, hn⟩ h0 (by dsimp only; omega) h2]
        frame_open
        frame_out
        exact Eq.trans (congrArg (fun a => k0_pay3 (F := Ideal) _ _ a (ix2 r j)) ((Memref.isWhole_whole cc0_scratch0).read_unread _)) fin

/-- What the last point of a run leaves in its block of the result. -/
theorem out_eq (c : Dev nD) (t : Fin cfg0.N) (h2 : t.val % 32 = 31) :
    (outsAt0 m c t.val t.isLt).1 = resBlock (iblk m c 2 t) (outsAt0 m c t.val t.isLt).2 (iblk m c 3 t) := by
  rw [outsAt0_C m c t (by omega) (by omega) h2]
  frame_open
  frame_out
  refine canon_pb (h7 := ?_) ..
  refine (View.read_writes_junk_eq_canon _ _).trans ?_
  exact View.canon_unit_zero (by decide) _ _

end Cert.DownIdeal.Block
-- ==== Proof.DownValue.lean ====
module

public import proofs.«01_k».proof.Proof.DownBlock
public import proofs.«01_k».proof.Proof.Gen.DownRefIdeal.Read
public import proofs.«01_k».proof.Defs

@[expose] public section

set_option maxRecDepth 16384
set_option maxHeartbeats 1000000

noncomputable section

namespace Cert.DownIdeal.Block

open Cert.DownIdeal Cert.DownIdeal.Gen Idealize.ShloMosaic Idealize.ShloMosaic.TcCoe Idealize.SL.Sem

/-- A row times a column. -/
def dot (u : Vec Ideal S16384x16384 .bf16) (w : Vec Ideal S16384x4096 .bf16) (r : Fin 16384) (j : Fin 4096) : EReal :=
  ∑ k : Fin 16384, u (ix2 r k) * w (ix2 k j)

/-- The reference at an element: the residual plus the row of the product under the norm. -/
theorem ref_apply (u : Vec Ideal S16384x16384 .bf16) (w : Vec Ideal S16384x4096 .bf16) (x : Vec Ideal S16384x4096 .f32) (g : Vec Ideal S4096 .f32) (r : Fin 16384) (j : Fin 4096) :
    Cert.DownRefIdeal.Read.val_main_v16 (F := Ideal) u w x g (ix2 r j)
      = x (ix2 r j) + normAt (fun q => dot u w r q) (dot u w r j) (g (ix1 j)) := by
  rw [← Cert.DownRefIdeal.Read.val_main_v16_eq]
  pointwise [normAt, dot]

theorem resBlock_at (x a : Vec Ideal S512x4096 .f32) (g : Vec Ideal S1x4096 .f32) (r : Fin 512) (j : Fin 4096) {x' g' : EReal} {row : Fin 4096 → EReal}
    (hx : x (ix2 r j) = x') (ha : ∀ q, a (ix2 r q) = row q) (hg : g (ix2 0 j) = g') :
    resBlock x a g (ix2 r j) = x' + normAt (fun q => row q) (row j) g' := by
  subst hx hg
  obtain rfl : (fun q => a (ix2 r q)) = row := funext ha
  rfl

theorem dotTo_congr (u : Vec Ideal S16384x16384 .bf16) (w : Vec Ideal S16384x4096 .bf16) {a a' b n n' : ℕ} (ha : a = a') (hn : n = n') :
    dotTo u w a b n = dotTo u w a' b n' := by
  rw [ha, hn]

theorem dotTo_all (u : Vec Ideal S16384x16384 .bf16) (w : Vec Ideal S16384x4096 .bf16) (r : Fin 16384) (j : Fin 4096) :
    dotTo u w r.val j.val 16384 = dot u w r j := by
  unfold dotTo dot
  rw [Finset.sum_range]
  exact Finset.sum_congr rfl fun k _ => congr (congrArg HMul.hMul (ext_at u r k)) (ext_at w k j)

variable (m : (ℓ : Loc nD τ sig) → Buf (Elt Ideal) ℓ)

/-- The kernel's block at the last point of a run, at an element, over the arguments. -/
theorem block_apply (c : Dev nD) (t : Fin cfg0.N) (h2 : t.val % 32 = 31) (r : Fin 512) (j : Fin 4096) (R : Fin 16384)
    (hR : R.val = t.val / 32 * 512 + r.val) :
    (outsAt0 m c t.val t.isLt).1 (ix2 r j)
      = Cert.DownRefIdeal.Read.val_main_v16 (F := Ideal) (m ((c : Thread nD τ).loc main_arg0)) (m ((c : Thread nD τ).loc main_arg1)) (m ((c : Thread nD τ).loc main_arg2)) (m ((c : Thread nD τ).loc main_arg3)) (ix2 R j) := by
  have hx : (iblk m c 2 t : Vec Ideal S512x4096 .f32) (ix2 r j) = (m ((c : Thread nD τ).loc main_arg2) : Vec Ideal S16384x4096 .f32) (ix2 R j) := by
    blk_ext [iblk, V, idx2]
  have hg : (iblk m c 3 t : Vec Ideal S1x4096 .f32) (ix2 0 j) = (m ((c : Thread nD τ).loc main_arg3) : Vec Ideal S4096 .f32) (ix1 j) := by
    blk_ext! [iblk, V, idx3]
  have ha : ∀ q : Fin 4096, (outsAt0 m c t.val t.isLt).2 (ix2 r q)
      = dot (m ((c : Thread nD τ).loc main_arg0)) (m ((c : Thread nD τ).loc main_arg1)) R q := by
    intro q
    have e := dotTo_all (m ((c : Thread nD τ).loc main_arg0)) (m ((c : Thread nD τ).loc main_arg1)) R q
    refine (scratch_eq m c t.val t.isLt r q).trans (Eq.trans ?_ e)
    have en : t.val % 32 * 512 + 512 = 16384 := by omega
    exact dotTo_congr _ _ hR.symm en
  refine (congrFun (out_eq m c t h2) _).trans (Eq.trans ?_ (ref_apply _ _ _ _ R j).symm)
  exact resBlock_at _ _ _ r j hx ha hg

/-- The array the kernel leaves is the reference's value of the arguments. -/
theorem arr_eq (c : Dev nD) : (dats m 0 c).arrAt 4 cfg0.N
    = Cert.DownRefIdeal.Read.val_main_v16 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  show (dats m 0 c).after 4 t y = _
  rw [after0_4]
  have e : ((cfg0.win 4).blk t).view.emb y = ix2 (((cfg0.win 4).blk t).view.emb y 0) (y 1) := (ValueIdx.eq_ix2 _).trans (congrArg (ix2 _) (Fin.ext (by blk_simp [idx4])))
  rw [e]
  have ey : y = ix2 (y 0) (y 1) := ValueIdx.eq_ix2 _
  refine (congrArg _ ey).trans (block_apply m c t ((flush0_4 t).mp hf) (y 0) (y 1) _ ?_)
  blk_simp [idx4]

/-- The down projection's kernel computes what its reference computes, over the extended reals. -/
theorem algebraic : Cert.algebraic_DownIdeal_DownRefIdeal := fun m g m' g' _ hag =>
  ⟨fun c => Cert.DownRefIdeal.Read.val_main_v16 (F := Ideal) (m ((c : Thread nD τ).loc main_arg0)) (m ((c : Thread nD τ).loc main_arg1)) (m ((c : Thread nD τ).loc main_arg2)) (m ((c : Thread nD τ).loc main_arg3)),
    (θ_run _ _ _).mono (fun _ h c => ⟨(h c).1.trans (arr_eq m c), (h c).2⟩) (Value.run_blocks m g),
    (θ_run _ _ _).mono (fun _ h c => ⟨(h c).1.trans (by
      rw [(hag c).1, (hag c).2.1, (hag c).2.2.1, (hag c).2.2.2]
      exact Cert.DownRefIdeal.Read.val_main_v16_eq ..), (h c).2⟩) (Cert.DownRefIdeal.Value.run m' g')⟩

end Cert.DownIdeal.Block
-- ==== Proof.OutpBlock.lean ====
module

public import proofs.«01_k».proof.Proof.Gen.OutpIdeal.Value
public import Idealize.ShloMosaic.Lib.Pipeline.ValueKit.Acc
public import Idealize.ShloMosaic.Lib.Pipeline.ValueKit.Point
public import Idealize.ShloMosaic.Lib.Pointwise

@[expose] public section

set_option maxRecDepth 16384
set_option maxHeartbeats 1000000

noncomputable section

namespace Cert.OutpIdeal.Block

open Cert.OutpIdeal Cert.OutpIdeal.Gen Idealize.ShloMosaic Idealize.ShloMosaic.TcCoe Idealize.SL.Sem

/-- One element of a row under its root-mean-square norm with a gain: `x_j · (mean of x² + ε)^(-1/2) · g`. -/
def normAt (row : Fin 4096 → EReal) (x g : EReal) : EReal :=
  x * Ideal.rsqrt (Ideal.div (∑ k : Fin 4096, row k * row k) (Ideal.ofBits .f32 0x45800000#32) + Ideal.ofBits .f32 0x358637BD#32) * g

/-- A matrix as a function of any two numbers, zero outside it. -/
def ext {n0 n1 : ℕ} (A : (⟨2, ![n0, n1]⟩ : Shape).Idx → EReal) (a b : ℕ) : EReal :=
  if h : a < n0 ∧ b < n1 then A (ix2 ⟨a, h.1⟩ ⟨b, h.2⟩) else 0

theorem ext_at {n0 n1 : ℕ} (A : (⟨2, ![n0, n1]⟩ : Shape).Idx → EReal) (a : Fin n0) (b : Fin n1) : ext A a.val b.val = A (ix2 a b) :=
  dif_pos ⟨a.isLt, b.isLt⟩

/-- The first `n` terms of a row times a column. -/
def dotTo (U : Vec Ideal S16384x4096 .bf16) (W : Vec Ideal S4096x4096 .bf16) (a b n : ℕ) : EReal :=
  ∑ q ∈ Finset.range n, ext U a q * ext W q b

theorem idx0 : ∀ t : Fin cfg0.N, win0_0.index t = ![t.val / 8, t.val % 8] := (by decide +kernel : ∀ t : Fin grid0.N, _)
theorem idx1 : ∀ t : Fin cfg0.N, win0_1.index t = ![t.val % 8, 0] := (by decide +kernel : ∀ t : Fin grid0.N, _)
theorem idx2 : ∀ t : Fin cfg0.N, win0_2.index t = ![t.val / 8, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val / 8, 0] := (by decide +kernel : ∀ t : Fin grid0.N, _)

theorem pay1_apply (u : Vec Ideal S512x512 .bf16) (w : Vec Ideal S512x4096 .bf16) (r : Fin 512) (j : Fin 4096) :
    k0_pay1 (F := Ideal) u w (ix2 r j) = ∑ q : Fin 512, u (ix2 r q) * w (ix2 q j) := by
  pointwise [k0_pay1]

theorem pay2_eq (u : Vec Ideal S512x512 .bf16) (w : Vec Ideal S512x4096 .bf16) :
    k0_pay2 (F := Ideal) u w = k0_pay1 (F := Ideal) u w := by
  funext y
  unfold k0_pay2
  exact congrFun (shapeCast_self _ _) y

theorem pay3_apply (u : Vec Ideal S512x512 .bf16) (w : Vec Ideal S512x4096 .bf16) (acc : Vec Ideal S512x4096 .f32) (y : S512x4096.Idx) :
    k0_pay3 (F := Ideal) u w acc y = acc y + k0_pay1 (F := Ideal) u w y := by
  unfold k0_pay3
  exact congrFun (shapeCast_self _ _) y

theorem pay4_apply (g : Vec Ideal S1x4096 .f32) (a x : Vec Ideal S16x4096 .f32) (r : Fin 16) (j : Fin 4096) :
    k0_pay4 (F := Ideal) g a x (ix2 r j) = x (ix2 r j) + normAt (fun k => a (ix2 r k)) (a (ix2 r j)) (g (ix2 0 j)) := by
  pointwise [k0_pay4, normAt]

/-- A block of 512 rows: the residual plus each row of the product under the norm. -/
def resBlock (x a : Vec Ideal S512x4096 .f32) (g : Vec Ideal S1x4096 .f32) : Vec Ideal S512x4096 .f32 := fun y =>
  x y + normAt (fun k => a (ix2 (y 0) k)) (a y) (g (ix2 0 (y 1)))

/-- What one trip of the row loop stores: one piece, sixteen rows. -/
theorem trip_pieces (𝒱 : Variants) (c : Dev nD) (bd : Option 𝒱.V) (i : grid0.Coords) (arg2 : Memref sig .tc .vmem S512x512 .bf16) (harg2 : arg2.IsWhole) (arg3 : Memref sig .tc .vmem S512x4096 .bf16) (harg3 : arg3.IsWhole) (arg4 : Memref sig .tc .vmem S512x4096 .f32) (harg4 : arg4.IsWhole) (arg5 : Memref sig .tc .vmem S1x4096 .f32) (harg5 : arg5.IsWhole) (arg6 : Memref sig .tc .vmem S512x4096 .f32) (harg6 : arg6.IsWhole) (arg7 : Memref sig .tc .vmem S512x4096 .f32) (harg7 : arg7.IsWhole) (k0_h3 : k0_cond3 i = 1#1) (g : Vec Ideal S1x4096 .f32) (X4 : BufTy.Contents (Elt Ideal) arg4.view.ty) (X7 : BufTy.Contents (Elt Ideal) arg7.view.ty) (k : Fin k0_t1_loop.trips) :
    tripL_k0_t1 (F := Ideal) 𝒱 c bd i arg2 harg2 arg3 harg3 arg4 harg4 arg5 harg5 arg6 harg6 arg7 harg7 k0_h3 g X4 X7 k
      = [⟨Rect.unit (s := S512x4096) (k0_off1 k) S16x4096.size (k0_off1_inb i k k0_h3),
          k0_pay4 g (View.ld (arg7.view.read (Elt Ideal) X7) (Rect.unit (s := S512x4096) (k0_off1 k) S16x4096.size (k0_off1_inb i k k0_h3)))
            (View.ld (arg4.view.read (Elt Ideal) X4) (Rect.unit (s := S512x4096) (k0_off1 k) S16x4096.size (k0_off1_inb i k k0_h3)))⟩] := by
  unfold tripL_k0_t1 trip_k0_t1
  rfl

/-- Every trip's piece agrees with the block `resBlock`. -/
theorem pb_agree (𝒱 : Variants) (c : Dev nD) (bd : Option 𝒱.V) (i : grid0.Coords) (arg2 : Memref sig .tc .vmem S512x512 .bf16) (harg2 : arg2.IsWhole) (arg3 : Memref sig .tc .vmem S512x4096 .bf16) (harg3 : arg3.IsWhole) (arg4 : Memref sig .tc .vmem S512x4096 .f32) (harg4 : arg4.IsWhole) (arg5 : Memref sig .tc .vmem S1x4096 .f32) (harg5 : arg5.IsWhole) (arg6 : Memref sig .tc .vmem S512x4096 .f32) (harg6 : arg6.IsWhole) (arg7 : Memref sig .tc .vmem S512x4096 .f32) (harg7 : arg7.IsWhole) (k0_h3 : k0_cond3 i = 1#1) (g : Vec Ideal S1x4096 .f32) (x : Vec Ideal S512x4096 .f32) (X7 : BufTy.Contents (Elt Ideal) arg7.view.ty) (a : Vec Ideal S512x4096 .f32) (h7 : arg7.view.read (Elt Ideal) X7 = a) :
    ∀ n : ℕ, n ≤ k0_t1_loop.trips → ∀ p ∈ (pb_k0_t1 (F := Ideal) 𝒱 c bd i arg2 harg2 arg3 harg3 arg4 harg4 arg5 harg5 arg6 harg6 arg7 harg7 k0_h3 g (harg4.unread x) X7 n),
      ∀ z : p.1.shape.Idx, p.2 z = resBlock x a g (p.1.emb z) := by
  intro n
  induction n with
  | zero => intro _ p hp; exact absurd hp List.not_mem_nil
  | succ n ih =>
    intro hn p hp z
    rw [pb_k0_t1_succ 𝒱 c bd i arg2 harg2 arg3 harg3 arg4 harg4 arg5 harg5 arg6 harg6 arg7 harg7 k0_h3 g (harg4.unread x) X7 ⟨n, hn⟩, trip_pieces] at hp
    rcases List.mem_cons.mp hp with rfl | hp
    · rw [harg4.read_unread, h7]
      dsimp only
      obtain ⟨r, j, rfl⟩ : ∃ (r : Fin 16) (j : Fin 4096), z = ix2 r j := ⟨z 0, z 1, eq_ix2 z⟩
      rw [pay4_apply]
      have e : ∀ q : Fin 4096, (Rect.unit (s := S512x4096) (k0_off1 ⟨n, hn⟩) ![16, 4096] (k0_off1_inb i ⟨n, hn⟩ k0_h3)).emb (ix2 r q)
          = ix2 ((Rect.unit (s := S512x4096) (k0_off1 ⟨n, hn⟩) ![16, 4096] (k0_off1_inb i ⟨n, hn⟩ k0_h3)).emb (ix2 r j) 0) q := by
        intro q
        funext b
        match b with
        | ⟨0, _⟩ => exact Fin.ext rfl
        | ⟨1, _⟩ => exact Fin.ext (by show 0 + 1 * q.val = q.val; omega)
      have e1 : (Rect.unit (s := S512x4096) (k0_off1 ⟨n, hn⟩) ![16, 4096] (k0_off1_inb i ⟨n, hn⟩ k0_h3)).emb (ix2 r j) 1 = j := congrFun (e j) 1
      unfold resBlock
      exact congrArg (x _ + ·) (congr (congr (congrArg normAt (funext fun q => congrArg a (e q))) rfl)
        (congrArg (fun q => g (ix2 0 q)) e1.symm))
    · exact ih (Nat.le_of_succ_le hn) p hp z

/-- The row loop's pieces cover the block, so the block they leave is `resBlock`. -/
theorem canon_pb (𝒱 : Variants) (c : Dev nD) (bd : Option 𝒱.V) (i : grid0.Coords) (arg2 : Memref sig .tc .vmem S512x512 .bf16) (harg2 : arg2.IsWhole) (arg3 : Memref sig .tc .vmem S512x4096 .bf16) (harg3 : arg3.IsWhole) (arg4 : Memref sig .tc .vmem S512x4096 .f32) (harg4 : arg4.IsWhole) (arg5 : Memref sig .tc .vmem S1x4096 .f32) (harg5 : arg5.IsWhole) (arg6 : Memref sig .tc .vmem S512x4096 .f32) (harg6 : arg6.IsWhole) (arg7 : Memref sig .tc .vmem S512x4096 .f32) (harg7 : arg7.IsWhole) (k0_h3 : k0_cond3 i = 1#1) (g : Vec Ideal S1x4096 .f32) (x : Vec Ideal S512x4096 .f32) (X7 : BufTy.Contents (Elt Ideal) arg7.view.ty) (a : Vec Ideal S512x4096 .f32) (h7 : arg7.view.read (Elt Ideal) X7 = a) :
    View.canon (pb_k0_t1 (F := Ideal) 𝒱 c bd i arg2 harg2 arg3 harg3 arg4 harg4 arg5 harg5 arg6 harg6 arg7 harg7 k0_h3 g (harg4.unread x) X7 (Scf.trips (0#32) (Scalar.addi 0#32 32#32) 1#32)) = resBlock x a g :=
  funext fun y => View.canon_apply_of_pieces _ _ (pb_agree 𝒱 c bd i arg2 harg2 arg3 harg3 arg4 harg4 arg5 harg5 arg6 harg6 arg7 harg7 k0_h3 g x X7 a h7 _ le_rfl) y
    (View.cover_of_tiledL (pb_k0_t1 (F := Ideal) 𝒱 c bd i arg2 harg2 arg3 harg3 arg4 harg4 arg5 harg5 arg6 harg6 arg7 harg7 k0_h3 g (harg4.unread x) X7 (Scf.trips (0#32) (Scalar.addi 0#32 32#32) 1#32)) S16x4096.size (by sl_kernel_rfl) y)

variable (m : (ℓ : Loc nD τ sig) → Buf (Elt Ideal) ℓ)

/-- The product of one point's blocks: the terms `512 k … 512 k + 511` of a row times a column. -/
theorem part_eq (c : Dev nD) (t : Fin cfg0.N) (r : Fin 512) (j : Fin 4096) :
    k0_pay1 (F := Ideal) (iblk m c 0 t) (iblk m c 1 t) (ix2 r j)
      = ∑ q ∈ Finset.range 512, ext (n0 := 16384) (n1 := 4096) (m ((c : Thread nD τ).loc main_arg0)) (t.val / 8 * 512 + r.val) (t.val % 8 * 512 + q)
          * ext (n0 := 4096) (n1 := 4096) (m ((c : Thread nD τ).loc main_arg1)) (t.val % 8 * 512 + q) j.val := by
  have hN : t.val < 256 := lt_of_lt_of_eq t.isLt N_0
  rw [pay1_apply, Finset.sum_range]
  refine Finset.sum_congr rfl fun q _ => ?_
  have e0 := ext_at (n0 := 16384) (n1 := 4096) (m ((c : Thread nD τ).loc main_arg0)) ⟨t.val / 8 * 512 + r.val, by omega⟩ ⟨t.val % 8 * 512 + q.val, by omega⟩
  have e1 := ext_at (n0 := 4096) (n1 := 4096) (m ((c : Thread nD τ).loc main_arg1)) ⟨t.val % 8 * 512 + q.val, by omega⟩ j
  refine congr (congrArg HMul.hMul (Eq.trans ?_ e0.symm)) (Eq.trans ?_ e1.symm)
  · blk_ext [iblk, V, idx0]
  · blk_ext [iblk, V, idx1]

/-- After every point the accumulator holds the row's product with the column up to the point's last term. -/
theorem scratch_eq (c : Dev nD) : ∀ (n : ℕ) (hn : n < cfg0.N) (r : Fin 512) (j : Fin 4096), (outsAt0 m c n hn).2 (ix2 r j)
    = dotTo (m ((c : Thread nD τ).loc main_arg0)) (m ((c : Thread nD τ).loc main_arg1)) (n / 8 * 512 + r.val) j.val (n % 8 * 512 + 512) := by
  intro n
  induction n with
  | zero =>
    intro hn r j
    rw [outsAt0_A m c ⟨0, hn⟩ (Nat.zero_mod _) (show ¬1 ≤ 0 % 8 by decide) (show ¬0 % 8 = 7 by decide)]
    frame_open
    frame_out
    rw [pay2_eq, part_eq]
    exact Finset.sum_congr rfl fun q _ => by simp
  | succ n ih =>
    intro hn r j
    by_cases h0 : (n + 1) % 8 = 0
    · rw [outsAt0_A m c ⟨n + 1, hn⟩ h0 (by dsimp only; omega) (by dsimp only; omega)]
      frame_open
      frame_out
      rw [pay2_eq, part_eq]
      unfold dotTo
      simp only [h0, Nat.zero_mul, Nat.zero_add]
    · have hd : (n + 1) / 8 = n / 8 := by omega
      have hm : (n + 1) % 8 = n % 8 + 1 := by omega
      have fin : k0_pay3 (F := Ideal) (iblk m c 0 ⟨n + 1, hn⟩) (iblk m c 1 ⟨n + 1, hn⟩) (outsAt0 m c n (Nat.lt_of_succ_lt hn)).2 (ix2 r j)
          = dotTo (m ((c : Thread nD τ).loc main_arg0)) (m ((c : Thread nD τ).loc main_arg1)) ((n + 1) / 8 * 512 + r.val) j.val ((n + 1) % 8 * 512 + 512) := by
        rw [pay3_apply, ih, part_eq]
        unfold dotTo
        simp only [hd, hm, Nat.add_mul, Nat.one_mul]
        exact (Finset.sum_range_add _ _ _).symm
      by_cases h2 : (n + 1) % 8 = 7
      · rw [outsAt0_C m c ⟨n + 1, hn⟩ h0 (by dsimp only; omega) h2]
        frame_open
        frame_out
        exact Eq.trans (congrArg (fun a => k0_pay3 (F := Ideal) _ _ a (ix2 r j)) ((Memref.isWhole_whole cc0_scratch0).read_unread _)) fin
      · rw [outsAt0_B m c ⟨n + 1, hn⟩ h0 (by dsimp only; omega) h2]
        frame_open
        frame_out
        exact Eq.trans (congrArg (fun a => k0_pay3 (F := Ideal) _ _ a (ix2 r j)) ((Memref.isWhole_whole cc0_scratch0).read_unread _)) fin

/-- What the last point of a run leaves in its block of the result. -/
theorem out_eq (c : Dev nD) (t : Fin cfg0.N) (h2 : t.val % 8 = 7) :
    (outsAt0 m c t.val t.isLt).1 = resBlock (iblk m c 2 t) (outsAt0 m c t.val t.isLt).2 (iblk m c 3 t) := by
  rw [outsAt0_C m c t (by omega) (by omega) h2]
  frame_open
  frame_out
  refine canon_pb (h7 := ?_) ..
  refine (View.read_writes_junk_eq_canon _ _).trans ?_
  exact View.canon_unit_zero (by decide) _ _

end Cert.OutpIdeal.Block
-- ==== Proof.OutpValue.lean ====
module

public import proofs.«01_k».proof.Proof.OutpBlock
public import proofs.«01_k».proof.Proof.Gen.OutpRefIdeal.Read
public import proofs.«01_k».proof.Defs

@[expose] public section

set_option maxRecDepth 16384
set_option maxHeartbeats 1000000

noncomputable section

namespace Cert.OutpIdeal.Block

open Cert.OutpIdeal Cert.OutpIdeal.Gen Idealize.ShloMosaic Idealize.ShloMosaic.TcCoe Idealize.SL.Sem

/-- A row times a column. -/
def dot (u : Vec Ideal S16384x4096 .bf16) (w : Vec Ideal S4096x4096 .bf16) (r : Fin 16384) (j : Fin 4096) : EReal :=
  ∑ k : Fin 4096, u (ix2 r k) * w (ix2 k j)

/-- The reference at an element: the residual plus the row of the product under the norm. -/
theorem ref_apply (u : Vec Ideal S16384x4096 .bf16) (w : Vec Ideal S4096x4096 .bf16) (x : Vec Ideal S16384x4096 .f32) (g : Vec Ideal S4096 .f32) (r : Fin 16384) (j : Fin 4096) :
    Cert.OutpRefIdeal.Read.val_main_v16 (F := Ideal) u w x g (ix2 r j)
      = x (ix2 r j) + normAt (fun q => dot u w r q) (dot u w r j) (g (ix1 j)) := by
  rw [← Cert.OutpRefIdeal.Read.val_main_v16_eq]
  pointwise [normAt, dot]

theorem resBlock_at (x a : Vec Ideal S512x4096 .f32) (g : Vec Ideal S1x4096 .f32) (r : Fin 512) (j : Fin 4096) {x' g' : EReal} {row : Fin 4096 → EReal}
    (hx : x (ix2 r j) = x') (ha : ∀ q, a (ix2 r q) = row q) (hg : g (ix2 0 j) = g') :
    resBlock x a g (ix2 r j) = x' + normAt (fun q => row q) (row j) g' := by
  subst hx hg
  obtain rfl : (fun q => a (ix2 r q)) = row := funext ha
  rfl

theorem dotTo_congr (u : Vec Ideal S16384x4096 .bf16) (w : Vec Ideal S4096x4096 .bf16) {a a' b n n' : ℕ} (ha : a = a') (hn : n = n') :
    dotTo u w a b n = dotTo u w a' b n' := by
  rw [ha, hn]

theorem dotTo_all (u : Vec Ideal S16384x4096 .bf16) (w : Vec Ideal S4096x4096 .bf16) (r : Fin 16384) (j : Fin 4096) :
    dotTo u w r.val j.val 4096 = dot u w r j := by
  unfold dotTo dot
  rw [Finset.sum_range]
  exact Finset.sum_congr rfl fun k _ => congr (congrArg HMul.hMul (ext_at u r k)) (ext_at w k j)

variable (m : (ℓ : Loc nD τ sig) → Buf (Elt Ideal) ℓ)

/-- The kernel's block at the last point of a run, at an element, over the arguments. -/
theorem block_apply (c : Dev nD) (t : Fin cfg0.N) (h2 : t.val % 8 = 7) (r : Fin 512) (j : Fin 4096) (R : Fin 16384)
    (hR : R.val = t.val / 8 * 512 + r.val) :
    (outsAt0 m c t.val t.isLt).1 (ix2 r j)
      = Cert.OutpRefIdeal.Read.val_main_v16 (F := Ideal) (m ((c : Thread nD τ).loc main_arg0)) (m ((c : Thread nD τ).loc main_arg1)) (m ((c : Thread nD τ).loc main_arg2)) (m ((c : Thread nD τ).loc main_arg3)) (ix2 R j) := by
  have hx : (iblk m c 2 t : Vec Ideal S512x4096 .f32) (ix2 r j) = (m ((c : Thread nD τ).loc main_arg2) : Vec Ideal S16384x4096 .f32) (ix2 R j) := by
    blk_ext [iblk, V, idx2]
  have hg : (iblk m c 3 t : Vec Ideal S1x4096 .f32) (ix2 0 j) = (m ((c : Thread nD τ).loc main_arg3) : Vec Ideal S4096 .f32) (ix1 j) := by
    blk_ext! [iblk, V, idx3]
  have ha : ∀ q : Fin 4096, (outsAt0 m c t.val t.isLt).2 (ix2 r q)
      = dot (m ((c : Thread nD τ).loc main_arg0)) (m ((c : Thread nD τ).loc main_arg1)) R q := by
    intro q
    have e := dotTo_all (m ((c : Thread nD τ).loc main_arg0)) (m ((c : Thread nD τ).loc main_arg1)) R q
    refine (scratch_eq m c t.val t.isLt r q).trans (Eq.trans ?_ e)
    have en : t.val % 8 * 512 + 512 = 4096 := by omega
    exact dotTo_congr _ _ hR.symm en
  refine (congrFun (out_eq m c t h2) _).trans (Eq.trans ?_ (ref_apply _ _ _ _ R j).symm)
  exact resBlock_at _ _ _ r j hx ha hg

/-- The array the kernel leaves is the reference's value of the arguments. -/
theorem arr_eq (c : Dev nD) : (dats m 0 c).arrAt 4 cfg0.N
    = Cert.OutpRefIdeal.Read.val_main_v16 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  show (dats m 0 c).after 4 t y = _
  rw [after0_4]
  have e : ((cfg0.win 4).blk t).view.emb y = ix2 (((cfg0.win 4).blk t).view.emb y 0) (y 1) := (ValueIdx.eq_ix2 _).trans (congrArg (ix2 _) (Fin.ext (by blk_simp [idx4])))
  rw [e]
  have ey : y = ix2 (y 0) (y 1) := ValueIdx.eq_ix2 _
  refine (congrArg _ ey).trans (block_apply m c t ((flush0_4 t).mp hf) (y 0) (y 1) _ ?_)
  blk_simp [idx4]

/-- The output projection's kernel computes what its reference computes, over the extended reals. -/
theorem algebraic : Cert.algebraic_OutpIdeal_OutpRefIdeal := fun m g m' g' _ hag =>
  ⟨fun c => Cert.OutpRefIdeal.Read.val_main_v16 (F := Ideal) (m ((c : Thread nD τ).loc main_arg0)) (m ((c : Thread nD τ).loc main_arg1)) (m ((c : Thread nD τ).loc main_arg2)) (m ((c : Thread nD τ).loc main_arg3)),
    (θ_run _ _ _).mono (fun _ h c => ⟨(h c).1.trans (arr_eq m c), (h c).2⟩) (Value.run_blocks m g),
    (θ_run _ _ _).mono (fun _ h c => ⟨(h c).1.trans (by
      rw [(hag c).1, (hag c).2.1, (hag c).2.2.1, (hag c).2.2.2]
      exact Cert.OutpRefIdeal.Read.val_main_v16_eq ..), (h c).2⟩) (Cert.OutpRefIdeal.Value.run m' g')⟩

end Cert.OutpIdeal.Block
-- ==== Proof.RetPays.lean ====
/- The values that the retention body computes in one step, element by element. -/
module

public import proofs.«01_k».proof.Proof.Gen.RetIdeal.Skeleton
public import Idealize.ShloMosaic.Lib.Pointwise

@[expose] public section

set_option maxRecDepth 16384
set_option maxHeartbeats 1000000

noncomputable section

namespace Cert.RetIdeal.Block

open Cert.RetIdeal Cert.RetIdeal.Gen Idealize.ShloMosaic Idealize.ShloMosaic.TcCoe Idealize.SL.Sem

theorem pay3_apply (cs sn : Vec Ideal S128x128 .f32) (x : Vec Ideal S1x128x128 .bf16) (r d : Fin 128) :
    k0_pay3 (F := Ideal) cs sn x (ix2 r d) = x (ix3 0 r d) * cs (ix2 r d) + x (ix3 0 r ⟨(d.val + 128 - 64) % 128, Nat.mod_lt _ (by decide)⟩) * sn (ix2 r d) := by
  pointwise [k0_pay3, k0_pay1, k0_pay2]

theorem pay4_apply (cs sn : Vec Ideal S128x128 .f32) (x : Vec Ideal S1x128x128 .bf16) (r d : Fin 128) :
    k0_pay4 (F := Ideal) cs sn x (ix2 r d) = (x (ix3 0 r d) * cs (ix2 r d) + x (ix3 0 r ⟨(d.val + 128 - 64) % 128, Nat.mod_lt _ (by decide)⟩) * sn (ix2 r d)) * Ideal.ofBits .f32 1035273459#32 := by
  pointwise [k0_pay4, k0_pay1, k0_pay2]

theorem pay5_apply (r : Fin 128) (d : Fin 256) :
    k0_pay5 (F := Ideal) (ix2 r d) = 0 := by
  pointwise [k0_pay5]

theorem pay8_apply (r : Fin 128) (d : Fin 256) :
    k0_pay8 (F := Ideal) (ix2 r d) = 0 := by
  pointwise [k0_pay8]

theorem pay6_apply (v39 : FVec Ideal S128x128 .f32) (v65 : Vec Ideal S128x256 .f32) (v67 : Vec Ideal S128x128 .f32) (r : Fin 128) (d : Fin 256) :
    k0_pay6 (F := Ideal) v39 v65 v67 (ix2 r d) = ∑ x, v67 (ix2 r x) * v39 (ix2 r x) * v65 (ix2 x d) := by
  pointwise [k0_pay6]

theorem pay7_apply (v42 : FVec Ideal S128x128 .f32) (v46 : Ideal .f32) (v65 : Vec Ideal S128x256 .f32) (v77 : Vec Ideal S128x128 .f32) (v83 : Vec Ideal S1x128x256 .bf16) (r : Fin 128) (d : Fin 256) :
    k0_pay7 (F := Ideal) v42 v46 v65 v77 v83 (ix2 r d) = v65 (ix2 r d) * Ideal.exp v46 + ∑ x, v77 (ix2 x r) * v42 (ix2 x r) * v83 (ix3 0 x d) := by
  pointwise [k0_pay7]

theorem pay11_apply (v22 : FVec Ideal S128x128 .f32) (v29 : FVec Ideal S128x128 .f32) (v64 : Vec Ideal S128x256 .f32) (v66 : Vec Ideal S128x128 .f32) (v68 : Vec Ideal S128x128 .f32) (v70 : Vec Ideal S1x128x256 .bf16) (v83 : Vec Ideal S128x256 .f32) (r : Fin 128) (d : Fin 256) :
    k0_pay11 (F := Ideal) v22 v29 v64 v66 v68 v70 v83 (ix2 r d) = v83 (ix2 r d) + ∑ x, (∑ x_1, v66 (ix2 r x_1) * v68 (ix2 x x_1)) * v22 (ix2 r x) * v70 (ix3 0 x d) + ∑ x, v66 (ix2 r x) * v29 (ix2 r x) * v64 (ix2 x d) := by
  pointwise [k0_pay11, k0_pay10]

theorem pay12_apply (v34 : FVec Ideal S128x128 .f32) (v45 : FVec Ideal S1x256 .f32) (v64 : Vec Ideal S128x256 .f32) (v68 : Vec Ideal S128x128 .f32) (v70 : Vec Ideal S1x128x256 .bf16) (r : Fin 128) (d : Fin 256) :
    k0_pay12 (F := Ideal) v34 v45 v64 v68 v70 (ix2 r d) = v64 (ix2 r d) * v45 (ix2 0 d) + ∑ x, v68 (ix2 x r) * v34 (ix2 x r) * v70 (ix3 0 x d) := by
  pointwise [k0_pay12, k0_pay10]

theorem pay9_apply (v49 : Vec Ideal S1x1x256 .f32) (v85 : FVec Ideal S128x256 .f32) (v102 : FVec Ideal S128x1 .f32) (v108 : Vec Ideal S1x128x256 .bf16) (r : Fin 128) (d : Fin 256) :
    k0_pay9 (F := Ideal) v49 v85 v102 v108 (ix3 0 r d) = v108 (ix3 0 r d) * Ideal.logistic (v108 (ix3 0 r d)) * (v85 (ix2 r d) * v102 (ix2 r 0) * v49 (ix3 0 0 d)) := by
  pointwise [k0_pay9]

theorem pay13_apply (v22 : FVec Ideal S128x128 .f32) (v29 : FVec Ideal S128x128 .f32) (v64 : Vec Ideal S128x256 .f32) (v66 : Vec Ideal S128x128 .f32) (v68 : Vec Ideal S128x128 .f32) (v70 : Vec Ideal S1x128x256 .bf16) (v83 : Vec Ideal S128x256 .f32) (r : Fin 128) :
    k0_pay13 (F := Ideal) v22 v29 v64 v66 v68 v70 v83 (ix2 r 0) = Ideal.rsqrt (Ideal.div (∑ x, k0_pay11 (F := Ideal) v22 v29 v64 v66 v68 v70 v83 (ix2 r x) * k0_pay11 (F := Ideal) v22 v29 v64 v66 v68 v70 v83 (ix2 r x)) (Ideal.ofBits .f32 1132462080#32) + Ideal.ofBits .f32 897988541#32) := by
  pointwise [k0_pay13]

theorem pay14_apply (a b : Elt Ideal .f32) (r d : Fin 128) :
    k0_pay14 (F := Ideal) a b (ix2 r d) = if 0 ≤ (FloatOps.sitofp (F := Ideal) .f32 (IntOp.subi (BitVec.ofNat 32 r.val) (BitVec.ofNat 32 d.val)) : EReal) then Ideal.exp (a * max (FloatOps.sitofp (F := Ideal) .f32 (IntOp.subi (BitVec.ofNat 32 r.val) (BitVec.ofNat 32 d.val)) : EReal) 0) else Ideal.exp (b * max (0 - (FloatOps.sitofp (F := Ideal) .f32 (IntOp.subi (BitVec.ofNat 32 r.val) (BitVec.ofNat 32 d.val)) : EReal)) 0) := by
  pointwise [k0_pay14]
theorem pay16_apply (a : Elt Ideal .f32) (r d : Fin 128) :
    k0_pay16 (F := Ideal) a (ix2 r d) = Ideal.exp (a * ((FloatOps.sitofp (F := Ideal) .f32 (BitVec.ofNat 32 r.val) : EReal) + 1)) := by
  pointwise [k0_pay16, k0_pay15]
theorem pay17_apply (a : Elt Ideal .f32) (r d : Fin 128) :
    k0_pay17 (F := Ideal) a (ix2 r d) = Ideal.exp (a * (Ideal.ofBits .f32 1123942400#32 - (FloatOps.sitofp (F := Ideal) .f32 (BitVec.ofNat 32 r.val) : EReal))) := by
  pointwise [k0_pay17, k0_pay15]
theorem pay18_apply (a : Elt Ideal .f32) (r d : Fin 128) :
    k0_pay18 (F := Ideal) a (ix2 r d) = Ideal.exp (a * (Ideal.ofBits .f32 1124073472#32 - (FloatOps.sitofp (F := Ideal) .f32 (BitVec.ofNat 32 r.val) : EReal))) := by
  pointwise [k0_pay18, k0_pay15]
theorem pay19_apply (a : Elt Ideal .f32) (r d : Fin 128) :
    k0_pay19 (F := Ideal) a (ix2 r d) = Ideal.exp (a * (FloatOps.sitofp (F := Ideal) .f32 (BitVec.ofNat 32 r.val) : EReal)) := by
  pointwise [k0_pay19, k0_pay15]
theorem pay20_apply (a : Elt Ideal .f32) (d : Fin 256) :
    k0_pay20 (F := Ideal) a (ix2 0 d) = Ideal.exp (a * Ideal.ofBits .f32 1124073472#32) := by
  pointwise [k0_pay20]
theorem pay21_apply (a : Elt Ideal .f32) :
    k0_pay21 (F := Ideal) a = a * Ideal.ofBits .f32 1124073472#32 := by
  pointwise [k0_pay21]

end Cert.RetIdeal.Block
-- ==== Proof.RetLoops.lean ====
/- What the three loops of the retention body leave in the buffers they write, as closed functions of what they read:
   the rotated queries and keys, the backward pass, and the output. -/
module

public import proofs.«01_k».proof.Proof.RetPays
public import proofs.«01_k».proof.Proof.Gen.RetIdeal.Frame.Runs
public import Idealize.ShloMosaic.Lib.WritesUnit

@[expose] public section

set_option maxRecDepth 16384
set_option maxHeartbeats 1000000

noncomputable section

namespace Cert.RetIdeal.Block

open Cert.RetIdeal Cert.RetIdeal.Gen Idealize.ShloMosaic Idealize.ShloMosaic.TcCoe Idealize.SL.Sem

/-- Row `r` of chunk `n` of the sequence. -/
def row (n : ℕ) (r : Fin 128) : Fin 2048 := ⟨(128 * n + r.val) % 2048, Nat.mod_lt _ (by decide)⟩

theorem row_val {n : ℕ} (hn : n < 16) (r : Fin 128) : (row n r).val = 128 * n + r.val := by
  unfold row; exact Nat.mod_eq_of_lt (by omega)

/-- A place of the sequence, by its chunk and its row in the chunk. -/
def low (s : Fin 2048) : Fin 128 := ⟨s.val % 128, Nat.mod_lt _ (by decide)⟩

theorem row_low (s : Fin 2048) : row (s.val / 128) (low s) = s :=
  Fin.ext (by rw [row_val (by omega)]; show 128 * (s.val / 128) + s.val % 128 = s.val; omega)

theorem low_row {n : ℕ} (hn : n < 16) (r : Fin 128) : low (row n r) = r :=
  Fin.ext (by show (row n r).val % 128 = r.val; rw [row_val hn]; omega)

theorem div_row {n : ℕ} (hn : n < 16) (r : Fin 128) : (row n r).val / 128 = n := by
  rw [row_val hn]; omega

theorem off3 : ∀ k : Fin k0_t1_loop.trips, k0_off3 k = ![128 * k.val, 0] := by decide +kernel
theorem off4 : ∀ k : Fin k0_t1_loop.trips, k0_off4 k = ![0, 128 * k.val, 0] := by decide +kernel
theorem off5 : ∀ k : Fin k0_t2_loop.trips, k0_off5 k = ![128 * (15 - k.val), 0] := by decide +kernel
theorem off6 : ∀ k : Fin k0_t2_loop.trips, k0_off6 k = ![128 * (15 - k.val), 0] := by decide +kernel
theorem off7 : ∀ k : Fin k0_t2_loop.trips, k0_off7 k = ![0, 128 * (15 - k.val), 0] := by decide +kernel
theorem off8 : ∀ k : Fin k0_t3_loop.trips, k0_off8 k = ![128 * k.val, 0] := by decide +kernel
theorem off9 : ∀ k : Fin k0_t3_loop.trips, k0_off9 k = ![0, 128 * k.val, 0] := by decide +kernel
theorem off10 : ∀ k : Fin k0_t3_loop.trips, k0_off10 k = ![128 * k.val, 0] := by decide +kernel

theorem trips1 (k : Fin k0_t1_loop.trips) : k.val < 16 := Nat.lt_of_lt_of_le k.isLt k0_t1_abs.2.1
theorem trips2 (k : Fin k0_t2_loop.trips) : k.val < 16 := Nat.lt_of_lt_of_le k.isLt k0_t2_abs.2.1
theorem trips3 (k : Fin k0_t3_loop.trips) : k.val < 16 := Nat.lt_of_lt_of_le k.isLt k0_t3_abs.2.1

/-! ## Loads of one chunk, and stores of one chunk -/

theorem ld_128 {e : EltTy} (w : S2048x128.Idx → Elt Ideal e) {off : Fin 2 → ℕ} (inb : ∀ a, off a + S128x128.size a ≤ S2048x128.size a) {n : ℕ} (hn : n < 16)
    (ho : off = ![128 * n, 0]) (r : Fin 128) (d : Fin 128) :
    View.ld w (Rect.unit (s := S2048x128) off ![128, 128] inb) (ix2 r d) = w (ix2 (row n r) d) := by
  subst ho
  refine congrArg w (funext fun b => ?_)
  match b with
  | ⟨0, _⟩ => exact Fin.ext (Eq.trans (by show 128 * n + 1 * r.val = 128 * n + r.val; omega) (row_val hn r).symm)
  | ⟨1, _⟩ => exact Fin.ext (by show 0 + 1 * d.val = d.val; omega)

theorem ld3_128 {e : EltTy} (w : S1x2048x128.Idx → Elt Ideal e) {off : Fin 3 → ℕ} (inb : ∀ a, off a + S1x128x128.size a ≤ S1x2048x128.size a) {n : ℕ} (hn : n < 16)
    (ho : off = ![0, 128 * n, 0]) (r : Fin 128) (d : Fin 128) :
    View.ld w (Rect.unit (s := S1x2048x128) off ![1, 128, 128] inb) (ix3 0 r d) = w (ix3 0 (row n r) d) := by
  subst ho
  refine congrArg w (funext fun b => ?_)
  match b with
  | ⟨0, _⟩ => exact Fin.ext rfl
  | ⟨1, _⟩ => exact Fin.ext (Eq.trans (by show 128 * n + 1 * r.val = 128 * n + r.val; omega) (row_val hn r).symm)
  | ⟨2, _⟩ => exact Fin.ext (by show 0 + 1 * d.val = d.val; omega)

theorem hit_128 {e : EltTy} (v : View sig .tc .vmem S2048x128 e) (f : v.ty.Contents (Elt Ideal)) {off : Fin 2 → ℕ} (inb : ∀ a, off a + S128x128.size a ≤ S2048x128.size a)
    (w : S128x128.Idx → Elt Ideal e) (L : List (View.Piece (Elt Ideal) S2048x128 e)) {n : ℕ} (hn : n < 16) (ho : off = ![128 * n, 0]) (r : Fin 128) (d : Fin 128) :
    v.read (Elt Ideal) (v.writes (Elt Ideal) f (⟨Rect.unit (s := S2048x128) off S128x128.size inb, w⟩ :: L)) (ix2 (row n r) d) = w (ix2 r d) :=
  View.read_writes_cons_unit_of_mem v f inb w L _ (ix2 r d) ho (Fin.forall_fin_two.mpr ⟨row_val hn r, (Nat.zero_add _).symm⟩)

theorem miss_128 {e : EltTy} (v : View sig .tc .vmem S2048x128 e) (f : v.ty.Contents (Elt Ideal)) {off : Fin 2 → ℕ} (inb : ∀ a, off a + S128x128.size a ≤ S2048x128.size a)
    (w : S128x128.Idx → Elt Ideal e) (L : List (View.Piece (Elt Ideal) S2048x128 e)) {n : ℕ} (ho : off = ![128 * n, 0]) (s : Fin 2048) (d : Fin 128)
    (h : s.val / 128 ≠ n) :
    v.read (Elt Ideal) (v.writes (Elt Ideal) f (⟨Rect.unit (s := S2048x128) off S128x128.size inb, w⟩ :: L)) (ix2 s d) = v.read (Elt Ideal) (v.writes (Elt Ideal) f L) (ix2 s d) :=
  View.read_writes_cons_unit_of_not_mem v f inb w L _ ho (0 : Fin 2) (by
    show s.val < 128 * n ∨ 128 * n + 128 ≤ s.val
    omega)

theorem ld_256 {e : EltTy} (w : S2048x256.Idx → Elt Ideal e) {off : Fin 2 → ℕ} (inb : ∀ a, off a + S128x256.size a ≤ S2048x256.size a) {n : ℕ} (hn : n < 16)
    (ho : off = ![128 * n, 0]) (r : Fin 128) (d : Fin 256) :
    View.ld w (Rect.unit (s := S2048x256) off ![128, 256] inb) (ix2 r d) = w (ix2 (row n r) d) := by
  subst ho
  refine congrArg w (funext fun b => ?_)
  match b with
  | ⟨0, _⟩ => exact Fin.ext (Eq.trans (by show 128 * n + 1 * r.val = 128 * n + r.val; omega) (row_val hn r).symm)
  | ⟨1, _⟩ => exact Fin.ext (by show 0 + 1 * d.val = d.val; omega)

theorem ld3_256 {e : EltTy} (w : S1x2048x256.Idx → Elt Ideal e) {off : Fin 3 → ℕ} (inb : ∀ a, off a + S1x128x256.size a ≤ S1x2048x256.size a) {n : ℕ} (hn : n < 16)
    (ho : off = ![0, 128 * n, 0]) (r : Fin 128) (d : Fin 256) :
    View.ld w (Rect.unit (s := S1x2048x256) off ![1, 128, 256] inb) (ix3 0 r d) = w (ix3 0 (row n r) d) := by
  subst ho
  refine congrArg w (funext fun b => ?_)
  match b with
  | ⟨0, _⟩ => exact Fin.ext rfl
  | ⟨1, _⟩ => exact Fin.ext (Eq.trans (by show 128 * n + 1 * r.val = 128 * n + r.val; omega) (row_val hn r).symm)
  | ⟨2, _⟩ => exact Fin.ext (by show 0 + 1 * d.val = d.val; omega)

theorem hit_256 {e : EltTy} (v : View sig .tc .vmem S2048x256 e) (f : v.ty.Contents (Elt Ideal)) {off : Fin 2 → ℕ} (inb : ∀ a, off a + S128x256.size a ≤ S2048x256.size a)
    (w : S128x256.Idx → Elt Ideal e) (L : List (View.Piece (Elt Ideal) S2048x256 e)) {n : ℕ} (hn : n < 16) (ho : off = ![128 * n, 0]) (r : Fin 128) (d : Fin 256) :
    v.read (Elt Ideal) (v.writes (Elt Ideal) f (⟨Rect.unit (s := S2048x256) off S128x256.size inb, w⟩ :: L)) (ix2 (row n r) d) = w (ix2 r d) :=
  View.read_writes_cons_unit_of_mem v f inb w L _ (ix2 r d) ho (Fin.forall_fin_two.mpr ⟨row_val hn r, (Nat.zero_add _).symm⟩)

theorem miss_256 {e : EltTy} (v : View sig .tc .vmem S2048x256 e) (f : v.ty.Contents (Elt Ideal)) {off : Fin 2 → ℕ} (inb : ∀ a, off a + S128x256.size a ≤ S2048x256.size a)
    (w : S128x256.Idx → Elt Ideal e) (L : List (View.Piece (Elt Ideal) S2048x256 e)) {n : ℕ} (ho : off = ![128 * n, 0]) (s : Fin 2048) (d : Fin 256)
    (h : s.val / 128 ≠ n) :
    v.read (Elt Ideal) (v.writes (Elt Ideal) f (⟨Rect.unit (s := S2048x256) off S128x256.size inb, w⟩ :: L)) (ix2 s d) = v.read (Elt Ideal) (v.writes (Elt Ideal) f L) (ix2 s d) :=
  View.read_writes_cons_unit_of_not_mem v f inb w L _ ho (0 : Fin 2) (by
    show s.val < 128 * n ∨ 128 * n + 128 ≤ s.val
    omega)

theorem hit3 {e : EltTy} (v : View sig .tc .vmem S1x2048x256 e) (f : v.ty.Contents (Elt Ideal)) {off : Fin 3 → ℕ} (inb : ∀ a, off a + S1x128x256.size a ≤ S1x2048x256.size a)
    (w : S1x128x256.Idx → Elt Ideal e) (L : List (View.Piece (Elt Ideal) S1x2048x256 e)) {n : ℕ} (hn : n < 16) (ho : off = ![0, 128 * n, 0]) (r : Fin 128) (d : Fin 256) :
    v.read (Elt Ideal) (v.writes (Elt Ideal) f (⟨Rect.unit (s := S1x2048x256) off S1x128x256.size inb, w⟩ :: L)) (ix3 0 (row n r) d) = w (ix3 0 r d) :=
  View.read_writes_cons_unit_of_mem v f inb w L _ (ix3 0 r d) ho fun a => by
    match a with
    | ⟨0, _⟩ => rfl
    | ⟨1, _⟩ => exact row_val hn r
    | ⟨2, _⟩ => exact (Nat.zero_add _).symm

theorem miss3 {e : EltTy} (v : View sig .tc .vmem S1x2048x256 e) (f : v.ty.Contents (Elt Ideal)) {off : Fin 3 → ℕ} (inb : ∀ a, off a + S1x128x256.size a ≤ S1x2048x256.size a)
    (w : S1x128x256.Idx → Elt Ideal e) (L : List (View.Piece (Elt Ideal) S1x2048x256 e)) {n : ℕ} (ho : off = ![0, 128 * n, 0]) (s : Fin 2048) (d : Fin 256)
    (h : s.val / 128 ≠ n) :
    v.read (Elt Ideal) (v.writes (Elt Ideal) f (⟨Rect.unit (s := S1x2048x256) off S1x128x256.size inb, w⟩ :: L)) (ix3 0 s d) = v.read (Elt Ideal) (v.writes (Elt Ideal) f L) (ix3 0 s d) :=
  View.read_writes_cons_unit_of_not_mem v f inb w L _ ho (1 : Fin 3) (by
    show s.val < 128 * n ∨ 128 * n + 128 ≤ s.val
    omega)

/-- The whole of the state buffer: a load reads it, the newest store of it is what it holds. -/
theorem ld_st (w : S128x256.Idx → Elt Ideal .f32) (r : Fin 128) (d : Fin 256) : View.ld w (Rect.unit (s := S128x256) ![0, 0] ![128, 256] inb_S128x256_S128x256_0_0) (ix2 r d) = w (ix2 r d) := by
  refine congrArg w (funext fun b => ?_)
  match b with
  | ⟨0, _⟩ => exact Fin.ext (by show 0 + 1 * r.val = r.val; omega)
  | ⟨1, _⟩ => exact Fin.ext (by show 0 + 1 * d.val = d.val; omega)

theorem hit_st (v : View sig .tc .vmem S128x256 .f32) (f : v.ty.Contents (Elt Ideal))
    (w : S128x256.Idx → Elt Ideal .f32) (L : List (View.Piece (Elt Ideal) S128x256 .f32)) (r : Fin 128) (d : Fin 256) :
    v.read (Elt Ideal) (v.writes (Elt Ideal) f (⟨(Rect.unit (s := S128x256) ![0, 0] S128x256.size inb_S128x256_S128x256_0_0), w⟩ :: L)) (ix2 r d) = w (ix2 r d) :=
  View.read_writes_cons_unit_of_mem v f inb_S128x256_S128x256_0_0 w L _ (ix2 r d) rfl
    (Fin.forall_fin_two.mpr ⟨(Nat.zero_add _).symm, (Nat.zero_add _).symm⟩)

/-! ## The functions -/

/-- A row of queries or keys rotated: `x · cos + (x turned by half) · sin`. -/
def rot (x : Vec Ideal S1x2048x128 .bf16) (cs sn : Vec Ideal S2048x128 .f32) (s : Fin 2048) (d : Fin 128) : EReal :=
  x (ix3 0 s d) * cs (ix2 s d) + x (ix3 0 s ⟨(d.val + 128 - 64) % 128, Nat.mod_lt _ (by decide)⟩) * sn (ix2 s d)

/-- The state before the `n`-th chunk from the end. -/
def stB (k : Fin 2048 → Fin 128 → EReal) (v : Fin 2048 → Fin 256 → EReal) (kd : FVec Ideal S128x128 .f32) (cd : EReal) : ℕ → Fin 128 → Fin 256 → EReal
  | 0, _, _ => 0
  | n + 1, d, e => stB k v kd cd n d e * Ideal.exp cd + ∑ x, k (row (15 - n) x) d * kd (ix2 x d) * v (row (15 - n) x) e

/-- What the backward pass adds at a place: the query, decayed, times the state of the later chunks. -/
def yB (q k : Fin 2048 → Fin 128 → EReal) (v : Fin 2048 → Fin 256 → EReal) (qd kd : FVec Ideal S128x128 .f32) (cd : EReal) (s : Fin 2048) (e : Fin 256) : EReal :=
  ∑ x, q s x * qd (ix2 (low s) x) * stB k v kd cd (15 - s.val / 128) x e

/-- The state before the `n`-th chunk. -/
def stF (k : Fin 2048 → Fin 128 → EReal) (v : Fin 2048 → Fin 256 → EReal) (kd : FVec Ideal S128x128 .f32) (cd : FVec Ideal S1x256 .f32) : ℕ → Fin 128 → Fin 256 → EReal
  | 0, _, _ => 0
  | n + 1, d, e => stF k v kd cd n d e * cd (ix2 0 e) + ∑ x, k (row n x) d * kd (ix2 x d) * v (row n x) e

/-- The retention at a place: the backward pass's part, the chunk's own part, and the earlier chunks' part. -/
def ySum (q k : Fin 2048 → Fin 128 → EReal) (v yb : Fin 2048 → Fin 256 → EReal) (mk qd kd : FVec Ideal S128x128 .f32) (cd : FVec Ideal S1x256 .f32) (s : Fin 2048) (e : Fin 256) : EReal :=
  yb s e + ∑ x, (∑ x_1, q s x_1 * k (row (s.val / 128) x) x_1) * mk (ix2 (low s) x) * v (row (s.val / 128) x) e
    + ∑ x, q s x * qd (ix2 (low s) x) * stF k v kd cd (s.val / 128) x e

/-- The output at a place: the retention under its root-mean-square norm with a gain, times the gate. -/
def out (y g : Fin 2048 → Fin 256 → EReal) (w : Fin 256 → EReal) (s : Fin 2048) (e : Fin 256) : EReal :=
  g s e * Ideal.logistic (g s e) * (y s e * Ideal.rsqrt (Ideal.div (∑ x, y s x * y s x) (Ideal.ofBits .f32 1132462080#32) + Ideal.ofBits .f32 897988541#32) * w e)

/-! ## One step of each loop, on loaded blocks -/

section step

variable {n : ℕ} (hn : n < 16) {x1 : Vec Ideal S1x128x128 .bf16} {cs sn v66 v67 v68 v77 : Vec Ideal S128x128 .f32} {v64 v65 v83 : Vec Ideal S128x256 .f32} {x3 v108 : Vec Ideal S1x128x256 .bf16}
  {v22 v29 v34 v39 v42 : FVec Ideal S128x128 .f32} {v45 : FVec Ideal S1x256 .f32} {v46 : Ideal .f32} {v49 : Vec Ideal S1x1x256 .f32}
  {q k : Fin 2048 → Fin 128 → EReal} {v yb g : Fin 2048 → Fin 256 → EReal} {w : Fin 256 → EReal}

include hn

theorem step3 {X : Vec Ideal S1x2048x128 .bf16} {C N : Vec Ideal S2048x128 .f32} (hx : ∀ r d, x1 (ix3 0 r d) = X (ix3 0 (row n r) d))
    (hc : ∀ r d, cs (ix2 r d) = C (ix2 (row n r) d)) (hs : ∀ r d, sn (ix2 r d) = N (ix2 (row n r) d)) (r d : Fin 128) :
    k0_pay3 (F := Ideal) cs sn x1 (ix2 r d) = rot X C N (row n r) d := by
  rw [pay3_apply, hx, hx, hc, hs]; rfl

theorem step4 {X : Vec Ideal S1x2048x128 .bf16} {C N : Vec Ideal S2048x128 .f32} (hx : ∀ r d, x1 (ix3 0 r d) = X (ix3 0 (row n r) d))
    (hc : ∀ r d, cs (ix2 r d) = C (ix2 (row n r) d)) (hs : ∀ r d, sn (ix2 r d) = N (ix2 (row n r) d)) (r d : Fin 128) :
    k0_pay4 (F := Ideal) cs sn x1 (ix2 r d) = rot X C N (row n r) d * Ideal.ofBits .f32 1035273459#32 := by
  rw [pay4_apply, hx, hx, hc, hs]; rfl

theorem step6 (h65 : ∀ d e, v65 (ix2 d e) = stB k v v42 v46 (15 - n) d e) (h67 : ∀ r d, v67 (ix2 r d) = q (row n r) d) (r : Fin 128) (e : Fin 256) :
    k0_pay6 (F := Ideal) v39 v65 v67 (ix2 r e) = yB q k v v39 v42 v46 (row n r) e := by
  rw [pay6_apply]
  unfold yB
  rw [low_row hn, div_row hn]
  simp only [h65, h67]

theorem step7 {N : ℕ} (hN : n = 15 - N) (h65 : ∀ d e, v65 (ix2 d e) = stB k v v42 v46 N d e) (h77 : ∀ r d, v77 (ix2 r d) = k (row n r) d)
    (h83 : ∀ r e, x3 (ix3 0 r e) = v (row n r) e) (d : Fin 128) (e : Fin 256) :
    k0_pay7 (F := Ideal) v42 v46 v65 v77 x3 (ix2 d e) = stB k v v42 v46 (N + 1) d e := by
  subst hN
  rw [pay7_apply]
  simp only [h65, h77, h83]
  rfl

theorem step12 (h64 : ∀ d e, v64 (ix2 d e) = stF k v v34 v45 n d e) (h68 : ∀ r d, v68 (ix2 r d) = k (row n r) d)
    (h70 : ∀ r e, x3 (ix3 0 r e) = v (row n r) e) (d : Fin 128) (e : Fin 256) :
    k0_pay12 (F := Ideal) v34 v45 v64 v68 x3 (ix2 d e) = stF k v v34 v45 (n + 1) d e := by
  rw [pay12_apply]
  simp only [h64, h68, h70]
  rfl

theorem step11 (h64 : ∀ d e, v64 (ix2 d e) = stF k v v34 v45 n d e) (h66 : ∀ r d, v66 (ix2 r d) = q (row n r) d) (h68 : ∀ r d, v68 (ix2 r d) = k (row n r) d)
    (h70 : ∀ r e, x3 (ix3 0 r e) = v (row n r) e) (h83 : ∀ r e, v83 (ix2 r e) = yb (row n r) e) (r : Fin 128) (e : Fin 256) :
    k0_pay11 (F := Ideal) v22 v29 v64 v66 v68 x3 v83 (ix2 r e) = ySum q k v yb v22 v29 v34 v45 (row n r) e := by
  rw [pay11_apply]
  unfold ySum
  rw [low_row hn, div_row hn]
  simp only [h64, h66, h68, h70, h83]

theorem step9 (h64 : ∀ d e, v64 (ix2 d e) = stF k v v34 v45 n d e) (h66 : ∀ r d, v66 (ix2 r d) = q (row n r) d) (h68 : ∀ r d, v68 (ix2 r d) = k (row n r) d)
    (h70 : ∀ r e, x3 (ix3 0 r e) = v (row n r) e) (h83 : ∀ r e, v83 (ix2 r e) = yb (row n r) e) (h108 : ∀ r e, v108 (ix3 0 r e) = g (row n r) e)
    (hw : ∀ e, v49 (ix3 0 0 e) = w e) (r : Fin 128) (e : Fin 256) :
    k0_pay9 (F := Ideal) v49 (k0_pay11 (F := Ideal) v22 v29 v64 v66 v68 x3 v83) (k0_pay13 (F := Ideal) v22 v29 v64 v66 v68 x3 v83) v108 (ix3 0 r e)
      = out (ySum q k v yb v22 v29 v34 v45) g w (row n r) e := by
  have h := step11 (v22 := v22) (v29 := v29) hn h64 h66 h68 h70 h83
  rw [pay9_apply, pay13_apply]
  simp only [h, h108, hw]
  rfl

end step

/-! ## The loops -/

variable (𝒱 : Variants) (c : Dev nD) (bd : Option 𝒱.V) (i : grid0.Coords) (arg2 : Memref sig .tc .smem S2x8 .f32) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x256 .bf16) (harg5 : arg5.IsWhole) (arg6 : Memref sig .tc .vmem S1x2048x256 .bf16) (harg6 : arg6.IsWhole) (arg7 : Memref sig .tc .vmem S2048x128 .f32) (harg7 : arg7.IsWhole) (arg8 : Memref sig .tc .vmem S2048x128 .f32) (harg8 : arg8.IsWhole) (arg9 : Memref sig .tc .vmem S1x1x256 .f32) (harg9 : arg9.IsWhole) (arg10 : Memref sig .tc .vmem S1x2048x256 .bf16) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x256 .f32) (harg13 : arg13.IsWhole) (arg14 : Memref sig .tc .vmem S128x256 .f32) (harg14 : arg14.IsWhole)

theorem pieces1 (X3 : BufTy.Contents (Elt Ideal) arg3.view.ty) (X4 : BufTy.Contents (Elt Ideal) arg4.view.ty) (X7 : BufTy.Contents (Elt Ideal) arg7.view.ty) (X8 : BufTy.Contents (Elt Ideal) arg8.view.ty) (k : Fin k0_t1_loop.trips) :
    tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 X3 X4 X7 X8 k
      = ([⟨(Rect.unit (s := S2048x128) (k0_off3 k) S128x128.size (k0_off3_inb k)), k0_pay3 (F := Ideal) (View.ld (arg7.view.read (Elt Ideal) X7) (Rect.unit (s := S2048x128) (k0_off3 k) S128x128.size (k0_off3_inb k))) (View.ld (arg8.view.read (Elt Ideal) X8) (Rect.unit (s := S2048x128) (k0_off3 k) S128x128.size (k0_off3_inb k))) (View.ld (arg3.view.read (Elt Ideal) X3) (Rect.unit (s := S1x2048x128) (k0_off4 k) S1x128x128.size (k0_off4_inb k)))⟩],
        [⟨(Rect.unit (s := S2048x128) (k0_off3 k) S128x128.size (k0_off3_inb k)), k0_pay4 (F := Ideal) (View.ld (arg7.view.read (Elt Ideal) X7) (Rect.unit (s := S2048x128) (k0_off3 k) S128x128.size (k0_off3_inb k))) (View.ld (arg8.view.read (Elt Ideal) X8) (Rect.unit (s := S2048x128) (k0_off3 k) S128x128.size (k0_off3_inb k))) (View.ld (arg4.view.read (Elt Ideal) X4) (Rect.unit (s := S1x2048x128) (k0_off4 k) S1x128x128.size (k0_off4_inb k)))⟩]) := by
  unfold tripL_k0_t1 trip_k0_t1
  rfl

theorem pieces2 (v39 v42 : FVec Ideal S128x128 .f32) (v46 : Ideal .f32) (X5 : BufTy.Contents (Elt Ideal) arg5.view.ty) (X11 : BufTy.Contents (Elt Ideal) arg11.view.ty) (X12 : BufTy.Contents (Elt Ideal) arg12.view.ty) (k : Fin k0_t2_loop.trips) (G13 : BufTy.Contents (Elt Ideal) arg13.view.ty) (G14 : BufTy.Contents (Elt Ideal) arg14.view.ty) :
    tripL_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 v39 v42 v46 X5 X11 X12 k G13 G14
      = ([⟨(Rect.unit (s := S2048x256) (k0_off6 k) S128x256.size (k0_off6_inb k)), k0_pay6 (F := Ideal) v39 (View.ld (arg14.view.read (Elt Ideal) G14) (Rect.unit (s := S128x256) ![0, 0] S128x256.size inb_S128x256_S128x256_0_0)) (View.ld (arg11.view.read (Elt Ideal) X11) (Rect.unit (s := S2048x128) (k0_off5 k) S128x128.size (k0_off5_inb k)))⟩],
        [⟨(Rect.unit (s := S128x256) ![0, 0] S128x256.size inb_S128x256_S128x256_0_0), k0_pay7 (F := Ideal) v42 v46 (View.ld (arg14.view.read (Elt Ideal) G14) (Rect.unit (s := S128x256) ![0, 0] S128x256.size inb_S128x256_S128x256_0_0)) (View.ld (arg12.view.read (Elt Ideal) X12) (Rect.unit (s := S2048x128) (k0_off5 k) S128x128.size (k0_off5_inb k))) (View.ld (arg5.view.read (Elt Ideal) X5) (Rect.unit (s := S1x2048x256) (k0_off7 k) S1x128x256.size (k0_off7_inb k)))⟩]) := by
  unfold tripL_k0_t2 trip_k0_t2
  rfl

theorem pieces3 (v22 v29 v34 : FVec Ideal S128x128 .f32) (v45 : FVec Ideal S1x256 .f32) (v49 : Vec Ideal S1x1x256 .f32) (X5 : BufTy.Contents (Elt Ideal) arg5.view.ty) (X6 : BufTy.Contents (Elt Ideal) arg6.view.ty) (X11 : BufTy.Contents (Elt Ideal) arg11.view.ty) (X12 : BufTy.Contents (Elt Ideal) arg12.view.ty) (X13 : BufTy.Contents (Elt Ideal) arg13.view.ty) (k : Fin k0_t3_loop.trips) (G10 : BufTy.Contents (Elt Ideal) arg10.view.ty) (G14 : BufTy.Contents (Elt Ideal) arg14.view.ty) :
    tripL_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 v22 v29 v34 v45 v49 X5 X6 X11 X12 X13 k G10 G14
      = ([⟨(Rect.unit (s := S1x2048x256) (k0_off9 k) S1x128x256.size (k0_off9_inb k)), k0_pay9 (F := Ideal) v49
            (k0_pay11 (F := Ideal) v22 v29 (View.ld (arg14.view.read (Elt Ideal) G14) (Rect.unit (s := S128x256) ![0, 0] S128x256.size inb_S128x256_S128x256_0_0)) (View.ld (arg11.view.read (Elt Ideal) X11) (Rect.unit (s := S2048x128) (k0_off8 k) S128x128.size (k0_off8_inb k))) (View.ld (arg12.view.read (Elt Ideal) X12) (Rect.unit (s := S2048x128) (k0_off8 k) S128x128.size (k0_off8_inb k))) (View.ld (arg5.view.read (Elt Ideal) X5) (Rect.unit (s := S1x2048x256) (k0_off9 k) S1x128x256.size (k0_off9_inb k))) (View.ld (arg13.view.read (Elt Ideal) X13) (Rect.unit (s := S2048x256) (k0_off10 k) S128x256.size (k0_off10_inb k))))
            (k0_pay13 (F := Ideal) v22 v29 (View.ld (arg14.view.read (Elt Ideal) G14) (Rect.unit (s := S128x256) ![0, 0] S128x256.size inb_S128x256_S128x256_0_0)) (View.ld (arg11.view.read (Elt Ideal) X11) (Rect.unit (s := S2048x128) (k0_off8 k) S128x128.size (k0_off8_inb k))) (View.ld (arg12.view.read (Elt Ideal) X12) (Rect.unit (s := S2048x128) (k0_off8 k) S128x128.size (k0_off8_inb k))) (View.ld (arg5.view.read (Elt Ideal) X5) (Rect.unit (s := S1x2048x256) (k0_off9 k) S1x128x256.size (k0_off9_inb k))) (View.ld (arg13.view.read (Elt Ideal) X13) (Rect.unit (s := S2048x256) (k0_off10 k) S128x256.size (k0_off10_inb k))))
            (View.ld (arg6.view.read (Elt Ideal) X6) (Rect.unit (s := S1x2048x256) (k0_off9 k) S1x128x256.size (k0_off9_inb k)))⟩],
        [⟨(Rect.unit (s := S128x256) ![0, 0] S128x256.size inb_S128x256_S128x256_0_0), k0_pay12 (F := Ideal) v34 v45 (View.ld (arg14.view.read (Elt Ideal) G14) (Rect.unit (s := S128x256) ![0, 0] S128x256.size inb_S128x256_S128x256_0_0)) (View.ld (arg12.view.read (Elt Ideal) X12) (Rect.unit (s := S2048x128) (k0_off8 k) S128x128.size (k0_off8_inb k))) (View.ld (arg5.view.read (Elt Ideal) X5) (Rect.unit (s := S1x2048x256) (k0_off9 k) S1x128x256.size (k0_off9_inb k)))⟩]) := by
  unfold tripL_k0_t3 trip_k0_t3
  rfl

/-- After `n` trips of the first loop the first `n` chunks hold the rotated queries, and the rotated keys scaled. -/
theorem loop1 (X3 : BufTy.Contents (Elt Ideal) arg3.view.ty) (X4 : BufTy.Contents (Elt Ideal) arg4.view.ty) (X7 : BufTy.Contents (Elt Ideal) arg7.view.ty) (X8 : BufTy.Contents (Elt Ideal) arg8.view.ty) (G11 : BufTy.Contents (Elt Ideal) arg11.view.ty) (G12 : BufTy.Contents (Elt Ideal) arg12.view.ty) : ∀ n : ℕ, n ≤ k0_t1_loop.trips → ∀ (s : Fin 2048) (d : Fin 128), s.val / 128 < n →
    arg11.view.read (Elt Ideal) (arg11.view.writes (Elt Ideal) G11 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 X3 X4 X7 X8 n).1) (ix2 s d) = rot (arg3.view.read (Elt Ideal) X3) (arg7.view.read (Elt Ideal) X7) (arg8.view.read (Elt Ideal) X8) s d
    ∧ arg12.view.read (Elt Ideal) (arg12.view.writes (Elt Ideal) G12 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 X3 X4 X7 X8 n).2) (ix2 s d) = rot (arg4.view.read (Elt Ideal) X4) (arg7.view.read (Elt Ideal) X7) (arg8.view.read (Elt Ideal) X8) s d * Ideal.ofBits .f32 1035273459#32 := by
  intro n
  induction n with
  | zero => intro _ s d h; exact absurd h (Nat.not_lt_zero _)
  | succ n ih =>
    intro hn s d h
    have h16 := trips1 ⟨n, hn⟩
    have hs := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 X3 X4 X7 X8 ⟨n, hn⟩
    rw [pieces1] at hs
    rw [hs]
    dsimp only [List.cons_append, List.nil_append]
    by_cases hc : s.val / 128 = n
    · obtain ⟨r, rfl⟩ : ∃ r, s = row n r := ⟨low s, by rw [← hc]; exact (row_low s).symm⟩
      rw [hit_128 _ _ _ _ _ h16 (off3 ⟨n, hn⟩), hit_128 _ _ _ _ _ h16 (off3 ⟨n, hn⟩)]
      exact ⟨step3 h16 (ld3_128 _ _ h16 (off4 ⟨n, hn⟩)) (ld_128 _ _ h16 (off3 ⟨n, hn⟩)) (ld_128 _ _ h16 (off3 ⟨n, hn⟩)) r d,
        step4 h16 (ld3_128 _ _ h16 (off4 ⟨n, hn⟩)) (ld_128 _ _ h16 (off3 ⟨n, hn⟩)) (ld_128 _ _ h16 (off3 ⟨n, hn⟩)) r d⟩
    · rw [miss_128 _ _ _ _ _ (off3 ⟨n, hn⟩) s d hc, miss_128 _ _ _ _ _ (off3 ⟨n, hn⟩) s d hc]
      exact ih (Nat.le_of_succ_le hn) s d (by omega)

section backward

variable (q k : Fin 2048 → Fin 128 → EReal) (v : Fin 2048 → Fin 256 → EReal)

/-- After `n` trips of the second loop the last `n` chunks hold the backward pass, and the state is that of `n` chunks. -/
theorem loop2 (v39 v42 : FVec Ideal S128x128 .f32) (v46 : Ideal .f32) (X5 : BufTy.Contents (Elt Ideal) arg5.view.ty) (X11 : BufTy.Contents (Elt Ideal) arg11.view.ty) (X12 : BufTy.Contents (Elt Ideal) arg12.view.ty) (G13 : BufTy.Contents (Elt Ideal) arg13.view.ty) (G14 : BufTy.Contents (Elt Ideal) arg14.view.ty)
    (h5 : ∀ s e, arg5.view.read (Elt Ideal) X5 (ix3 0 s e) = v s e) (h11 : ∀ s d, arg11.view.read (Elt Ideal) X11 (ix2 s d) = q s d)
    (h12 : ∀ s d, arg12.view.read (Elt Ideal) X12 (ix2 s d) = k s d) (h14 : ∀ d e, arg14.view.read (Elt Ideal) G14 (ix2 d e) = 0) :
    ∀ n : ℕ, n ≤ k0_t2_loop.trips →
    (∀ (d : Fin 128) (e : Fin 256), arg14.view.read (Elt Ideal) (arg14.view.writes (Elt Ideal) G14 (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 v39 v42 v46 X5 X11 X12 G13 G14 n).2) (ix2 d e) = stB k v v42 v46 n d e)
    ∧ ∀ (s : Fin 2048) (e : Fin 256), 15 - s.val / 128 < n → arg13.view.read (Elt Ideal) (arg13.view.writes (Elt Ideal) G13 (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 v39 v42 v46 X5 X11 X12 G13 G14 n).1) (ix2 s e) = yB q k v v39 v42 v46 s e := by
  intro n
  induction n with
  | zero => exact fun _ => ⟨fun d e => h14 d e, fun s e h => absurd h (Nat.not_lt_zero _)⟩
  | succ n ih =>
    intro hn
    have h16 := trips2 ⟨n, hn⟩
    have hr : 15 - n < 16 := by omega
    obtain ⟨ih1, ih2⟩ := ih (Nat.le_of_succ_le hn)
    have hs := pb_k0_t2_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 v39 v42 v46 X5 X11 X12 G13 G14 ⟨n, hn⟩
    rw [pieces2] at hs
    rw [hs]
    dsimp only [List.cons_append, List.nil_append]
    refine ⟨fun d e => ?_, fun s e h => ?_⟩
    · rw [hit_st]
      exact step7 hr rfl (fun d e => (ld_st _ d e).trans (ih1 d e)) (fun r d => (ld_128 _ _ hr (off5 ⟨n, hn⟩) r d).trans (h12 _ _))
        (fun r e => (ld3_256 _ _ hr (off7 ⟨n, hn⟩) r e).trans (h5 _ _)) d e
    · by_cases hc : s.val / 128 = 15 - n
      · obtain ⟨r, rfl⟩ : ∃ r, s = row (15 - n) r := ⟨low s, by rw [← hc]; exact (row_low s).symm⟩
        rw [hit_256 _ _ _ _ _ hr (off6 ⟨n, hn⟩)]
        have e15 : 15 - (15 - n) = n := by have := h16; dsimp only at this; omega
        exact step6 hr (fun d e => (ld_st _ d e).trans ((ih1 d e).trans (by rw [e15]))) (fun r d => (ld_128 _ _ hr (off5 ⟨n, hn⟩) r d).trans (h11 _ _)) r e
      · rw [miss_256 _ _ _ _ _ (off6 ⟨n, hn⟩) s e hc]
        exact ih2 s e (by have := s.isLt; omega)

variable (yb g : Fin 2048 → Fin 256 → EReal) (w : Fin 256 → EReal)

/-- After `n` trips of the third loop the first `n` chunks of the output are final, and the state is that of `n` chunks. -/
theorem loop3 (v22 v29 v34 : FVec Ideal S128x128 .f32) (v45 : FVec Ideal S1x256 .f32) (v49 : Vec Ideal S1x1x256 .f32) (X5 : BufTy.Contents (Elt Ideal) arg5.view.ty) (X6 : BufTy.Contents (Elt Ideal) arg6.view.ty) (X11 : BufTy.Contents (Elt Ideal) arg11.view.ty) (X12 : BufTy.Contents (Elt Ideal) arg12.view.ty) (X13 : BufTy.Contents (Elt Ideal) arg13.view.ty) (G10 : BufTy.Contents (Elt Ideal) arg10.view.ty) (G14 : BufTy.Contents (Elt Ideal) arg14.view.ty)
    (h5 : ∀ s e, arg5.view.read (Elt Ideal) X5 (ix3 0 s e) = v s e) (h6 : ∀ s e, arg6.view.read (Elt Ideal) X6 (ix3 0 s e) = g s e)
    (h11 : ∀ s d, arg11.view.read (Elt Ideal) X11 (ix2 s d) = q s d) (h12 : ∀ s d, arg12.view.read (Elt Ideal) X12 (ix2 s d) = k s d)
    (h13 : ∀ s e, arg13.view.read (Elt Ideal) X13 (ix2 s e) = yb s e) (hw : ∀ e, v49 (ix3 0 0 e) = w e)
    (h14 : ∀ d e, arg14.view.read (Elt Ideal) G14 (ix2 d e) = 0) :
    ∀ n : ℕ, n ≤ k0_t3_loop.trips →
    (∀ (d : Fin 128) (e : Fin 256), arg14.view.read (Elt Ideal) (arg14.view.writes (Elt Ideal) G14 (pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 v22 v29 v34 v45 v49 X5 X6 X11 X12 X13 G10 G14 n).2) (ix2 d e) = stF k v v34 v45 n d e)
    ∧ ∀ (s : Fin 2048) (e : Fin 256), s.val / 128 < n → arg10.view.read (Elt Ideal) (arg10.view.writes (Elt Ideal) G10 (pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 v22 v29 v34 v45 v49 X5 X6 X11 X12 X13 G10 G14 n).1) (ix3 0 s e) = out (ySum q k v yb v22 v29 v34 v45) g w s e := by
  intro n
  induction n with
  | zero => exact fun _ => ⟨fun d e => h14 d e, fun s e h => absurd h (Nat.not_lt_zero _)⟩
  | succ n ih =>
    intro hn
    have h16 := trips3 ⟨n, hn⟩
    obtain ⟨ih1, ih2⟩ := ih (Nat.le_of_succ_le hn)
    have hs := pb_k0_t3_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 v22 v29 v34 v45 v49 X5 X6 X11 X12 X13 G10 G14 ⟨n, hn⟩
    rw [pieces3] at hs
    rw [hs]
    dsimp only [List.cons_append, List.nil_append]
    refine ⟨fun d e => ?_, fun s e h => ?_⟩
    · rw [hit_st]
      exact step12 h16 (fun d e => (ld_st _ d e).trans (ih1 d e)) (fun r d => (ld_128 _ _ h16 (off8 ⟨n, hn⟩) r d).trans (h12 _ _))
        (fun r e => (ld3_256 _ _ h16 (off9 ⟨n, hn⟩) r e).trans (h5 _ _)) d e
    · by_cases hc : s.val / 128 = n
      · obtain ⟨r, rfl⟩ : ∃ r, s = row n r := ⟨low s, by rw [← hc]; exact (row_low s).symm⟩
        rw [hit3 _ _ _ _ _ h16 (off9 ⟨n, hn⟩)]
        exact step9 h16 (fun d e => (ld_st _ d e).trans (ih1 d e)) (fun r d => (ld_128 _ _ h16 (off8 ⟨n, hn⟩) r d).trans (h11 _ _))
          (fun r d => (ld_128 _ _ h16 (off8 ⟨n, hn⟩) r d).trans (h12 _ _)) (fun r e => (ld3_256 _ _ h16 (off9 ⟨n, hn⟩) r e).trans (h5 _ _))
          (fun r e => (ld_256 _ _ h16 (off10 ⟨n, hn⟩) r e).trans (h13 _ _)) (fun r e => (ld3_256 _ _ h16 (off9 ⟨n, hn⟩) r e).trans (h6 _ _)) hw r e
      · rw [miss3 _ _ _ _ _ (off9 ⟨n, hn⟩) s e hc]
        exact ih2 s e (by omega)

end backward

end Cert.RetIdeal.Block

end
-- ==== Proof.RetRun.lean ====
/- The retention body's run with its output named, and from it the call's run: every element of the output array is the
   block function's value on the input blocks of its grid point. -/
module

public import proofs.«01_k».proof.Proof.RetLoops
public import Idealize.ShloMosaic.Lib.Pipeline.ValueKit.Point
public import Idealize.ShloMosaic.Lib.Claim

@[expose] public section

set_option maxRecDepth 16384
set_option maxHeartbeats 1000000

noncomputable section

namespace Cert.RetIdeal.Block

open Cert.RetIdeal Cert.RetIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- The keys of a block: rotated and scaled. -/
def keyOf (x : Vec Ideal S1x2048x128 .bf16) (cs sn : Vec Ideal S2048x128 .f32) (s : Fin 2048) (d : Fin 128) : EReal :=
  rot x cs sn s d * Ideal.ofBits .f32 1035273459#32

/-- A block of 2048 rows as a function of row and column. -/
def mat (x : Vec Ideal S1x2048x256 .bf16) (s : Fin 2048) (e : Fin 256) : EReal := x (ix3 0 s e)

/-- The output block from the input blocks and the decay tables. -/
def blockOf (v22 v29 v34 v39 v42 : FVec Ideal S128x128 .f32) (v45 : FVec Ideal S1x256 .f32) (v46 : Ideal .f32)
    (x1 x2 : Vec Ideal S1x2048x128 .bf16) (x3 x4 : Vec Ideal S1x2048x256 .bf16) (x5 x6 : Vec Ideal S2048x128 .f32) (x7 : Vec Ideal S1x1x256 .f32) : Vec Ideal S1x2048x256 .bf16 := fun y =>
  out (ySum (rot x1 x5 x6) (keyOf x2 x5 x6) (mat x3) (yB (rot x1 x5 x6) (keyOf x2 x5 x6) (mat x3) v39 v42 v46) v22 v29 v34 v45)
    (mat x4) (fun e => x7 (ix3 0 0 e)) (y 1) (y 2)

/-- The output block from the input blocks and the two log decays. -/
def blockOut (a b : EReal) (x1 x2 : Vec Ideal S1x2048x128 .bf16) (x3 x4 : Vec Ideal S1x2048x256 .bf16) (x5 x6 : Vec Ideal S2048x128 .f32) (x7 : Vec Ideal S1x1x256 .f32) : Vec Ideal S1x2048x256 .bf16 :=
  blockOf (k0_pay14 (F := Ideal) a b) (k0_pay16 (F := Ideal) a) (k0_pay17 (F := Ideal) a) (k0_pay18 (F := Ideal) b) (k0_pay19 (F := Ideal) b) (k0_pay20 (F := Ideal) a) (k0_pay21 (F := Ideal) b) x1 x2 x3 x4 x5 x6 x7

theorem t1_16 : k0_t1_loop.trips = 16 := by decide +kernel
theorem t2_16 : k0_t2_loop.trips = 16 := by decide +kernel
theorem t3_16 : k0_t3_loop.trips = 16 := by decide +kernel

/-- What the three loops leave in the output buffer. -/
theorem loops_value (𝒱 : Variants) (c : Dev nD) (bd : Option 𝒱.V) (i : grid0.Coords) (arg2 : Memref sig .tc .smem S2x8 .f32) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x256 .bf16) (harg5 : arg5.IsWhole) (arg6 : Memref sig .tc .vmem S1x2048x256 .bf16) (harg6 : arg6.IsWhole) (arg7 : Memref sig .tc .vmem S2048x128 .f32) (harg7 : arg7.IsWhole) (arg8 : Memref sig .tc .vmem S2048x128 .f32) (harg8 : arg8.IsWhole) (arg9 : Memref sig .tc .vmem S1x1x256 .f32) (harg9 : arg9.IsWhole) (arg10 : Memref sig .tc .vmem S1x2048x256 .bf16) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x256 .f32) (harg13 : arg13.IsWhole) (arg14 : Memref sig .tc .vmem S128x256 .f32) (harg14 : arg14.IsWhole)
    (v22 v29 v34 v39 v42 : FVec Ideal S128x128 .f32) (v45 : FVec Ideal S1x256 .f32) (v46 : Ideal .f32) (v49 : Vec Ideal S1x1x256 .f32) (x1 x2 : Vec Ideal S1x2048x128 .bf16) (x3 x4 : Vec Ideal S1x2048x256 .bf16) (x5 x6 : Vec Ideal S2048x128 .f32) (x7 : Vec Ideal S1x1x256 .f32)
    (G10 : BufTy.Contents (Elt Ideal) arg10.view.ty) (G11 : BufTy.Contents (Elt Ideal) arg11.view.ty) (G12 : BufTy.Contents (Elt Ideal) arg12.view.ty) (G13 : BufTy.Contents (Elt Ideal) arg13.view.ty) (G14 : BufTy.Contents (Elt Ideal) arg14.view.ty) (H14 : BufTy.Contents (Elt Ideal) arg14.view.ty) (hw : ∀ e, v49 (ix3 0 0 e) = x7 (ix3 0 0 e))
    (h14 : ∀ d e, arg14.view.read (Elt Ideal) G14 (ix2 d e) = 0) (h14' : ∀ d e, arg14.view.read (Elt Ideal) H14 (ix2 d e) = 0) :
    arg10.view.read (Elt Ideal) (arg10.view.writes (Elt Ideal) G10 (pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 v22 v29 v34 v45 v49 (harg5.unread x3) (harg6.unread x4) (arg11.view.writes (Elt Ideal) G11 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 (harg3.unread x1) (harg4.unread x2) (harg7.unread x5) (harg8.unread x6) (Scf.trips k0_t1_loop.lb k0_t1_loop.ub k0_t1_loop.st)).1) (arg12.view.writes (Elt Ideal) G12 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 (harg3.unread x1) (harg4.unread x2) (harg7.unread x5) (harg8.unread x6) (Scf.trips k0_t1_loop.lb k0_t1_loop.ub k0_t1_loop.st)).2) (arg13.view.writes (Elt Ideal) G13 (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 v39 v42 v46 (harg5.unread x3) (arg11.view.writes (Elt Ideal) G11 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 (harg3.unread x1) (harg4.unread x2) (harg7.unread x5) (harg8.unread x6) (Scf.trips k0_t1_loop.lb k0_t1_loop.ub k0_t1_loop.st)).1) (arg12.view.writes (Elt Ideal) G12 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 (harg3.unread x1) (harg4.unread x2) (harg7.unread x5) (harg8.unread x6) (Scf.trips k0_t1_loop.lb k0_t1_loop.ub k0_t1_loop.st)).2) G13 G14 (Scf.trips k0_t2_loop.lb k0_t2_loop.ub k0_t2_loop.st)).1) G10 H14 (Scf.trips k0_t3_loop.lb k0_t3_loop.ub k0_t3_loop.st)).1) = blockOf v22 v29 v34 v39 v42 v45 v46 x1 x2 x3 x4 x5 x6 x7 := by
  have l1 := loop1 𝒱 c bd i arg2 harg2 arg3 harg3 arg4 harg4 arg5 harg5 arg6 harg6 arg7 harg7 arg8 harg8 arg9 harg9 arg10 harg10 arg11 harg11 arg12 harg12 arg13 harg13 arg14 harg14 (harg3.unread x1) (harg4.unread x2) (harg7.unread x5) (harg8.unread x6) G11 G12 _ le_rfl
  rw [harg3.read_unread, harg4.read_unread, harg7.read_unread, harg8.read_unread] at l1
  have h11 : ∀ s d, arg11.view.read (Elt Ideal) (arg11.view.writes (Elt Ideal) G11 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 (harg3.unread x1) (harg4.unread x2) (harg7.unread x5) (harg8.unread x6) (Scf.trips k0_t1_loop.lb k0_t1_loop.ub k0_t1_loop.st)).1) (ix2 s d) = rot x1 x5 x6 s d := fun s d => (l1 s d (by rw [t1_16]; omega)).1
  have h12 : ∀ s d, arg12.view.read (Elt Ideal) (arg12.view.writes (Elt Ideal) G12 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 (harg3.unread x1) (harg4.unread x2) (harg7.unread x5) (harg8.unread x6) (Scf.trips k0_t1_loop.lb k0_t1_loop.ub k0_t1_loop.st)).2) (ix2 s d) = keyOf x2 x5 x6 s d := fun s d => (l1 s d (by rw [t1_16]; omega)).2
  have h5 : ∀ s e, arg5.view.read (Elt Ideal) (harg5.unread x3) (ix3 0 s e) = mat x3 s e := fun s e => congrFun (harg5.read_unread x3) _
  have h6 : ∀ s e, arg6.view.read (Elt Ideal) (harg6.unread x4) (ix3 0 s e) = mat x4 s e := fun s e => congrFun (harg6.read_unread x4) _
  have l2 := (loop2 𝒱 c bd i arg2 harg2 arg3 harg3 arg4 harg4 arg5 harg5 arg6 harg6 arg7 harg7 arg8 harg8 arg9 harg9 arg10 harg10 arg11 harg11 arg12 harg12 arg13 harg13 arg14 harg14 (rot x1 x5 x6) (keyOf x2 x5 x6) (mat x3) v39 v42 v46 (harg5.unread x3) (arg11.view.writes (Elt Ideal) G11 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 (harg3.unread x1) (harg4.unread x2) (harg7.unread x5) (harg8.unread x6) (Scf.trips k0_t1_loop.lb k0_t1_loop.ub k0_t1_loop.st)).1) (arg12.view.writes (Elt Ideal) G12 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 (harg3.unread x1) (harg4.unread x2) (harg7.unread x5) (harg8.unread x6) (Scf.trips k0_t1_loop.lb k0_t1_loop.ub k0_t1_loop.st)).2) G13 G14 h5 h11 h12 h14 _ le_rfl).2
  have h13 : ∀ s e, arg13.view.read (Elt Ideal) (arg13.view.writes (Elt Ideal) G13 (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 v39 v42 v46 (harg5.unread x3) (arg11.view.writes (Elt Ideal) G11 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 (harg3.unread x1) (harg4.unread x2) (harg7.unread x5) (harg8.unread x6) (Scf.trips k0_t1_loop.lb k0_t1_loop.ub k0_t1_loop.st)).1) (arg12.view.writes (Elt Ideal) G12 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 (harg3.unread x1) (harg4.unread x2) (harg7.unread x5) (harg8.unread x6) (Scf.trips k0_t1_loop.lb k0_t1_loop.ub k0_t1_loop.st)).2) G13 G14 (Scf.trips k0_t2_loop.lb k0_t2_loop.ub k0_t2_loop.st)).1) (ix2 s e) = yB (rot x1 x5 x6) (keyOf x2 x5 x6) (mat x3) v39 v42 v46 s e := fun s e => l2 s e (by rw [t2_16]; omega)
  have l3 := (loop3 𝒱 c bd i arg2 harg2 arg3 harg3 arg4 harg4 arg5 harg5 arg6 harg6 arg7 harg7 arg8 harg8 arg9 harg9 arg10 harg10 arg11 harg11 arg12 harg12 arg13 harg13 arg14 harg14 (rot x1 x5 x6) (keyOf x2 x5 x6) (mat x3) (yB (rot x1 x5 x6) (keyOf x2 x5 x6) (mat x3) v39 v42 v46) (mat x4) (fun e => x7 (ix3 0 0 e)) v22 v29 v34 v45 v49 (harg5.unread x3) (harg6.unread x4) (arg11.view.writes (Elt Ideal) G11 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 (harg3.unread x1) (harg4.unread x2) (harg7.unread x5) (harg8.unread x6) (Scf.trips k0_t1_loop.lb k0_t1_loop.ub k0_t1_loop.st)).1) (arg12.view.writes (Elt Ideal) G12 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 (harg3.unread x1) (harg4.unread x2) (harg7.unread x5) (harg8.unread x6) (Scf.trips k0_t1_loop.lb k0_t1_loop.ub k0_t1_loop.st)).2) (arg13.view.writes (Elt Ideal) G13 (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 v39 v42 v46 (harg5.unread x3) (arg11.view.writes (Elt Ideal) G11 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 (harg3.unread x1) (harg4.unread x2) (harg7.unread x5) (harg8.unread x6) (Scf.trips k0_t1_loop.lb k0_t1_loop.ub k0_t1_loop.st)).1) (arg12.view.writes (Elt Ideal) G12 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 (harg3.unread x1) (harg4.unread x2) (harg7.unread x5) (harg8.unread x6) (Scf.trips k0_t1_loop.lb k0_t1_loop.ub k0_t1_loop.st)).2) G13 G14 (Scf.trips k0_t2_loop.lb k0_t2_loop.ub k0_t2_loop.st)).1) G10 H14 h5 h6 h11 h12 h13 hw h14' _ le_rfl).2
  funext y
  obtain ⟨s, e, rfl⟩ : ∃ (s : Fin 2048) (e : Fin 256), y = ix3 0 s e := ⟨y 1, y 2, by rw [← Subsingleton.elim (α := Fin 1) (y 0) 0]; exact eq_ix3 y⟩
  exact l3 s e (by rw [t3_16]; omega)

/-- A head's two log decays, as the body reads them off the table's block. -/
def fwdOf (i : grid0.Coords) (x0 : Vec Ideal S2x8 .f32) : EReal := x0 ((Rect.unit (s := S2x8) (k0_off1 i) S1x1.size (k0_off1_inb i)).emb (Shape.Idx.first (by show 0 < S1x1.numel; rw [numel1_S1x1]; exact Nat.one_pos)))
def bwdOf (i : grid0.Coords) (x0 : Vec Ideal S2x8 .f32) : EReal := x0 ((Rect.unit (s := S2x8) (k0_off2 i) S1x1.size (k0_off2_inb i)).emb (Shape.Idx.first (by show 0 < S1x1.numel; rw [numel1_S1x1]; exact Nat.one_pos)))
set_option maxHeartbeats 1000000 in
/-- The body's run on whole buffers: the inputs hold given contents and are handed back so; the output and the
    four scratch buffers hold anything; the output is handed back at the block function of the inputs. -/
theorem kernelRun (c : Dev nD) (i : grid0.Coords) (arg2 : Memref sig .tc .smem S2x8 .f32) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x256 .bf16) (harg5 : arg5.IsWhole) (arg6 : Memref sig .tc .vmem S1x2048x256 .bf16) (harg6 : arg6.IsWhole) (arg7 : Memref sig .tc .vmem S2048x128 .f32) (harg7 : arg7.IsWhole) (arg8 : Memref sig .tc .vmem S2048x128 .f32) (harg8 : arg8.IsWhole) (arg9 : Memref sig .tc .vmem S1x1x256 .f32) (harg9 : arg9.IsWhole) (arg10 : Memref sig .tc .vmem S1x2048x256 .bf16) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x256 .f32) (harg13 : arg13.IsWhole) (arg14 : Memref sig .tc .vmem S128x256 .f32) (harg14 : arg14.IsWhole)
    (x0 : Vec Ideal S2x8 .f32) (x1 : Vec Ideal S1x2048x128 .bf16) (x2 : Vec Ideal S1x2048x128 .bf16) (x3 : Vec Ideal S1x2048x256 .bf16) (x4 : Vec Ideal S1x2048x256 .bf16) (x5 : Vec Ideal S2048x128 .f32) (x6 : Vec Ideal S2048x128 .f32) (x7 : Vec Ideal S1x1x256 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (blockOut (fwdOf i x0) (bwdOf i x0) x1 x2 x3 x4 x5 x6 x7) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := Ideal)) Variants.none c none) E (cc0_retention i arg2 harg2 arg3 harg3 arg4 harg4 arg5 harg5 arg6 harg6 arg7 harg7 arg8 harg8 arg9 harg9 arg10 harg10 arg11 harg11 arg12 harg12 arg13 harg13 arg14 harg14) K := by
    intro E K
    simp only [cc0_retention_eq_skeleton]; unfold cc0_retention_skel
    simp only [k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec
    sl_step
    have hw : ∀ e, View.readAt (Elt Ideal) arg9.view (Rect.unit (s := S1x1x256) ![0, 0, 0] S1x1x256.size inb_S1x1x256_S1x1x256_0_0_0).toLoadRect (harg9.unread x7) (ix3 0 0 e) = x7 (ix3 0 0 e) := fun e => by
      refine (congrFun (harg9.read_unread x7) _).trans (congrArg x7 (funext fun b => ?_))
      match b with
      | ⟨0, _⟩ => exact Fin.ext rfl
      | ⟨1, _⟩ => exact Fin.ext rfl
      | ⟨2, _⟩ => exact Fin.ext (by show 0 + 1 * e.val = e.val; omega)
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; swap; · iexact H8
      ipureintro
      have e1 : kernelRun.sl.r c i arg2 harg2 x0 = fwdOf i x0 := congrFun (harg2.read_unread x0) _
      have e2 : kernelRun.sl.r_1 c i arg2 harg2 x0 = bwdOf i x0 := congrFun (harg2.read_unread x0) _
      unfold blockOut
      rw [← e1, ← e2]
      exact loops_value Variants.none c none i arg2 harg2 arg3 harg3 arg4 harg4 arg5 harg5 arg6 harg6 arg7 harg7 arg8 harg8 arg9 harg9 arg10 harg10 arg11 harg11 arg12 harg12 arg13 harg13 arg14 harg14 _ _ _ _ _ _ _ _ x1 x2 x3 x4 x5 x6 x7 _ _ _ _ _ _ hw
        (fun d e => (hit_st _ _ _ _ d e).trans (pay5_apply d e)) (fun d e => (hit_st _ _ _ _ d e).trans (pay8_apply d e))
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.RetIdeal.Block

end
-- ==== Proof.RetData.lean ====
/- The retention call's run with its output named: every element of the output's written columns is the block function's
   value on the input blocks of its grid point. -/
module

public import proofs.«01_k».proof.Proof.RetRun
public import proofs.«01_k».proof.Defs

@[expose] public section

set_option maxRecDepth 16384
set_option maxHeartbeats 1000000

noncomputable section

namespace Cert.RetIdeal.Block

open Cert.RetIdeal Cert.RetIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## The pipeline's proof data -/

/-- The pipeline's data on core `c`: the arrays as the call finds them; after the body at point `t` each input's
    buffer holds its block, and the output's the block function of the inputs' blocks; nothing is owed. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => blockOut (fwdOf (grid0.coords t) (iblk m c 0 t)) (bwdOf (grid0.coords t) (iblk m c 0 t)) (iblk m c 1 t) (iblk m c 2 t) (iblk m c 3 t) (iblk m c 4 t) (iblk m c 5 t) (iblk m c 6 t) (iblk m c 7 t)
  Φ _ := Pipeline.ΦA spec0 c
  q w := Pipeline.shareOf spec0 w
  owed _ := 0

/-- The arrays of the data are those the call finds. -/
theorem A_eq (c : Dev nD) (w : Fin cfg0.W) : (dats m 0 c).A w = V m c (Pipeline.arrRef spec0 w) := by
  dsimp only [dats]

/-- What the body leaves in each input's buffer. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]

/-- What the body leaves in the output's buffer. -/
theorem after0_8 (c : Dev nD) (t : Fin cfg0.N) : (dats m 0 c).after 8 t = blockOut (fwdOf (grid0.coords t) (iblk m c 0 t)) (bwdOf (grid0.coords t) (iblk m c 0 t)) (iblk m c 1 t) (iblk m c 2 t) (iblk m c 3 t) (iblk m c 4 t) (iblk m c 5 t) (iblk m c 6 t) (iblk m c 7 t) := by dsimp only [dats]

/-- Each input's buffer holds its block when the body begins. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 1200000 in
/-- The body at any point of the grid, by its run on the buffers of that point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [show (dats m 0 c).Φ t.castSucc = Pipeline.ΦA spec0 c from rfl, PhiA0_eq]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  isplitl [HS1]; · iexact HS1
  isplitl [HS2]; · iexact HS2
  isplitl [HS3]; · iexact HS3
  iintro ⟨H0, H1, H2, H3, H4, H5, H6, H7, H8, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body the pipeline calls at point `t`. -/
theorem defs₀_row (t : Fin cfg0.N) :
    defs₀ (F := Ideal) .tc cfg0.body (cfg0.bodyArgs t (cfg0.slots t)) = bodyAt0 t := by
  unfold defs₀; rw [Defs.onTc_tc]

/-- The body meets its obligation at every point. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-! ## The run -/

-- the implicit arguments below are found by unifying types, which takes unfolding plain definitions
set_option backward.isDefEq.respectTransparency.types false in
/-- The whole program runs, from any memory, and leaves what the pipeline's account says. -/
theorem run_main : θ_run defs (onTc (τ := τ) (main (F := Ideal))) (s₀ m ρ) (Pipeline.FramePost cfgs (dats m) 0 (V m)) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The program ends with the output array at the pipeline's account of it and the arguments unchanged. -/
theorem run_blocks : θ_run defs (onTc (τ := τ) (main (F := Ideal))) ⟨m, fun _ => 0, ρ⟩ (fun r => ∀ c : Dev nD,
      r.2.mem ((c.tc : Thread nD τ).loc main_v20) = (dats m 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  have h₁ : θ_run defs (onTc (τ := τ) (main (F := Ideal))) ⟨m, fun _ => 0, ρ⟩ (fun r => ∀ c : Dev nD,
      r.2.mem ((c.tc : Thread nD τ).loc main_v20) = (dats m 0 c).arrAt 8 cfg0.N) :=
    (θ_run defs _ _).mono (fun _ h c => (h c).1 8) (run_main m ρ)
  (θ_run defs _ _).mono (fun _ h c => ⟨h.1 c, h.2 c⟩) (θ_run_and h₁ (frame_of m ρ (dats m) (A_eq m) (run_main m ρ)))

end Cert.RetIdeal.Block

end
-- ==== Proof.RetRef.lean ====
/- The retention's reference, read element by element: each direction is an inner sum over the chunk and a cross sum over the
   state carried from the chunks before; the result is their sum, normed, scaled and gated. -/
module

public import proofs.«01_k».proof.Proof.RetLoops
public import proofs.«01_k».proof.Proof.Gen.RetRefIdeal.Read

@[expose] public section

set_option maxRecDepth 16384
set_option maxHeartbeats 1000000

noncomputable section

namespace Cert.RetRefIdeal.Read

open Cert.RetRefIdeal Cert.RetRefIdeal.Gen Idealize.ShloMosaic Idealize.ShloMosaic.TcCoe Idealize.SL.Sem Idealize.ShloMosaic.StableHlo
open Cert.RetIdeal.Block (row row_val low row_low)

variable (x0 : Vec Ideal S8x2048x12288 .bf16) (x1 : Vec Ideal S2x8 .f32) (x2 : Vec Ideal S8x256 .f32)

/-- A row's number in its chunk, as a float. -/
def pos (i : Fin 128) : EReal := FloatOps.sitofp (F := Ideal) .f32 (BitVec.ofNat 32 i.val)

/-- The state before chunk `n`: decayed by `cd` a chunk, a chunk's keys decayed by `kd` to the chunk's end. -/
def stD (k : Fin 2048 → Fin 128 → EReal) (v : Fin 2048 → Fin 256 → EReal) (kd : Fin 128 → EReal) (cd : EReal) : ℕ → Fin 128 → Fin 256 → EReal
  | 0 => fun _ _ => 0
  | n + 1 => fun d e => stD k v kd cd n d e * cd + ∑ x : Fin 128, k (row n x) d * kd x * v (row n x) e

/-- One direction's output. -/
def dir (q k : Fin 2048 → Fin 128 → EReal) (v : Fin 2048 → Fin 256 → EReal) (mk : Fin 128 → Fin 128 → EReal) (qd kd : Fin 128 → EReal) (cd : EReal)
    (s : Fin 2048) (e : Fin 256) : EReal :=
  ∑ x : Fin 128, (∑ d : Fin 128, q s d * k (row (s.val / 128) x) d) * mk (low s) x * v (row (s.val / 128) x) e
    + ∑ d : Fin 128, q s d * qd (low s) * stD k v kd cd (s.val / 128) d e

/-! ## The scan over the chunks -/

/-- One step of the scan. -/
def next (C : FVec Ideal S1x8x1x1 .f32) (D : FVec Ideal S16x8x8x128x256 .f32) (n : ℕ) (hn : S16x8x8x128x256.Slices ![n, 0, 0, 0, 0] S1x8x8x128x256) (S : FVec Ideal S8x8x128x256 .f32) : FVec Ideal S8x8x128x256 .f32 :=
  addf (mulf S (broadcastInDim S8x8x128x256 ![0, 1, 2, 3] bcast_S1x8x1x1_S8x8x128x256_0_1_2_3 C)) (shapeCast _ (extractStridedSlice S1x8x8x128x256 ![n, 0, 0, 0, 0] (extractStridedSlice S16x8x8x128x256 ![0, 0, 0, 0, 0] D slices_S16x8x8x128x256_S16x8x8x128x256_0_0_0_0_0) hn) shapeCasts_S1x8x8x128x256_S8x8x128x256)

theorem next_apply (C : FVec Ideal S1x8x1x1 .f32) (D : FVec Ideal S16x8x8x128x256 .f32) (n : ℕ) (h16 : n < 16) (hn) (S : FVec Ideal S8x8x128x256 .f32) (b h : Fin 8) (d : Fin 128) (e : Fin 256) :
    next C D n hn S (ix4 b h d e) = S (ix4 b h d e) * C (ix4 0 h 0 0) + D (ix5 ⟨n, h16⟩ b h d e) := by
  pointwise [next]

/-- The states before each chunk, the scan unrolled. -/
def states (C : FVec Ideal S1x8x1x1 .f32) (D : FVec Ideal S16x8x8x128x256 .f32) (z : FVec Ideal S8x8x128x256 .f32) : Fin 16 → FVec Ideal S8x8x128x256 .f32 :=
  let s1 := next C D 0 slices_S16x8x8x128x256_S1x8x8x128x256_0_0_0_0_0 z
  let s2 := next C D 1 slices_S16x8x8x128x256_S1x8x8x128x256_1_0_0_0_0 s1
  let s3 := next C D 2 slices_S16x8x8x128x256_S1x8x8x128x256_2_0_0_0_0 s2
  let s4 := next C D 3 slices_S16x8x8x128x256_S1x8x8x128x256_3_0_0_0_0 s3
  let s5 := next C D 4 slices_S16x8x8x128x256_S1x8x8x128x256_4_0_0_0_0 s4
  let s6 := next C D 5 slices_S16x8x8x128x256_S1x8x8x128x256_5_0_0_0_0 s5
  let s7 := next C D 6 slices_S16x8x8x128x256_S1x8x8x128x256_6_0_0_0_0 s6
  let s8 := next C D 7 slices_S16x8x8x128x256_S1x8x8x128x256_7_0_0_0_0 s7
  let s9 := next C D 8 slices_S16x8x8x128x256_S1x8x8x128x256_8_0_0_0_0 s8
  let s10 := next C D 9 slices_S16x8x8x128x256_S1x8x8x128x256_9_0_0_0_0 s9
  let s11 := next C D 10 slices_S16x8x8x128x256_S1x8x8x128x256_10_0_0_0_0 s10
  let s12 := next C D 11 slices_S16x8x8x128x256_S1x8x8x128x256_11_0_0_0_0 s11
  let s13 := next C D 12 slices_S16x8x8x128x256_S1x8x8x128x256_12_0_0_0_0 s12
  let s14 := next C D 13 slices_S16x8x8x128x256_S1x8x8x128x256_13_0_0_0_0 s13
  let s15 := next C D 14 slices_S16x8x8x128x256_S1x8x8x128x256_14_0_0_0_0 s14
  ![z, s1, s2, s3, s4, s5, s6, s7, s8, s9, s10, s11, s12, s13, s14, s15]

theorem states_succ (C : FVec Ideal S1x8x1x1 .f32) (D : FVec Ideal S16x8x8x128x256 .f32) (z : FVec Ideal S8x8x128x256 .f32) (b h : Fin 8) (d : Fin 128) (e : Fin 256) (n : ℕ) (hn : n + 1 < 16) :
    states C D z ⟨n + 1, hn⟩ (ix4 b h d e) = states C D z ⟨n, by omega⟩ (ix4 b h d e) * C (ix4 0 h 0 0) + D (ix5 ⟨n, by omega⟩ b h d e) := by
  have hn' : n < 15 := by omega
  interval_cases n <;> exact next_apply C D _ _ _ _ b h d e

theorem states_eq (C : FVec Ideal S1x8x1x1 .f32) (D : FVec Ideal S16x8x8x128x256 .f32) (z : FVec Ideal S8x8x128x256 .f32) (b h : Fin 8)
    (k : Fin 2048 → Fin 128 → EReal) (v : Fin 2048 → Fin 256 → EReal) (kd : Fin 128 → EReal) (cd : EReal)
    (hz : ∀ d e, z (ix4 b h d e) = 0) (hC : C (ix4 0 h 0 0) = cd)
    (hD : ∀ (n : Fin 16) d e, D (ix5 n b h d e) = ∑ x : Fin 128, k (row n x) d * kd x * v (row n x) e) :
    ∀ (n : ℕ) (hn : n < 16) d e, states C D z ⟨n, hn⟩ (ix4 b h d e) = stD k v kd cd n d e
  | 0, _, d, e => hz d e
  | n + 1, hn, d, e => by
    rw [states_succ, states_eq C D z b h k v kd cd hz hC hD n (by omega) d e, hC, hD]
    rfl

/-- A state with a leading axis of size one. -/
def unit1 (S : FVec Ideal S8x8x128x256 .f32) : FVec Ideal S1x8x8x128x256 .f32 :=
  broadcastInDim S1x8x8x128x256 ![1, 2, 3, 4] bcast_S8x8x128x256_S1x8x8x128x256_1_2_3_4 S

theorem unit1_apply (S : FVec Ideal S8x8x128x256 .f32) (b h : Fin 8) (d : Fin 128) (e : Fin 256) : unit1 S (ix5 0 b h d e) = S (ix4 b h d e) := by
  pointwise [unit1]

/-! ## The chunks of a sequence -/

theorem chunk128 (v : FVec Ideal S8x8x2048x128 .f32) (b h : Fin 8) (n : Fin 16) (i d : Fin 128) :
    shapeCast S8x8x16x128x128 v shapeCasts_S8x8x2048x128_S8x8x16x128x128 (ix5 b h n i d) = v (ix4 b h (row n i) d) := by
  pointwise
  exact congrArg (fun s => v (ix4 b h s d)) (Fin.ext (by rw [row_val n.isLt]; show n.val * 128 + i.val = _; omega))

theorem chunk256 (v : FVec Ideal S8x8x2048x256 .f32) (b h : Fin 8) (n : Fin 16) (i : Fin 128) (e : Fin 256) :
    shapeCast S8x8x16x128x256 v shapeCasts_S8x8x2048x256_S8x8x16x128x256 (ix5 b h n i e) = v (ix4 b h (row n i) e) := by
  pointwise
  exact congrArg (fun s => v (ix4 b h s e)) (Fin.ext (by rw [row_val n.isLt]; show n.val * 128 + i.val = _; omega))

theorem unchunk (v : FVec Ideal S8x8x16x128x256 .f32) (b h : Fin 8) (s : Fin 2048) (e : Fin 256) :
    shapeCast S8x8x2048x256 v shapeCasts_S8x8x16x128x256_S8x8x2048x256 (ix4 b h s e) = v (ix5 b h ⟨s.val / 128, by omega⟩ (low s) e) := by
  pointwise
  rfl

/-! ## The forward direction -/

theorem v75_at (b h : Fin 8) (n : Fin 16) (i d : Fin 128) : val_main_v75 (F := Ideal) x0 (ix5 b h n i d) = val_main_v68 (F := Ideal) x0 (ix4 b h (row n i) d) := chunk128 _ b h n i d
theorem v76_at (b h : Fin 8) (n : Fin 16) (i d : Fin 128) : val_main_v76 (F := Ideal) x0 (ix5 b h n i d) = val_main_v69 (F := Ideal) x0 (ix4 b h (row n i) d) := chunk128 _ b h n i d
theorem v77_at (b h : Fin 8) (n : Fin 16) (i : Fin 128) (e : Fin 256) : val_main_v77 (F := Ideal) x0 (ix5 b h n i e) = val_main_v70 (F := Ideal) x0 (ix4 b h (row n i) e) := chunk256 _ b h n i e

/-- The scores. -/
theorem v96_at (b h : Fin 8) (n : Fin 16) (i j : Fin 128) :
    val_main_v96 (F := Ideal) x0 (ix5 b h n i j) = ∑ d : Fin 128, val_main_v75 (F := Ideal) x0 (ix5 b h n i d) * val_main_v76 (F := Ideal) x0 (ix5 b h n j d) := by
  have l : ∀ d : Fin 128, lidx_main_v96 (ix5 b h n i j) d = ix5 b h n i d := fun d => by funext a; match a with | ⟨0, _⟩ => rfl | ⟨1, _⟩ => rfl | ⟨2, _⟩ => rfl | ⟨3, _⟩ => rfl | ⟨4, _⟩ => rfl
  have r : ∀ d : Fin 128, ridx_main_v96 (ix5 b h n i j) d = ix5 b h n j d := fun d => by funext a; match a with | ⟨0, _⟩ => rfl | ⟨1, _⟩ => rfl | ⟨2, _⟩ => rfl | ⟨3, _⟩ => rfl | ⟨4, _⟩ => rfl
  simp only [val_main_v96_apply, l, r]

/-- The masked scores. -/
theorem v99_at (b h : Fin 8) (n : Fin 16) (i j : Fin 128) :
    val_main_v99 (F := Ideal) x0 x1 (ix5 b h n i j) = val_main_v96 (F := Ideal) x0 (ix5 b h n i j) * val_main_v95 (F := Ideal) x1 (ix3 h i j) := by
  have l : idx_main_v97 (idx_main_v98 (ix5 b h n i j)) = ix3 h i j := by funext a; match a with | ⟨0, _⟩ => rfl | ⟨1, _⟩ => rfl | ⟨2, _⟩ => rfl
  rw [val_main_v99_apply, val_main_v98_apply, val_main_v97_apply, l]
  rfl

/-- The inner sum. -/
theorem v100_at (b h : Fin 8) (n : Fin 16) (i : Fin 128) (e : Fin 256) :
    val_main_v100 (F := Ideal) x0 x1 (ix5 b h n i e) = ∑ j : Fin 128, val_main_v99 (F := Ideal) x0 x1 (ix5 b h n i j) * val_main_v77 (F := Ideal) x0 (ix5 b h n j e) := by
  have l : ∀ j : Fin 128, lidx_main_v100 (ix5 b h n i e) j = ix5 b h n i j := fun j => by funext a; match a with | ⟨0, _⟩ => rfl | ⟨1, _⟩ => rfl | ⟨2, _⟩ => rfl | ⟨3, _⟩ => rfl | ⟨4, _⟩ => rfl
  have r : ∀ j : Fin 128, ridx_main_v100 (ix5 b h n i e) j = ix5 b h n j e := fun j => by funext a; match a with | ⟨0, _⟩ => rfl | ⟨1, _⟩ => rfl | ⟨2, _⟩ => rfl | ⟨3, _⟩ => rfl | ⟨4, _⟩ => rfl
  simp only [val_main_v100_apply, l, r]

/-- The decayed keys and the chunks' additions to the state. -/
theorem v123_at (b h : Fin 8) (n : Fin 16) (j d : Fin 128) :
    val_main_v123 (F := Ideal) x0 x1 (ix5 b h n j d) = val_main_v76 (F := Ideal) x0 (ix5 b h n j d) * val_main_v108 (F := Ideal) x1 (ix2 h j) := by
  have l : idx_main_v121 (idx_main_v122 (ix5 b h n j d)) = ix2 h j := by funext a; match a with | ⟨0, _⟩ => rfl | ⟨1, _⟩ => rfl
  rw [val_main_v123_apply, val_main_v122_apply, val_main_v121_apply, l]
  rfl
theorem v124_at (b h : Fin 8) (n : Fin 16) (d : Fin 128) (e : Fin 256) :
    val_main_v124 (F := Ideal) x0 x1 (ix5 n b h d e) = ∑ x : Fin 128, val_main_v69 (F := Ideal) x0 (ix4 b h (row n x) d) * val_main_v108 (F := Ideal) x1 (ix2 h x) * val_main_v70 (F := Ideal) x0 (ix4 b h (row n x) e) := by
  have l : ∀ x : Fin 128, lidx_main_v124 (ix5 n b h d e) x = ix5 b h n x d := fun x => by funext a; match a with | ⟨0, _⟩ => rfl | ⟨1, _⟩ => rfl | ⟨2, _⟩ => rfl | ⟨3, _⟩ => rfl | ⟨4, _⟩ => rfl
  have r : ∀ x : Fin 128, ridx_main_v124 (ix5 n b h d e) x = ix5 b h n x e := fun x => by funext a; match a with | ⟨0, _⟩ => rfl | ⟨1, _⟩ => rfl | ⟨2, _⟩ => rfl | ⟨3, _⟩ => rfl | ⟨4, _⟩ => rfl
  simp only [val_main_v124_apply, l, r, v123_at, v76_at, v77_at]

/-- The decays. -/
theorem v108_at (h : Fin 8) (j : Fin 128) : val_main_v108 (F := Ideal) x1 (ix2 h j) = Ideal.exp (val_main_v74 (F := Ideal) x1 (ix1 h) * (Ideal.ofBits .f32 1123942400#32 - pos j)) := by
  pointwise [val_main_v108, val_main_v107, val_main_v106, val_main_v105, val_main_v104, val_main_v103, val_main_v102, val_main_v101, val_main_v78, val_main_cst_7]
  rfl
theorem v116_at (h : Fin 8) (j : Fin 128) : val_main_v116 (F := Ideal) x1 (ix2 h j) = Ideal.exp (val_main_v74 (F := Ideal) x1 (ix1 h) * (pos j + 1)) := by
  pointwise [val_main_v116, val_main_v115, val_main_v114, val_main_v113, val_main_v112, val_main_v111, val_main_v110, val_main_v109, val_main_v78, val_main_cst_8]
  rfl
theorem v120_at (h : Fin 8) : val_main_v120 (F := Ideal) x1 (ix4 0 h 0 0) = Ideal.exp (val_main_v74 (F := Ideal) x1 (ix1 h) * Ideal.ofBits .f32 1124073472#32) := by
  pointwise [val_main_v120, val_main_v119, val_main_v118, val_main_v117, val_main_cst_9]
theorem v95_at (h : Fin 8) (i j : Fin 128) :
    val_main_v95 (F := Ideal) x1 (ix3 h i j) = if 0 ≤ pos i - pos j then Ideal.exp (val_main_v74 (F := Ideal) x1 (ix1 h) * max (pos i - pos j) 0) else 0 := by
  rw [val_main_v95, val_main_call0_v2, show val_main_call0_v0 (F := Ideal) = val_main_cst_6 (F := Ideal) from rfl]
  pointwise [val_main_v94, val_main_v93, val_main_v92, val_main_v91, val_main_v90, val_main_v89, val_main_v88, val_main_v87, val_main_v86, val_main_v85, val_main_v84, val_main_v83, val_main_v82, val_main_v81, val_main_v80, val_main_v79, val_main_v78, val_main_call0_v1, val_main_cst_6, val_main_cst_5, val_main_cst_4]
  rfl

/-- The state before each chunk. -/
theorem v226_at (b h : Fin 8) (n : Fin 16) (d : Fin 128) (e : Fin 256) :
    val_main_v226 (F := Ideal) x0 x1 (ix5 n b h d e) = stD (fun s d => val_main_v69 (F := Ideal) x0 (ix4 b h s d)) (fun s e => val_main_v70 (F := Ideal) x0 (ix4 b h s e))
      (fun x => val_main_v108 (F := Ideal) x1 (ix2 h x)) (val_main_v120 (F := Ideal) x1 (ix4 0 h 0 0)) n d e := by
  have e1 : val_main_v226 (F := Ideal) x0 x1 (ix5 n b h d e) = val_main_v225 (F := Ideal) x0 x1 (ix5 n b h d e) := by
    pointwise [val_main_v226]
    exact dif_neg (Nat.not_lt_zero _)
  have e2 : val_main_v225 (F := Ideal) x0 x1 (ix5 n b h d e) = unit1 (states (val_main_v120 (F := Ideal) x1) (val_main_v124 (F := Ideal) x0 x1) (val_main_v125 (F := Ideal)) n) (ix5 0 b h d e) :=
    concatenate_ofFn_unit_apply (t := S16x8x8x128x256) (s₁ := S1x8x8x128x256) 0 (fun n : Fin 16 => unit1 (states (val_main_v120 (F := Ideal) x1) (val_main_v124 (F := Ideal) x0 x1) (val_main_v125 (F := Ideal)) n)) _ rfl rfl (ix5 n b h d e) n rfl (ix5 0 b h d e)
      (fun a => match a with | ⟨0, _⟩ => fun h => absurd rfl h | ⟨1, _⟩ => fun _ => rfl | ⟨2, _⟩ => fun _ => rfl | ⟨3, _⟩ => fun _ => rfl | ⟨4, _⟩ => fun _ => rfl)
  rw [e1, e2, unit1_apply]
  exact states_eq _ _ _ b h _ _ _ _ (fun d e => by pointwise [val_main_v125, val_main_cst_10]) rfl (v124_at x0 x1 b h) n.val n.isLt d e

/-- The cross sum. -/
theorem v229_at (b h : Fin 8) (n : Fin 16) (i d : Fin 128) :
    val_main_v229 (F := Ideal) x0 x1 (ix5 b h n i d) = val_main_v75 (F := Ideal) x0 (ix5 b h n i d) * val_main_v116 (F := Ideal) x1 (ix2 h i) := by
  have l : idx_main_v227 (idx_main_v228 (ix5 b h n i d)) = ix2 h i := by funext a; match a with | ⟨0, _⟩ => rfl | ⟨1, _⟩ => rfl
  rw [val_main_v229_apply, val_main_v228_apply, val_main_v227_apply, l]
  rfl
theorem v230_at (b h : Fin 8) (n : Fin 16) (i : Fin 128) (e : Fin 256) :
    val_main_v230 (F := Ideal) x0 x1 (ix5 b h n i e) = ∑ d : Fin 128, val_main_v229 (F := Ideal) x0 x1 (ix5 b h n i d) * val_main_v226 (F := Ideal) x0 x1 (ix5 n b h d e) := by
  have l : ∀ d : Fin 128, lidx_main_v230 (ix5 b h n i e) d = ix5 b h n i d := fun d => by funext a; match a with | ⟨0, _⟩ => rfl | ⟨1, _⟩ => rfl | ⟨2, _⟩ => rfl | ⟨3, _⟩ => rfl | ⟨4, _⟩ => rfl
  have r : ∀ d : Fin 128, ridx_main_v230 (ix5 b h n i e) d = ix5 n b h d e := fun d => by funext a; match a with | ⟨0, _⟩ => rfl | ⟨1, _⟩ => rfl | ⟨2, _⟩ => rfl | ⟨3, _⟩ => rfl | ⟨4, _⟩ => rfl
  simp only [val_main_v230_apply, l, r]

/-- The direction's output. -/
theorem v232_at (b h : Fin 8) (s : Fin 2048) (e : Fin 256) :
    val_main_v232 (F := Ideal) x0 x1 (ix4 b h s e) = dir (fun s d => val_main_v68 (F := Ideal) x0 (ix4 b h s d)) (fun s d => val_main_v69 (F := Ideal) x0 (ix4 b h s d)) (fun s e => val_main_v70 (F := Ideal) x0 (ix4 b h s e))
      (fun i j => val_main_v95 (F := Ideal) x1 (ix3 h i j)) (fun x => val_main_v116 (F := Ideal) x1 (ix2 h x)) (fun x => val_main_v108 (F := Ideal) x1 (ix2 h x)) (val_main_v120 (F := Ideal) x1 (ix4 0 h 0 0)) s e := by
  refine (unchunk _ b h s e).trans ?_
  rw [val_main_v231_apply]
  show val_main_v100 (F := Ideal) x0 x1 _ + val_main_v230 (F := Ideal) x0 x1 _ = _
  simp only [v100_at, v230_at, v99_at, v96_at, v229_at, v75_at, v76_at, v77_at, v226_at]
  unfold dir
  simp only [row_low]

/-! ## The backward direction, on the reversed sequence -/

theorem v238_at (b h : Fin 8) (n : Fin 16) (i d : Fin 128) : val_main_v238 (F := Ideal) x0 (ix5 b h n i d) = val_main_v233 (F := Ideal) x0 (ix4 b h (row n i) d) := chunk128 _ b h n i d
theorem v239_at (b h : Fin 8) (n : Fin 16) (i d : Fin 128) : val_main_v239 (F := Ideal) x0 (ix5 b h n i d) = val_main_v234 (F := Ideal) x0 (ix4 b h (row n i) d) := chunk128 _ b h n i d
theorem v240_at (b h : Fin 8) (n : Fin 16) (i : Fin 128) (e : Fin 256) : val_main_v240 (F := Ideal) x0 (ix5 b h n i e) = val_main_v235 (F := Ideal) x0 (ix4 b h (row n i) e) := chunk256 _ b h n i e

/-- The scores. -/
theorem v259_at (b h : Fin 8) (n : Fin 16) (i j : Fin 128) :
    val_main_v259 (F := Ideal) x0 (ix5 b h n i j) = ∑ d : Fin 128, val_main_v238 (F := Ideal) x0 (ix5 b h n i d) * val_main_v239 (F := Ideal) x0 (ix5 b h n j d) := by
  have l : ∀ d : Fin 128, lidx_main_v259 (ix5 b h n i j) d = ix5 b h n i d := fun d => by funext a; match a with | ⟨0, _⟩ => rfl | ⟨1, _⟩ => rfl | ⟨2, _⟩ => rfl | ⟨3, _⟩ => rfl | ⟨4, _⟩ => rfl
  have r : ∀ d : Fin 128, ridx_main_v259 (ix5 b h n i j) d = ix5 b h n j d := fun d => by funext a; match a with | ⟨0, _⟩ => rfl | ⟨1, _⟩ => rfl | ⟨2, _⟩ => rfl | ⟨3, _⟩ => rfl | ⟨4, _⟩ => rfl
  simp only [val_main_v259_apply, l, r]

/-- The masked scores. -/
theorem v262_at (b h : Fin 8) (n : Fin 16) (i j : Fin 128) :
    val_main_v262 (F := Ideal) x0 x1 (ix5 b h n i j) = val_main_v259 (F := Ideal) x0 (ix5 b h n i j) * val_main_v258 (F := Ideal) x1 (ix3 h i j) := by
  have l : idx_main_v260 (idx_main_v261 (ix5 b h n i j)) = ix3 h i j := by funext a; match a with | ⟨0, _⟩ => rfl | ⟨1, _⟩ => rfl | ⟨2, _⟩ => rfl
  rw [val_main_v262_apply, val_main_v261_apply, val_main_v260_apply, l]
  rfl

/-- The inner sum. -/
theorem v263_at (b h : Fin 8) (n : Fin 16) (i : Fin 128) (e : Fin 256) :
    val_main_v263 (F := Ideal) x0 x1 (ix5 b h n i e) = ∑ j : Fin 128, val_main_v262 (F := Ideal) x0 x1 (ix5 b h n i j) * val_main_v240 (F := Ideal) x0 (ix5 b h n j e) := by
  have l : ∀ j : Fin 128, lidx_main_v263 (ix5 b h n i e) j = ix5 b h n i j := fun j => by funext a; match a with | ⟨0, _⟩ => rfl | ⟨1, _⟩ => rfl | ⟨2, _⟩ => rfl | ⟨3, _⟩ => rfl | ⟨4, _⟩ => rfl
  have r : ∀ j : Fin 128, ridx_main_v263 (ix5 b h n i e) j = ix5 b h n j e := fun j => by funext a; match a with | ⟨0, _⟩ => rfl | ⟨1, _⟩ => rfl | ⟨2, _⟩ => rfl | ⟨3, _⟩ => rfl | ⟨4, _⟩ => rfl
  simp only [val_main_v263_apply, l, r]

/-- The decayed keys and the chunks' additions to the state. -/
theorem v286_at (b h : Fin 8) (n : Fin 16) (j d : Fin 128) :
    val_main_v286 (F := Ideal) x0 x1 (ix5 b h n j d) = val_main_v239 (F := Ideal) x0 (ix5 b h n j d) * val_main_v271 (F := Ideal) x1 (ix2 h j) := by
  have l : idx_main_v284 (idx_main_v285 (ix5 b h n j d)) = ix2 h j := by funext a; match a with | ⟨0, _⟩ => rfl | ⟨1, _⟩ => rfl
  rw [val_main_v286_apply, val_main_v285_apply, val_main_v284_apply, l]
  rfl
theorem v287_at (b h : Fin 8) (n : Fin 16) (d : Fin 128) (e : Fin 256) :
    val_main_v287 (F := Ideal) x0 x1 (ix5 n b h d e) = ∑ x : Fin 128, val_main_v234 (F := Ideal) x0 (ix4 b h (row n x) d) * val_main_v271 (F := Ideal) x1 (ix2 h x) * val_main_v235 (F := Ideal) x0 (ix4 b h (row n x) e) := by
  have l : ∀ x : Fin 128, lidx_main_v287 (ix5 n b h d e) x = ix5 b h n x d := fun x => by funext a; match a with | ⟨0, _⟩ => rfl | ⟨1, _⟩ => rfl | ⟨2, _⟩ => rfl | ⟨3, _⟩ => rfl | ⟨4, _⟩ => rfl
  have r : ∀ x : Fin 128, ridx_main_v287 (ix5 n b h d e) x = ix5 b h n x e := fun x => by funext a; match a with | ⟨0, _⟩ => rfl | ⟨1, _⟩ => rfl | ⟨2, _⟩ => rfl | ⟨3, _⟩ => rfl | ⟨4, _⟩ => rfl
  simp only [val_main_v287_apply, l, r, v286_at, v239_at, v240_at]

/-- The decays. -/
theorem v271_at (h : Fin 8) (j : Fin 128) : val_main_v271 (F := Ideal) x1 (ix2 h j) = Ideal.exp (val_main_v237 (F := Ideal) x1 (ix1 h) * (Ideal.ofBits .f32 1123942400#32 - pos j)) := by
  pointwise [val_main_v271, val_main_v270, val_main_v269, val_main_v268, val_main_v267, val_main_v266, val_main_v265, val_main_v264, val_main_v241, val_main_cst_15]
  rfl
theorem v279_at (h : Fin 8) (j : Fin 128) : val_main_v279 (F := Ideal) x1 (ix2 h j) = Ideal.exp (val_main_v237 (F := Ideal) x1 (ix1 h) * (pos j + 1)) := by
  pointwise [val_main_v279, val_main_v278, val_main_v277, val_main_v276, val_main_v275, val_main_v274, val_main_v273, val_main_v272, val_main_v241, val_main_cst_16]
  rfl
theorem v283_at (h : Fin 8) : val_main_v283 (F := Ideal) x1 (ix4 0 h 0 0) = Ideal.exp (val_main_v237 (F := Ideal) x1 (ix1 h) * Ideal.ofBits .f32 1124073472#32) := by
  pointwise [val_main_v283, val_main_v282, val_main_v281, val_main_v280, val_main_cst_17]
theorem v258_at (h : Fin 8) (i j : Fin 128) :
    val_main_v258 (F := Ideal) x1 (ix3 h i j) = if 0 < pos i - pos j then Ideal.exp (val_main_v237 (F := Ideal) x1 (ix1 h) * max (pos i - pos j) 0) else 0 := by
  rw [val_main_v258, val_main_call1_v2, show val_main_call1_v0 (F := Ideal) = val_main_cst_14 (F := Ideal) from rfl]
  pointwise [val_main_v257, val_main_v256, val_main_v255, val_main_v254, val_main_v253, val_main_v252, val_main_v251, val_main_v250, val_main_v249, val_main_v248, val_main_v247, val_main_v246, val_main_v245, val_main_v244, val_main_v243, val_main_v242, val_main_v241, val_main_call1_v1, val_main_cst_14, val_main_cst_13, val_main_cst_12]
  rfl

/-- The state before each chunk. -/
theorem v389_at (b h : Fin 8) (n : Fin 16) (d : Fin 128) (e : Fin 256) :
    val_main_v389 (F := Ideal) x0 x1 (ix5 n b h d e) = stD (fun s d => val_main_v234 (F := Ideal) x0 (ix4 b h s d)) (fun s e => val_main_v235 (F := Ideal) x0 (ix4 b h s e))
      (fun x => val_main_v271 (F := Ideal) x1 (ix2 h x)) (val_main_v283 (F := Ideal) x1 (ix4 0 h 0 0)) n d e := by
  have e1 : val_main_v389 (F := Ideal) x0 x1 (ix5 n b h d e) = val_main_v388 (F := Ideal) x0 x1 (ix5 n b h d e) := by
    pointwise [val_main_v389]
    exact dif_neg (Nat.not_lt_zero _)
  have e2 : val_main_v388 (F := Ideal) x0 x1 (ix5 n b h d e) = unit1 (states (val_main_v283 (F := Ideal) x1) (val_main_v287 (F := Ideal) x0 x1) (val_main_v288 (F := Ideal)) n) (ix5 0 b h d e) :=
    concatenate_ofFn_unit_apply (t := S16x8x8x128x256) (s₁ := S1x8x8x128x256) 0 (fun n : Fin 16 => unit1 (states (val_main_v283 (F := Ideal) x1) (val_main_v287 (F := Ideal) x0 x1) (val_main_v288 (F := Ideal)) n)) _ rfl rfl (ix5 n b h d e) n rfl (ix5 0 b h d e)
      (fun a => match a with | ⟨0, _⟩ => fun h => absurd rfl h | ⟨1, _⟩ => fun _ => rfl | ⟨2, _⟩ => fun _ => rfl | ⟨3, _⟩ => fun _ => rfl | ⟨4, _⟩ => fun _ => rfl)
  rw [e1, e2, unit1_apply]
  exact states_eq _ _ _ b h _ _ _ _ (fun d e => by pointwise [val_main_v288, val_main_cst_18]) rfl (v287_at x0 x1 b h) n.val n.isLt d e

/-- The cross sum. -/
theorem v392_at (b h : Fin 8) (n : Fin 16) (i d : Fin 128) :
    val_main_v392 (F := Ideal) x0 x1 (ix5 b h n i d) = val_main_v238 (F := Ideal) x0 (ix5 b h n i d) * val_main_v279 (F := Ideal) x1 (ix2 h i) := by
  have l : idx_main_v390 (idx_main_v391 (ix5 b h n i d)) = ix2 h i := by funext a; match a with | ⟨0, _⟩ => rfl | ⟨1, _⟩ => rfl
  rw [val_main_v392_apply, val_main_v391_apply, val_main_v390_apply, l]
  rfl
theorem v393_at (b h : Fin 8) (n : Fin 16) (i : Fin 128) (e : Fin 256) :
    val_main_v393 (F := Ideal) x0 x1 (ix5 b h n i e) = ∑ d : Fin 128, val_main_v392 (F := Ideal) x0 x1 (ix5 b h n i d) * val_main_v389 (F := Ideal) x0 x1 (ix5 n b h d e) := by
  have l : ∀ d : Fin 128, lidx_main_v393 (ix5 b h n i e) d = ix5 b h n i d := fun d => by funext a; match a with | ⟨0, _⟩ => rfl | ⟨1, _⟩ => rfl | ⟨2, _⟩ => rfl | ⟨3, _⟩ => rfl | ⟨4, _⟩ => rfl
  have r : ∀ d : Fin 128, ridx_main_v393 (ix5 b h n i e) d = ix5 n b h d e := fun d => by funext a; match a with | ⟨0, _⟩ => rfl | ⟨1, _⟩ => rfl | ⟨2, _⟩ => rfl | ⟨3, _⟩ => rfl | ⟨4, _⟩ => rfl
  simp only [val_main_v393_apply, l, r]

/-- The direction's output. -/
theorem v395_at (b h : Fin 8) (s : Fin 2048) (e : Fin 256) :
    val_main_v395 (F := Ideal) x0 x1 (ix4 b h s e) = dir (fun s d => val_main_v233 (F := Ideal) x0 (ix4 b h s d)) (fun s d => val_main_v234 (F := Ideal) x0 (ix4 b h s d)) (fun s e => val_main_v235 (F := Ideal) x0 (ix4 b h s e))
      (fun i j => val_main_v258 (F := Ideal) x1 (ix3 h i j)) (fun x => val_main_v279 (F := Ideal) x1 (ix2 h x)) (fun x => val_main_v271 (F := Ideal) x1 (ix2 h x)) (val_main_v283 (F := Ideal) x1 (ix4 0 h 0 0)) s e := by
  refine (unchunk _ b h s e).trans ?_
  rw [val_main_v394_apply]
  show val_main_v263 (F := Ideal) x0 x1 _ + val_main_v393 (F := Ideal) x0 x1 _ = _
  simp only [v263_at, v393_at, v262_at, v259_at, v392_at, v238_at, v239_at, v240_at, v389_at]
  unfold dir
  simp only [row_low]

end Cert.RetRefIdeal.Read

end
-- ==== Proof.RetEq.lean ====
/- The equation between the two retentions. The kernel runs a backward pass over the sequence and then a forward pass, with one
   mask for both directions inside a chunk; the reference runs one direction twice, the second time on the reversed sequence. -/
module

public import proofs.«01_k».proof.Proof.RetRef

@[expose] public section

set_option maxRecDepth 16384
set_option maxHeartbeats 1000000

noncomputable section

namespace Cert.RetIdeal.Block

open Cert.RetIdeal Cert.RetIdeal.Gen Idealize.ShloMosaic Idealize.ShloMosaic.TcCoe Idealize.SL.Sem
open Cert.RetRefIdeal.Read (pos stD dir)

/-! ## Numbers -/

theorem toInt_val (i : Fin 128) : (BitVec.ofNat 32 i.val).toInt = (i.val : ℤ) := by
  have h : (BitVec.ofNat 32 i.val).toNat = i.val := by rw [BitVec.toNat_ofNat]; omega
  rw [BitVec.toInt_eq_toNat_of_lt (by rw [h]; omega), h]

theorem pos_val (i : Fin 128) : pos i = ((i.val : ℝ) : EReal) := by
  show (((BitVec.ofNat 32 i.val).toInt : ℝ) : EReal) = _
  rw [toInt_val, Int.cast_natCast]

theorem diff_val (r d : Fin 128) : (FloatOps.sitofp (F := Ideal) .f32 (IntOp.subi (BitVec.ofNat 32 r.val) (BitVec.ofNat 32 d.val)) : EReal) = pos r - pos d := by
  have h : (BitVec.ofNat 32 r.val - BitVec.ofNat 32 d.val).toInt = (r.val : ℤ) - d.val := by
    rw [BitVec.toInt_sub, toInt_val, toInt_val, Int.bmod_def]; omega
  show (((BitVec.ofNat 32 r.val - BitVec.ofNat 32 d.val).toInt : ℝ) : EReal) = _
  rw [h, pos_val, pos_val, ← EReal.coe_sub]
  push_cast
  rfl

theorem c127 : Ideal.ofBits .f32 1123942400#32 = ((127 : ℝ) : EReal) := by
  have h : BitVec.extractLsb' 31 1 1123942400#32 = 0#1 := by decide
  norm_num [Ideal.ofBits, Ideal.ieee, h, Nat.shiftRight_eq_div_pow]
theorem c128 : Ideal.ofBits .f32 1124073472#32 = ((128 : ℝ) : EReal) := by
  have h : BitVec.extractLsb' 31 1 1124073472#32 = 0#1 := by decide
  norm_num [Ideal.ofBits, Ideal.ieee, h, Nat.shiftRight_eq_div_pow]

theorem rev_val (i : Fin 128) : (i.rev.val : ℝ) = 127 - i.val := by
  have : i.rev.val + i.val = 127 := by rw [Fin.val_rev]; omega
  have h : (i.rev.val : ℝ) + i.val = 127 := by exact_mod_cast this
  linarith

theorem pos_rev_add_one (i : Fin 128) : pos i.rev + 1 = Ideal.ofBits .f32 1124073472#32 - pos i := by
  rw [pos_val, pos_val, c128, rev_val, ← EReal.coe_one, ← EReal.coe_add, ← EReal.coe_sub]
  congr 1; ring

theorem sub_pos_rev (i : Fin 128) : Ideal.ofBits .f32 1123942400#32 - pos i = pos i.rev := by
  rw [pos_val, pos_val, c127, rev_val, ← EReal.coe_sub]

theorem pos_sub_rev (i j : Fin 128) : pos i.rev - pos j.rev = 0 - (pos i - pos j) := by
  rw [pos_val, pos_val, pos_val, pos_val, rev_val, rev_val, ← EReal.coe_zero, ← EReal.coe_sub, ← EReal.coe_sub, ← EReal.coe_sub]
  congr 1; ring

/-! ## Reversal -/

theorem low_rev (s : Fin 2048) : low s.rev = (low s).rev := by
  apply Fin.ext; simp only [low, Fin.val_rev]; omega
theorem div_rev (s : Fin 2048) : s.rev.val / 128 = 15 - s.val / 128 := by
  rw [Fin.val_rev]; omega
theorem row_rev (n : ℕ) (hn : n < 16) (x : Fin 128) : (row n x).rev = row (15 - n) x.rev := by
  apply Fin.ext; simp only [row, Fin.val_rev]; omega
theorem sum_rev (f : Fin 128 → EReal) : ∑ x : Fin 128, f x.rev = ∑ x : Fin 128, f x := Equiv.sum_comp Fin.revPerm f

/-! ## The states -/

variable (q k : Fin 2048 → Fin 128 → EReal) (v : Fin 2048 → Fin 256 → EReal) (a b : EReal)

/-- A direction's decays: the mask of each pair, the query's, the key's to the chunk's end, and a whole chunk's. -/
def maskF (i j : Fin 128) : EReal := if 0 ≤ pos i - pos j then Ideal.exp (a * max (pos i - pos j) 0) else 0
def maskB (i j : Fin 128) : EReal := if 0 < pos i - pos j then Ideal.exp (b * max (pos i - pos j) 0) else 0
def decQ (x : Fin 128) : EReal := Ideal.exp (a * (pos x + 1))
def decK (x : Fin 128) : EReal := Ideal.exp (a * (Ideal.ofBits .f32 1123942400#32 - pos x))
def decC : EReal := Ideal.exp (a * Ideal.ofBits .f32 1124073472#32)

theorem stF_eq (n : ℕ) (d : Fin 128) (e : Fin 256) :
    stF k v (k0_pay17 (F := Ideal) a) (k0_pay20 (F := Ideal) a) n d e = stD k v (decK a) (decC a) n d e := by
  induction n generalizing d e with
  | zero => rfl
  | succ n ih =>
    simp only [stF, stD, ih, pay17_apply, pay20_apply]
    rfl

theorem stB_eq (n : ℕ) (hn : n ≤ 16) (d : Fin 128) (e : Fin 256) :
    stB k v (k0_pay19 (F := Ideal) b) (k0_pay21 (F := Ideal) b) n d e = stD (fun s => k s.rev) (fun s => v s.rev) (decK b) (decC b) n d e := by
  induction n generalizing d e with
  | zero => rfl
  | succ n ih =>
    simp only [stB, stD, ih (by omega), pay19_apply]
    refine congrArg₂ (· + ·) (by rw [pay21_apply]; rfl) ?_
    rw [← sum_rev]
    refine Finset.sum_congr rfl fun x _ => ?_
    rw [row_rev n (by omega) x, decK, sub_pos_rev]
    rfl

/-! ## The sum of the two directions -/

theorem mask_eq (S w : EReal) (i j : Fin 128) :
    S * k0_pay14 (F := Ideal) a b (ix2 i j) * w = S * maskF a i j * w + S * maskB b i.rev j.rev * w := by
  rw [pay14_apply, diff_val, maskF, maskB, pos_sub_rev]
  by_cases h : (0 : EReal) ≤ pos i - pos j
  · have h' : ¬ (0 : EReal) < 0 - (pos i - pos j) := by
      rw [pos_val, pos_val] at h ⊢
      rw [← EReal.coe_sub, ← EReal.coe_zero] at h ⊢
      rw [← EReal.coe_sub]
      rw [EReal.coe_le_coe_iff] at h
      rw [EReal.coe_lt_coe_iff]
      linarith
    rw [if_pos h, if_pos h, if_neg h', mul_zero, zero_mul, add_zero]
  · have h' : (0 : EReal) < 0 - (pos i - pos j) := by
      rw [pos_val, pos_val] at h ⊢
      rw [← EReal.coe_sub, ← EReal.coe_zero] at h ⊢
      rw [← EReal.coe_sub]
      rw [EReal.coe_le_coe_iff] at h
      rw [EReal.coe_lt_coe_iff]
      linarith
    rw [if_neg h, if_neg h, if_pos h', mul_zero, zero_mul, zero_add]

theorem yB_eq (s : Fin 2048) (e : Fin 256) :
    yB q k v (k0_pay18 (F := Ideal) b) (k0_pay19 (F := Ideal) b) (k0_pay21 (F := Ideal) b) s e
      = ∑ d, q s d * decQ b (low s).rev * stD (fun s => k s.rev) (fun s => v s.rev) (decK b) (decC b) (15 - s.val / 128) d e := by
  unfold yB
  refine Finset.sum_congr rfl fun d _ => ?_
  rw [stB_eq k v b _ (by omega), pay18_apply, decQ, pos_rev_add_one]
  rfl

/-- The kernel's retention is the sum of the two directions, the second taken on the reversed sequence. -/
theorem ySum_eq (s : Fin 2048) (e : Fin 256) :
    ySum q k v (yB q k v (k0_pay18 (F := Ideal) b) (k0_pay19 (F := Ideal) b) (k0_pay21 (F := Ideal) b)) (k0_pay14 (F := Ideal) a b) (k0_pay16 (F := Ideal) a) (k0_pay17 (F := Ideal) a) (k0_pay20 (F := Ideal) a) s e
      = dir q k v (maskF a) (decQ a) (decK a) (decC a) s e
        + dir (fun s => q s.rev) (fun s => k s.rev) (fun s => v s.rev) (maskB b) (decQ b) (decK b) (decC b) s.rev e := by
  have hb : ∑ x, (∑ d, q s d * k ((row (15 - s.val / 128) x).rev) d) * maskB b (low s).rev x * v ((row (15 - s.val / 128) x).rev) e
      = ∑ x, (∑ d, q s d * k (row (s.val / 128) x) d) * maskB b (low s).rev x.rev * v (row (s.val / 128) x) e := by
    rw [← sum_rev]
    refine Finset.sum_congr rfl fun x _ => ?_
    rw [row_rev _ (by omega), Fin.rev_rev, show 15 - (15 - s.val / 128) = s.val / 128 from by have := s.isLt; omega]
  have hf : ∑ x, q s x * k0_pay16 (F := Ideal) a (ix2 (low s) x) * stF k v (k0_pay17 (F := Ideal) a) (k0_pay20 (F := Ideal) a) (s.val / 128) x e
      = ∑ d, q s d * decQ a (low s) * stD k v (decK a) (decC a) (s.val / 128) d e := by
    refine Finset.sum_congr rfl fun d _ => ?_
    rw [stF_eq, pay16_apply]
    rfl
  unfold ySum dir
  simp only [Fin.rev_rev, low_rev, div_rev, mask_eq, Finset.sum_add_distrib, yB_eq]
  rw [hb, hf]
  ac_rfl

end Cert.RetIdeal.Block
end
-- ==== Proof.RetTail.lean ====
/- The ends of the retention's reference, read element by element: the rotated queries and keys, the values and the gate it
   starts from, and the result, which is the sum of the two directions normed, scaled and gated. -/
module

public import proofs.«01_k».proof.Proof.RetEq
public import proofs.«01_k».proof.Proof.Gen.RetRefIdeal.Read

@[expose] public section

set_option maxRecDepth 16384
set_option maxHeartbeats 1000000

noncomputable section

namespace Cert.RetRefIdeal.Read

open Cert.RetRefIdeal Cert.RetRefIdeal.Gen Idealize.ShloMosaic Idealize.ShloMosaic.TcCoe Idealize.SL.Sem Idealize.ShloMosaic.StableHlo
open Cert.RetIdeal.Block (row row_val low row_low)

variable (x0 : Vec Ideal S8x2048x12288 .bf16) (x1 : Vec Ideal S2x8 .f32) (x2 : Vec Ideal S8x256 .f32)

/-! ## What the two directions start from -/

/-- The rotary angle of a place and a frequency. -/
def angle (s : Fin 2048) (d : ℕ) : EReal :=
  FloatOps.sitofp (F := Ideal) .f32 (BitVec.ofNat 32 s.val)
    * Ideal.pow (Ideal.ofBits .f32 1176256512#32) (Ideal.div (-FloatOps.sitofp (F := Ideal) .f32 (BitVec.ofNat 32 d)) (Ideal.ofBits .f32 1115684864#32))

/-- The cosine table over the two halves of a head, and the sine table with its first half negated. -/
def cosAt (s : Fin 2048) (d : Fin 128) : EReal := if d.val < 64 then Ideal.cos (angle s d.val) else Ideal.cos (angle s (d.val - 64))
def sinAt (s : Fin 2048) (d : Fin 128) : EReal := if d.val < 64 then -Ideal.sin (angle s d.val) else Ideal.sin (angle s (d.val - 64))

theorem v18_at (s : Fin 2048) (d : Fin 64) : val_main_v18 (F := Ideal) (ix2 s d) = Ideal.cos (angle s d.val) := by
  pointwise [val_main_v18, val_main_v17, val_main_v16, val_main_v15, val_main_v14, val_main_v13, val_main_v12, val_main_v11, val_main_v10, val_main_v9, val_main_v8, val_main_v7, val_main_v6, val_main_cst, val_main_cst_0]
  rfl
theorem v20_at (s : Fin 2048) (d : Fin 64) : val_main_v20 (F := Ideal) (ix2 s d) = Ideal.sin (angle s d.val) := by
  pointwise [val_main_v20, val_main_v17, val_main_v16, val_main_v15, val_main_v14, val_main_v13, val_main_v12, val_main_v11, val_main_v10, val_main_v9, val_main_v8, val_main_v7, val_main_v6, val_main_cst, val_main_cst_0]
  rfl

/-- The rotation as the reference writes it, on the two halves of a head. -/
def halves (x : Fin 128 → EReal) (s : Fin 2048) (d : Fin 128) : EReal :=
  if h : d.val < 64 then x d * Ideal.cos (angle s d.val) - x ⟨64 + d.val, by omega⟩ * Ideal.sin (angle s d.val)
  else x ⟨d.val - 64, by omega⟩ * Ideal.sin (angle s (d.val - 64)) + x d * Ideal.cos (angle s (d.val - 64))

/-- The rotation is the head times the cosine table plus the head turned by half its length times the sine table. -/
theorem halves_eq (x : Fin 128 → EReal) (s : Fin 2048) (d : Fin 128) :
    halves x s d = x d * cosAt s d + x ⟨(d.val + 128 - 64) % 128, by omega⟩ * sinAt s d := by
  unfold halves cosAt sinAt
  by_cases h : d.val < 64
  · rw [dif_pos h, if_pos h, if_pos h, sub_eq_add_neg, mul_neg]
    exact congrArg (fun i => x d * Ideal.cos (angle s d.val) + -(x i * Ideal.sin (angle s d.val))) (Fin.ext (by show 64 + d.val = _; simp only []; omega))
  · rw [dif_neg h, if_neg h, if_neg h, add_comm]
    exact congrArg (fun i => x d * Ideal.cos (angle s (d.val - 64)) + x i * Ideal.sin (angle s (d.val - 64))) (Fin.ext (by show d.val - 64 = _; simp only []; omega))

theorem v28_at (b h : Fin 8) (s : Fin 2048) (d : Fin 64) : val_main_v28 (F := Ideal) x0 (ix4 b s h d)
    = x0 (ix3 b s ⟨h.val * 128 + d.val, by omega⟩) * val_main_v18 (F := Ideal) (ix2 s d) - x0 (ix3 b s ⟨h.val * 128 + (64 + d.val), by omega⟩) * val_main_v20 (F := Ideal) (ix2 s d) := by
  pointwise [val_main_v28, val_main_v27, val_main_v26, val_main_v25, val_main_v24, val_main_v23, val_main_v22, val_main_v21, val_main_v19, val_main_v5, val_main_v1, val_main_v0]
theorem v33_at (b h : Fin 8) (s : Fin 2048) (d : Fin 64) : val_main_v33 (F := Ideal) x0 (ix4 b s h d)
    = x0 (ix3 b s ⟨h.val * 128 + d.val, by omega⟩) * val_main_v20 (F := Ideal) (ix2 s d) + x0 (ix3 b s ⟨h.val * 128 + (64 + d.val), by omega⟩) * val_main_v18 (F := Ideal) (ix2 s d) := by
  pointwise [val_main_v33, val_main_v32, val_main_v31, val_main_v30, val_main_v29, val_main_v23, val_main_v22, val_main_v21, val_main_v19, val_main_v5, val_main_v1, val_main_v0]
theorem v34_at (b h : Fin 8) (s : Fin 2048) (d : Fin 128) : val_main_v34 (F := Ideal) x0 (ix4 b s h d) = halves (fun d => x0 (ix3 b s ⟨h.val * 128 + d.val, by omega⟩)) s d := by
  unfold halves
  beta_reduce
  by_cases hd : d.val < 64
  · rw [dif_pos hd, ← v18_at s ⟨d.val, hd⟩, ← v20_at s ⟨d.val, hd⟩]
    refine Eq.trans ?_ (v28_at x0 b h s ⟨d.val, hd⟩)
    pointwise [val_main_v34]
    exact dif_pos hd
  · rw [dif_neg hd, ← v18_at s ⟨d.val - 64, by omega⟩, ← v20_at s ⟨d.val - 64, by omega⟩]
    have e : (⟨h.val * 128 + d.val, by omega⟩ : Fin 12288) = ⟨h.val * 128 + (64 + (d.val - 64)), by omega⟩ := Fin.ext (by show h.val * 128 + d.val = h.val * 128 + (64 + (d.val - 64)); omega)
    rw [e, ← v33_at x0 b h s ⟨d.val - 64, by omega⟩]
    pointwise [val_main_v34]
    exact dif_neg hd

theorem v58_at (b h : Fin 8) (s : Fin 2048) (d : Fin 64) : val_main_v58 (F := Ideal) x0 (ix4 b s h d)
    = x0 (ix3 b s ⟨1024 + (h.val * 128 + d.val), by omega⟩) * val_main_v18 (F := Ideal) (ix2 s d) - x0 (ix3 b s ⟨1024 + (h.val * 128 + (64 + d.val)), by omega⟩) * val_main_v20 (F := Ideal) (ix2 s d) := by
  pointwise [val_main_v58, val_main_v57, val_main_v56, val_main_v55, val_main_v54, val_main_v53, val_main_v52, val_main_v51, val_main_v49, val_main_v35, val_main_v2, val_main_v0]
  rfl
theorem v63_at (b h : Fin 8) (s : Fin 2048) (d : Fin 64) : val_main_v63 (F := Ideal) x0 (ix4 b s h d)
    = x0 (ix3 b s ⟨1024 + (h.val * 128 + d.val), by omega⟩) * val_main_v20 (F := Ideal) (ix2 s d) + x0 (ix3 b s ⟨1024 + (h.val * 128 + (64 + d.val)), by omega⟩) * val_main_v18 (F := Ideal) (ix2 s d) := by
  pointwise [val_main_v63, val_main_v62, val_main_v61, val_main_v60, val_main_v59, val_main_v53, val_main_v52, val_main_v51, val_main_v49, val_main_v35, val_main_v2, val_main_v0]
  rfl
theorem v64_at (b h : Fin 8) (s : Fin 2048) (d : Fin 128) : val_main_v64 (F := Ideal) x0 (ix4 b s h d) = halves (fun d => x0 (ix3 b s ⟨1024 + (h.val * 128 + d.val), by omega⟩)) s d := by
  unfold halves
  beta_reduce
  by_cases hd : d.val < 64
  · rw [dif_pos hd, ← v18_at s ⟨d.val, hd⟩, ← v20_at s ⟨d.val, hd⟩]
    refine Eq.trans ?_ (v58_at x0 b h s ⟨d.val, hd⟩)
    pointwise [val_main_v64]
    exact dif_pos hd
  · rw [dif_neg hd, ← v18_at s ⟨d.val - 64, by omega⟩, ← v20_at s ⟨d.val - 64, by omega⟩]
    have e : (⟨1024 + (h.val * 128 + d.val), by omega⟩ : Fin 12288) = ⟨1024 + (h.val * 128 + (64 + (d.val - 64))), by omega⟩ := Fin.ext (by show 1024 + (h.val * 128 + d.val) = 1024 + (h.val * 128 + (64 + (d.val - 64))); omega)
    rw [e, ← v63_at x0 b h s ⟨d.val - 64, by omega⟩]
    pointwise [val_main_v64]
    exact dif_neg hd

/-- The query, the key, the value and the gate of a head. -/
theorem v68_at (b h : Fin 8) (s : Fin 2048) (d : Fin 128) :
    val_main_v68 (F := Ideal) x0 (ix4 b h s d) = val_main_v34 (F := Ideal) x0 (ix4 b s h d) := by
  pointwise [val_main_v68]
theorem v69_at (b h : Fin 8) (s : Fin 2048) (d : Fin 128) :
    val_main_v69 (F := Ideal) x0 (ix4 b h s d) = val_main_v64 (F := Ideal) x0 (ix4 b s h d) * Ideal.ofBits .f32 1035273459#32 := by
  pointwise [val_main_v69, val_main_v66, val_main_v65, val_main_cst_3]
theorem v70_at (b h : Fin 8) (s : Fin 2048) (e : Fin 256) :
    val_main_v70 (F := Ideal) x0 (ix4 b h s e) = x0 (ix3 b s ⟨2048 + (h.val * 256 + e.val), by omega⟩) := by
  pointwise [val_main_v70, val_main_v67, val_main_v3, val_main_v0]
theorem v412_at (b h : Fin 8) (s : Fin 2048) (e : Fin 256) :
    val_main_v412 (F := Ideal) x0 (ix4 b s h e) = x0 (ix3 b s ⟨4096 + (h.val * 256 + e.val), by omega⟩) := by
  pointwise [val_main_v412, val_main_v4, val_main_v0]

/-- The same three, reversed. -/
theorem v233_at (b h : Fin 8) (s : Fin 2048) (d : Fin 128) : val_main_v233 (F := Ideal) x0 (ix4 b h s d) = val_main_v68 (F := Ideal) x0 (ix4 b h s.rev d) := by
  pointwise [val_main_v233]
  rfl
theorem v234_at (b h : Fin 8) (s : Fin 2048) (d : Fin 128) : val_main_v234 (F := Ideal) x0 (ix4 b h s d) = val_main_v69 (F := Ideal) x0 (ix4 b h s.rev d) := by
  pointwise [val_main_v234]
  rfl
theorem v235_at (b h : Fin 8) (s : Fin 2048) (e : Fin 256) : val_main_v235 (F := Ideal) x0 (ix4 b h s e) = val_main_v70 (F := Ideal) x0 (ix4 b h s.rev e) := by
  pointwise [val_main_v235]
  rfl

/-- The log decays of a head, forward and backward. -/
theorem v74_at (h : Fin 8) : val_main_v74 (F := Ideal) x1 (ix1 h) = -Ideal.exp (x1 (ix2 0 h)) := by
  pointwise [val_main_v74, val_main_v73, val_main_v72, val_main_v71]
theorem v237_at (h : Fin 8) : val_main_v237 (F := Ideal) x1 (ix1 h) = -Ideal.exp (x1 (ix2 1 h)) := by
  pointwise [val_main_v237, val_main_v236, val_main_v72, val_main_v71]

/-! ## From the two directions to the result -/

theorem addf_eq (x y : EReal) : FloatOps.addf (F := Ideal) (φ := .f32) x y = x + y := rfl
theorem mulf_eq (x y : EReal) : FloatOps.mulf (F := Ideal) (φ := .f32) x y = x * y := rfl

theorem v396_at (b h : Fin 8) (s : Fin 2048) (e : Fin 256) :
    val_main_v396 (F := Ideal) x0 x1 (ix4 b h s e) = val_main_v395 (F := Ideal) x0 x1 (ix4 b h s.rev e) := by
  pointwise [val_main_v396]
  rfl
theorem v398_at (b h : Fin 8) (s : Fin 2048) (e : Fin 256) :
    val_main_v398 (F := Ideal) x0 x1 (ix4 b s h e) = (val_main_v232 (F := Ideal) x0 x1 (ix4 b h s e) : EReal) + (val_main_v395 (F := Ideal) x0 x1 (ix4 b h s.rev e) : EReal) := by
  have l : idx_main_v398 (ix4 b s h e) = ix4 b h s e := by funext a; match a with | ⟨0, _⟩ => rfl | ⟨1, _⟩ => rfl | ⟨2, _⟩ => rfl | ⟨3, _⟩ => rfl
  rw [val_main_v398_apply, l, val_main_v397_apply, addf_eq, v396_at]
theorem v399_at (b h : Fin 8) (s : Fin 2048) (e : Fin 256) :
    val_main_v399 (F := Ideal) x0 x1 (ix4 b s h e) = (val_main_v398 (F := Ideal) x0 x1 (ix4 b s h e) : EReal) * (val_main_v398 (F := Ideal) x0 x1 (ix4 b s h e) : EReal) := by
  rw [val_main_v399_apply, mulf_eq]
theorem v400_at (b h : Fin 8) (s : Fin 2048) :
    val_main_v400 (F := Ideal) x0 x1 (ix3 b s h) = ∑ e : Fin 256, val_main_v399 (F := Ideal) x0 x1 (ix4 b s h e) := by
  have l : ∀ e : Fin 256, idx_main_v400 (ix3 b s h) e = ix4 b s h e := fun e => by funext a; match a with | ⟨0, _⟩ => rfl | ⟨1, _⟩ => rfl | ⟨2, _⟩ => rfl | ⟨3, _⟩ => rfl
  have z : val_main_cst_20 (F := Ideal) (Shape.Idx.first h_S_) = (0 : EReal) := Ideal.ofBits_zero_f32
  refine (val_main_v400_apply x0 x1 (ix3 b s h)).trans ((congrArg₂ (fun x y : EReal => x + y) z (Finset.sum_congr rfl fun e _ => congrArg (val_main_v399 (F := Ideal) x0 x1) (l e))).trans (zero_add _))
theorem v406_at (b h : Fin 8) (s : Fin 2048) :
    val_main_v406 (F := Ideal) x0 x1 (ix4 b s h 0) = Ideal.rsqrt (Ideal.div (val_main_v400 (F := Ideal) x0 x1 (ix3 b s h)) (Ideal.ofBits .f32 1132462080#32) + Ideal.ofBits .f32 897988541#32) := by
  have l : idx_main_v401 (ix4 b s h 0) = ix3 b s h := by funext a; match a with | ⟨0, _⟩ => rfl | ⟨1, _⟩ => rfl | ⟨2, _⟩ => rfl
  rw [val_main_v406_apply, val_main_v405_apply, val_main_v403_apply, val_main_v401_apply, l]
  rfl
theorem v407_at (b h : Fin 8) (s : Fin 2048) (e : Fin 256) :
    val_main_v407 (F := Ideal) x0 x1 (ix4 b s h e) = val_main_v406 (F := Ideal) x0 x1 (ix4 b s h 0) := by
  have l : idx_main_v407 (ix4 b s h e) = ix4 b s h 0 := by funext a; match a with | ⟨0, _⟩ => rfl | ⟨1, _⟩ => rfl | ⟨2, _⟩ => rfl | ⟨3, _⟩ => rfl
  rw [val_main_v407_apply, l]
theorem v410_at (b h : Fin 8) (s : Fin 2048) (e : Fin 256) : val_main_v410 (F := Ideal) x2 (ix4 b s h e) = x2 (ix2 h e) := by
  rw [val_main_v410_apply, val_main_v409_apply]
  refine congrArg x2 ?_
  funext a; match a with | ⟨0, _⟩ => rfl | ⟨1, _⟩ => rfl
theorem v413_at (b h : Fin 8) (s : Fin 2048) (e : Fin 256) :
    val_main_v413 (F := Ideal) x0 (ix4 b s h e) = (val_main_v412 (F := Ideal) x0 (ix4 b s h e) : EReal) * Ideal.logistic (val_main_v412 (F := Ideal) x0 (ix4 b s h e)) := by
  pointwise [val_main_v413, val_main_call2_v5, val_main_call2_v4, val_main_call2_v3, val_main_call2_v2, val_main_call2_v1, val_main_call2_v0, val_main_call2_cst, val_main_call2_cst_0]
  rfl
theorem v414_at (b h : Fin 8) (s : Fin 2048) (e : Fin 256) :
    val_main_v414 (F := Ideal) x0 x1 x2 (ix4 b s h e)
      = Cert.RetIdeal.Block.out (fun s e => val_main_v398 (F := Ideal) x0 x1 (ix4 b s h e)) (fun s e => val_main_v412 (F := Ideal) x0 (ix4 b s h e)) (fun e => x2 (ix2 h e)) s e := by
  rw [val_main_v414_apply, mulf_eq, val_main_v411_apply, mulf_eq, val_main_v408_apply, mulf_eq, v407_at, v406_at, v400_at, v410_at, v413_at]
  simp only [v399_at]
  unfold Cert.RetIdeal.Block.out
  exact congrArg _ rfl

/-- The result's first 2048 columns are the gated retention, the heads side by side. -/
theorem v418_at (b h : Fin 8) (s : Fin 2048) (e : Fin 256) (J : Fin 4096) (hJ : J.val = h.val * 256 + e.val) :
    val_main_v418 (F := Ideal) x0 x1 x2 (ix3 b s J) = val_main_v414 (F := Ideal) x0 x1 x2 (ix4 b s h e) := by
  have lt : J.val < 2048 := by omega
  have e1 : val_main_v418 (F := Ideal) x0 x1 x2 (ix3 b s J) = val_main_v415 (F := Ideal) x0 x1 x2 (ix3 b s ⟨J.val, lt⟩) := by
    pointwise [val_main_v418, val_main_v417]
    exact dif_pos lt
  have e2 : val_main_v415 (F := Ideal) x0 x1 x2 (ix3 b s ⟨J.val, lt⟩) = val_main_v414 (F := Ideal) x0 x1 x2 (ix4 b s ⟨J.val / 256, by omega⟩ ⟨J.val % 256, by omega⟩) := by
    pointwise [val_main_v415]
  have eh : (⟨J.val / 256, by omega⟩ : Fin 8) = h := Fin.ext (by show J.val / 256 = h.val; omega)
  have ee : (⟨J.val % 256, by omega⟩ : Fin 256) = e := Fin.ext (by show J.val % 256 = e.val; omega)
  rw [e1, e2, eh, ee]

open Cert.RetIdeal.Block (maskF maskB decQ decK decC)

/-- The retention: the sum of the two directions. -/
theorem v398_dirs (b h : Fin 8) (s : Fin 2048) (e : Fin 256) :
    val_main_v398 (F := Ideal) x0 x1 (ix4 b s h e)
      = dir (fun s d => val_main_v68 (F := Ideal) x0 (ix4 b h s d)) (fun s d => val_main_v69 (F := Ideal) x0 (ix4 b h s d)) (fun s e => val_main_v70 (F := Ideal) x0 (ix4 b h s e))
          (maskF (-Ideal.exp (x1 (ix2 0 h)))) (decQ (-Ideal.exp (x1 (ix2 0 h)))) (decK (-Ideal.exp (x1 (ix2 0 h)))) (decC (-Ideal.exp (x1 (ix2 0 h)))) s e
        + dir (fun s d => val_main_v68 (F := Ideal) x0 (ix4 b h s.rev d)) (fun s d => val_main_v69 (F := Ideal) x0 (ix4 b h s.rev d)) (fun s e => val_main_v70 (F := Ideal) x0 (ix4 b h s.rev e))
          (maskB (-Ideal.exp (x1 (ix2 1 h)))) (decQ (-Ideal.exp (x1 (ix2 1 h)))) (decK (-Ideal.exp (x1 (ix2 1 h)))) (decC (-Ideal.exp (x1 (ix2 1 h)))) s.rev e := by
  rw [v398_at, v232_at, v395_at]
  simp only [v233_at, v234_at, v235_at, v95_at, v116_at, v108_at, v120_at, v258_at, v279_at, v271_at, v283_at, v74_at, v237_at]
  rfl

end Cert.RetRefIdeal.Read
end
-- ==== Proof.RetClaim.lean ====
/- The retention call's claim: the block each grid point writes is the reference's value there, and the blocks cover the
   result's first 2048 columns. -/
module

public import proofs.«01_k».proof.Proof.RetData
public import proofs.«01_k».proof.Proof.RetTail
public import Idealize.ShloMosaic.Lib.Pipeline.ValueKit.Acc
public import Idealize.ShloMosaic.Lib.Pipeline.ValueKit.Point
public import Idealize.ShloMosaic.Lib.Pipeline.ValueKit.Partial
public import Idealize.ShloMosaic.Lib.Pointwise

@[expose] public section

set_option maxRecDepth 16384
set_option maxHeartbeats 1000000

noncomputable section

namespace Cert.RetIdeal.Block

open Cert.RetIdeal Cert.RetIdeal.Gen Idealize.ShloMosaic Idealize.ShloMosaic.TcCoe Idealize.SL.Sem

variable (m : (ℓ : Loc nD τ sig) → Buf (Elt Ideal) ℓ)

/-- The blocks' places, decided over the grid. -/
theorem idx0 : ∀ t : Fin cfg0.N, win0_0.index t = ![0, 0] := (by decide +kernel : ∀ t : Fin grid0.N, _)
theorem idx1 : ∀ t : Fin cfg0.N, win0_1.index t = ![t.val / 8, 0, t.val % 8] := (by decide +kernel : ∀ t : Fin grid0.N, _)
theorem idx2 : ∀ t : Fin cfg0.N, win0_2.index t = ![t.val / 8, 0, 8 + t.val % 8] := (by decide +kernel : ∀ t : Fin grid0.N, _)
theorem idx3 : ∀ t : Fin cfg0.N, win0_3.index t = ![t.val / 8, 0, 8 + t.val % 8] := (by decide +kernel : ∀ t : Fin grid0.N, _)
theorem idx4 : ∀ t : Fin cfg0.N, win0_4.index t = ![t.val / 8, 0, 16 + t.val % 8] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![t.val % 8, 0, 0] := (by decide +kernel : ∀ t : Fin grid0.N, _)
theorem idx8 : ∀ t : Fin cfg0.N, win0_8.index t = ![t.val / 8, 0, t.val % 8] := (by decide +kernel : ∀ t : Fin grid0.N, _)
theorem at1 : ∀ t : Fin cfg0.N, ((grid0.coords t) 1).val = t.val % 8 := (by decide +kernel : ∀ t : Fin grid0.N, _)

/-- The three arguments. -/
abbrev arg0 (c : Dev nD) : Vec Ideal S8x2048x12288 .bf16 := m ((c : Thread nD τ).loc main_arg0)
abbrev arg1 (c : Dev nD) : Vec Ideal S2x8 .f32 := m ((c : Thread nD τ).loc main_arg1)
abbrev arg2 (c : Dev nD) : Vec Ideal S8x256 .f32 := m ((c : Thread nD τ).loc main_arg2)

/-! ## The input blocks over the arguments -/

theorem blk1 (c : Dev nD) (t : Fin cfg0.N) (b h : Fin 8) (hb : b.val = t.val / 8) (hh : h.val = t.val % 8) (s : Fin 2048) (d : Fin 128) :
    (iblk m c 1 t : Vec Ideal S1x2048x128 .bf16) (ix3 0 s d) = arg0 m c (ix3 b s ⟨h.val * 128 + d.val, by omega⟩) := by
  blk_ext [iblk, V, idx1]
theorem blk2 (c : Dev nD) (t : Fin cfg0.N) (b h : Fin 8) (hb : b.val = t.val / 8) (hh : h.val = t.val % 8) (s : Fin 2048) (d : Fin 128) :
    (iblk m c 2 t : Vec Ideal S1x2048x128 .bf16) (ix3 0 s d) = arg0 m c (ix3 b s ⟨1024 + (h.val * 128 + d.val), by omega⟩) := by
  blk_ext [iblk, V, idx2]
theorem blk3 (c : Dev nD) (t : Fin cfg0.N) (b h : Fin 8) (hb : b.val = t.val / 8) (hh : h.val = t.val % 8) (s : Fin 2048) (e : Fin 256) :
    (iblk m c 3 t : Vec Ideal S1x2048x256 .bf16) (ix3 0 s e) = arg0 m c (ix3 b s ⟨2048 + (h.val * 256 + e.val), by omega⟩) := by
  blk_ext [iblk, V, idx3]
theorem blk4 (c : Dev nD) (t : Fin cfg0.N) (b h : Fin 8) (hb : b.val = t.val / 8) (hh : h.val = t.val % 8) (s : Fin 2048) (e : Fin 256) :
    (iblk m c 4 t : Vec Ideal S1x2048x256 .bf16) (ix3 0 s e) = arg0 m c (ix3 b s ⟨4096 + (h.val * 256 + e.val), by omega⟩) := by
  blk_ext [iblk, V, idx4]
theorem blk7 (c : Dev nD) (t : Fin cfg0.N) (h : Fin 8) (hh : h.val = t.val % 8) (e : Fin 256) :
    (iblk m c 7 t : Vec Ideal S1x1x256 .f32) (ix3 0 0 e) = arg2 m c (ix2 h e) := by
  blk_ext! [iblk, V, idx7]
theorem blk5 (c : Dev nD) (t : Fin cfg0.N) (s : Fin 2048) (d : Fin 128) :
    (iblk m c 5 t : Vec Ideal S2048x128 .f32) (ix2 s d) = Cert.RetRefIdeal.Read.cosAt s d := by
  unfold Cert.RetRefIdeal.Read.cosAt Cert.RetRefIdeal.Read.angle
  have e0 : (((View.whole main_v14).slice (win0_5.rect t)).emb (ix2 s d) 0).val = s.val := by blk_simp [idx5]
  have e1 : (((View.whole main_v14).slice (win0_5.rect t)).emb (ix2 s d) 1).val = d.val := by blk_simp [idx5]
  blk_simp [iblk, idx5]
  entry_read
  pointwise
  simp only [e0, e1, dite_eq_ite]
theorem blk6 (c : Dev nD) (t : Fin cfg0.N) (s : Fin 2048) (d : Fin 128) :
    (iblk m c 6 t : Vec Ideal S2048x128 .f32) (ix2 s d) = Cert.RetRefIdeal.Read.sinAt s d := by
  unfold Cert.RetRefIdeal.Read.sinAt Cert.RetRefIdeal.Read.angle
  have e0 : (((View.whole main_v16).slice (win0_6.rect t)).emb (ix2 s d) 0).val = s.val := by blk_simp [idx6]
  have e1 : (((View.whole main_v16).slice (win0_6.rect t)).emb (ix2 s d) 1).val = d.val := by blk_simp [idx6]
  blk_simp [iblk, idx6]
  entry_read
  pointwise
  simp only [e0, e1, dite_eq_ite]

/-- The log decays' table, and the two entries a grid point reads. -/
theorem blk0 (c : Dev nD) (t : Fin cfg0.N) (r : Fin 2) (h : Fin 8) :
    (iblk m c 0 t : Vec Ideal S2x8 .f32) (ix2 r h) = -Ideal.exp (arg1 m c (ix2 r h)) := by
  blk_ext! [iblk, V, idx0]
theorem off1 : ∀ t : Fin cfg0.N, k0_off1 (grid0.coords t) = ![0, t.val % 8] := (by decide +kernel : ∀ t : Fin grid0.N, _)
theorem off2 : ∀ t : Fin cfg0.N, k0_off2 (grid0.coords t) = ![1, t.val % 8] := (by decide +kernel : ∀ t : Fin grid0.N, _)
theorem fwd_at (c : Dev nD) (t : Fin cfg0.N) (h : Fin 8) (hh : h.val = t.val % 8) :
    fwdOf (grid0.coords t) (iblk m c 0 t) = -Ideal.exp (arg1 m c (ix2 0 h)) := by
  refine Eq.trans ?_ (blk0 m c t 0 h)
  refine congrArg (iblk m c 0 t : Vec Ideal S2x8 .f32) ?_
  funext a
  apply Fin.ext
  have ho := off1 t
  match a with
  | ⟨0, _⟩ => exact congrFun ho 0
  | ⟨1, _⟩ => exact (congrFun ho 1).trans hh.symm
theorem bwd_at (c : Dev nD) (t : Fin cfg0.N) (h : Fin 8) (hh : h.val = t.val % 8) :
    bwdOf (grid0.coords t) (iblk m c 0 t) = -Ideal.exp (arg1 m c (ix2 1 h)) := by
  refine Eq.trans ?_ (blk0 m c t 1 h)
  refine congrArg (iblk m c 0 t : Vec Ideal S2x8 .f32) ?_
  funext a
  apply Fin.ext
  have ho := off2 t
  match a with
  | ⟨0, _⟩ => exact congrFun ho 0
  | ⟨1, _⟩ => exact (congrFun ho 1).trans hh.symm

/-! ## The block over the arguments -/

open Cert.RetRefIdeal.Read (val_main_v68 val_main_v69 val_main_v70 val_main_v398 val_main_v412 val_main_v414 val_main_v418)

section block

variable (c : Dev nD) (t : Fin cfg0.N) (b h : Fin 8) (hb : b.val = t.val / 8) (hh : h.val = t.val % 8)

include hb hh

theorem q_eq : rot (iblk m c 1 t) (iblk m c 5 t) (iblk m c 6 t) = fun s d => val_main_v68 (F := Ideal) (arg0 m c) (ix4 b h s d) := by
  funext s d
  rw [Cert.RetRefIdeal.Read.v68_at, Cert.RetRefIdeal.Read.v34_at, Cert.RetRefIdeal.Read.halves_eq]
  unfold rot
  rw [blk1 m c t b h hb hh, blk1 m c t b h hb hh, blk5, blk6]
theorem k_eq : keyOf (iblk m c 2 t) (iblk m c 5 t) (iblk m c 6 t) = fun s d => val_main_v69 (F := Ideal) (arg0 m c) (ix4 b h s d) := by
  funext s d
  rw [Cert.RetRefIdeal.Read.v69_at, Cert.RetRefIdeal.Read.v64_at, Cert.RetRefIdeal.Read.halves_eq]
  unfold keyOf rot
  rw [blk2 m c t b h hb hh, blk2 m c t b h hb hh, blk5, blk6]
theorem v_eq : mat (iblk m c 3 t) = fun s e => val_main_v70 (F := Ideal) (arg0 m c) (ix4 b h s e) := by
  funext s e
  rw [Cert.RetRefIdeal.Read.v70_at]
  exact blk3 m c t b h hb hh s e
theorem g_eq : mat (iblk m c 4 t) = fun s e => val_main_v412 (F := Ideal) (arg0 m c) (ix4 b s h e) := by
  funext s e
  rw [Cert.RetRefIdeal.Read.v412_at]
  exact blk4 m c t b h hb hh s e
theorem w_eq : (fun e => (iblk m c 7 t : Vec Ideal S1x1x256 .f32) (ix3 0 0 e)) = fun e => arg2 m c (ix2 h e) := by
  funext e
  exact blk7 m c t h hh e

/-- The block a grid point writes, at an element, is the reference's value of the arguments. -/
theorem block_apply (y : S1x2048x256.Idx) (s : Fin 2048) (e : Fin 256) (J : Fin 4096) (hs : y 1 = s) (he : y 2 = e) (hJ : J.val = h.val * 256 + e.val) :
    blockOut (fwdOf (grid0.coords t) (iblk m c 0 t)) (bwdOf (grid0.coords t) (iblk m c 0 t)) (iblk m c 1 t) (iblk m c 2 t) (iblk m c 3 t) (iblk m c 4 t) (iblk m c 5 t) (iblk m c 6 t) (iblk m c 7 t) y
      = val_main_v418 (F := Ideal) (arg0 m c) (arg1 m c) (arg2 m c) (ix3 b s J) := by
  rw [Cert.RetRefIdeal.Read.v418_at _ _ _ b h s e J hJ, Cert.RetRefIdeal.Read.v414_at]
  unfold blockOut blockOf
  rw [q_eq m c t b h hb hh, k_eq m c t b h hb hh, v_eq m c t b h hb hh, g_eq m c t b h hb hh, w_eq m c t b h hb hh, fwd_at m c t h hh, bwd_at m c t h hh, hs, he]
  refine congrArg (fun z => out z _ _ s e) ?_
  funext s e
  exact (ySum_eq _ _ _ _ _ s e).trans (Cert.RetRefIdeal.Read.v398_dirs _ _ b h s e).symm

end block

/-! ## The result -/

/-- On the first 2048 columns, the array the kernel leaves is the reference's value of the arguments. -/
theorem arr_eq (c : Dev nD) (i : S8x2048x4096.Idx) (hi : (i 2).val < 2048) : (dats m 0 c).arrAt 8 cfg0.N i
    = val_main_v418 (F := Ideal) (arg0 m c) (arg1 m c) (arg2 m c) i := by
  refine ((dats m 0 c).arrAt_apply_of_coversWhere 8 (val_main_v418 (F := Ideal) (arg0 m c) (arg1 m c) (arg2 m c)) (P := fun i : S8x2048x4096.Idx => (i 2).val / 256 < 8) (fun β => β (2 : Fin 3) < 8)
    (by decide +kernel) (fun t hf y => ?_) (fun j => Iff.rfl) i).trans (if_pos (by omega))
  show (dats m 0 c).after 8 t y = _
  rw [after0_8]
  have e : ((cfg0.win 8).blk t).view.emb y = ix3 (((cfg0.win 8).blk t).view.emb y 0) (((cfg0.win 8).blk t).view.emb y 1) (((cfg0.win 8).blk t).view.emb y 2) := ValueIdx.eq_ix3 _
  rw [e]
  have ht : t.val < 64 := t.isLt
  refine (block_apply m c t ⟨t.val / 8, by omega⟩ ⟨t.val % 8, by omega⟩ rfl rfl y (y 1) (y 2) (((cfg0.win 8).blk t).view.emb y 2) rfl rfl ?_).trans ?_
  · blk_simp [idx8]
  · refine congrArg₂ (fun p q => val_main_v418 (F := Ideal) (arg0 m c) (arg1 m c) (arg2 m c) (ix3 p q (((cfg0.win 8).blk t).view.emb y 2))) ?_ ?_
    · apply Fin.ext
      blk_simp [idx8]
    · apply Fin.ext
      blk_simp [idx8]

/-- The mask's columns are the first 2048. -/
theorem mask_lt [Cert.On_retention_columns.Facts] (x0 : Vec Ideal S8x2048x12288 .bf16) (x1 : Vec Ideal S2x8 .f32) (x2 : Vec Ideal S8x256 .f32) (i : S8x2048x4096.Idx)
    (hi : Cert.On_retention_columns.fn (F := Ideal) x0 x1 x2 i = 1#1) : (i 2).val < 2048 := by
  have lt : (i 2).val < 4096 := (i 2).isLt
  by_contra hn
  have h2 : IntOp.cmpi .slt (BitVec.ofNat 32 (i 2).val) 2048#32 = 1#1 := hi
  have h3 : ¬ (BitVec.ofNat 32 (i 2).val).slt 2048#32 := by
    rw [BitVec.slt_eq_decide, BitVec.toInt_eq_toNat_of_lt (by rw [BitVec.toNat_ofNat]; omega), BitVec.toNat_ofNat, decide_eq_true_eq]
    show ¬ _ < (2048 : ℤ)
    omega
  revert h2
  simp [IntOp.cmpi, h3]

/-- The retention's kernel computes what its reference computes on the result's first 2048 columns, over the extended reals. -/
theorem algebraic [Cert.On_retention_columns.Facts] : Cert.algebraic_RetIdeal_RetRefIdeal_on_retention_columns := fun m g m' g' _ hag =>
  ⟨fun c => val_main_v418 (F := Ideal) (arg0 m c) (arg1 m c) (arg2 m c),
    (θ_run _ _ _).mono (fun _ h c => ⟨fun i hi => (congrFun (h c).1 i).trans (arr_eq m c i (mask_lt _ _ _ i hi)), (h c).2⟩) (run_blocks m g),
    (θ_run _ _ _).mono (fun _ h c => ⟨fun i _ => congrFun ((h c).1.trans (by
      rw [Cert.RetRefIdeal.Read.val_main_v418_eq]
      exact congr (congr (congrArg _ (hag c).1) (hag c).2.1) (hag c).2.2)) i, (h c).2⟩) (Cert.RetRefIdeal.Value.run m' g')⟩

end Cert.RetIdeal.Block
end
-- ==== Proof.AttClaim.lean ====
/- The attention call's claim on the columns 0 to 2047 of its array, the retention's part: no block that the call writes lies
   there, so they hold what the argument `mix` held. -/
module

public import proofs.«01_k».proof.Defs
public import proofs.«01_k».proof.Proof.AttIdealFrame
public import proofs.«01_k».proof.Proof.Gen.AttRefIdeal.Run
public import proofs.«01_k».proof.Proof.Gen.On_kept_columns
public import Idealize.ShloMosaic.Lib.Pipeline.ArrRel
public import Idealize.ShloMosaic.Lib.Pipeline.ValueKit.Partial
public import Idealize.ShloMosaic.Lib.Pipeline.ValueKit.Point
public import Idealize.ShloMosaic.Lib.Pointwise

@[expose] public section

set_option maxRecDepth 16384
set_option maxHeartbeats 1000000

noncomputable section

namespace Cert.AttIdeal.Kept

open Cert.AttIdeal Cert.AttIdeal.Gen Cert.AttIdeal.Unnamed Idealize.ShloMosaic Idealize.ShloMosaic.TcCoe Idealize.SL.Sem

variable (m : (ℓ : Loc nD τ sig) → Buf (Elt Ideal) ℓ) (ρ : Dev nD → PrngReg)

/-- The call's array starts as a copy of `mix`. -/
theorem entry (c : Dev nD) : V m c main_v50 = m ((c : Thread nD τ).loc main_arg2) := by
  show StableHlo.after _ _ (Proc.devRef .tc main_v50) = _
  simp only [hostOps0, hostOps0_1, hostOps0_2, hostOps0_3, hostOps0_4, hostOps0_5, hostOps0_6, List.flatten_cons, List.flatten_nil, List.append_nil, List.cons_append,
    List.nil_append]
  after_results
  rfl

/-- The written blocks are those of 128 columns from the sixteenth on. -/
theorem covers : (cfg0.win 4).CoversWhere fun β => 16 ≤ β (2 : Fin 3) := by
  decide +kernel

/-- Every run leaves the first 2048 columns of the call's array as `mix` has them. -/
theorem kept (r : PUnit × MemSt nD τ sig (Elt Ideal))
    (h : Pipeline.RDat.FramePost (cfgs 0) (fun c => (dats m 0 c).toRForget forgets0) (V m) r) (c : Dev nD) (i : S8x2048x4096.Idx) (hi : (i 2).val < 2048) :
    r.2.mem ((c : Thread nD τ).loc main_v50) i = m ((c : Thread nD τ).loc main_arg2) i := by
  obtain ⟨after, -, hA⟩ := Pipeline.RDat.FramePost.exists_exact h c
  refine (congrFun (hA 4) i).trans ?_
  refine (Pipeline.Dat.arrAt_emb_eq_entry (cfg := cfgs 0) _ 4 (fun β => 16 ≤ β (2 : Fin 3)) covers i ?_).trans ?_
  · show ¬ 16 ≤ (i 2).val / 128
    omega
  · exact congrFun (entry m c) i

/-- The mask's columns are the first 2048. -/
theorem mask_lt [Cert.On_kept_columns.Facts] (x0 : Vec Ideal S8x2048x12288 .bf16) (x1 : Vec Ideal S32x16 .f32) (x2 : Vec Ideal S8x2048x4096 .bf16) (i : S8x2048x4096.Idx)
    (hi : Cert.On_kept_columns.fn (F := Ideal) x0 x1 x2 i = 1#1) : (i 2).val < 2048 := by
  have lt : (i 2).val < 4096 := (i 2).isLt
  by_contra hn
  have h2 : IntOp.cmpi .slt (BitVec.ofNat 32 (i 2).val) 2048#32 = 1#1 := hi
  have h3 : ¬ (BitVec.ofNat 32 (i 2).val).slt 2048#32 := by
    rw [BitVec.slt_eq_decide, BitVec.toInt_eq_toNat_of_lt (by rw [BitVec.toNat_ofNat]; omega), BitVec.toNat_ofNat, decide_eq_true_eq]
    show ¬ _ < (2048 : ℤ)
    omega
  revert h2
  simp [IntOp.cmpi, h3]

/-- The reference's array on the first 2048 columns is `mix`. -/
theorem ref_at (x : Vec Ideal S8x2048x4096 .bf16) (h1 : Cert.AttRefIdeal.S8x2048x4096.Slices ![0, 0, 0] Cert.AttRefIdeal.S8x2048x2048)
    (h2 : Shape.Concatenates [Cert.AttRefIdeal.S8x2048x2048, Cert.AttRefIdeal.S8x2048x2048] Cert.AttRefIdeal.S8x2048x4096 2) (z : Vec Ideal Cert.AttRefIdeal.S8x2048x2048 .bf16) (i : S8x2048x4096.Idx) (hi : (i 2).val < 2048) :
    concatenate Cert.AttRefIdeal.S8x2048x4096 2 [⟨Cert.AttRefIdeal.S8x2048x2048, extractStridedSlice Cert.AttRefIdeal.S8x2048x2048 ![0, 0, 0] x h1⟩, ⟨Cert.AttRefIdeal.S8x2048x2048, z⟩] h2 i = x i := by
  refine (concatenate_pair_apply_left 2 _ z h2 i rfl (ValueIdx.ix3 (i 0) (i 1) ⟨(i 2).val, hi⟩) (fun b => ?_)).trans ?_
  · match b with
    | ⟨0, _⟩ => rfl
    | ⟨1, _⟩ => rfl
    | ⟨2, _⟩ => rfl
  · refine extractStridedSlice_apply ![0, 0, 0] x h1 _ i (fun a => ?_)
    match a with
    | ⟨0, _⟩ => exact (Nat.zero_add _).symm
    | ⟨1, _⟩ => exact (Nat.zero_add _).symm
    | ⟨2, _⟩ => exact (Nat.zero_add _).symm

/-- On the first 2048 columns, the call's array and its reference's are the same. -/
theorem algebraic [Cert.On_kept_columns.Facts] : Cert.algebraic_AttIdeal_AttRefIdeal_on_kept_columns := fun m g m' g' _ hag =>
  ⟨fun c => m ((c : Thread nD τ).loc main_arg2),
    (θ_run _ _ _).mono (fun r h c => ⟨fun i hi => kept m r h.1 c i (mask_lt _ _ _ i hi), h.2 c⟩) (θ_run_and (run_main m g) (unchanged m g)),
    (θ_run _ _ _).mono (fun _ h c => ⟨fun i hi => (congrFun (h c).1 i).trans ((ref_at _ _ _ _ i (mask_lt _ _ _ i hi)).trans (congrFun (hag c).2.2 i)), (h c).2⟩)
      (Cert.AttRefIdeal.Value.run m' g')⟩

end Cert.AttIdeal.Kept
end
-- ==== Proof.lean ====
module

public import proofs.«01_k».proof.Defs
public import proofs.«01_k».proof.Proof.RetFrame
public import proofs.«01_k».proof.Proof.RetIdealFrame
public import proofs.«01_k».proof.Proof.Gen.Up.Frame
public import proofs.«01_k».proof.Proof.Gen.UpIdeal.Frame
public import proofs.«01_k».proof.Proof.Gen.Inp.Frame
public import proofs.«01_k».proof.Proof.Gen.InpIdeal.Frame
public import proofs.«01_k».proof.Proof.Gen.Down.Frame
public import proofs.«01_k».proof.Proof.Gen.DownIdeal.Frame
public import proofs.«01_k».proof.Proof.Gen.Outp.Frame
public import proofs.«01_k».proof.Proof.Gen.OutpIdeal.Frame
public import proofs.«01_k».proof.Proof.AttFrame
public import proofs.«01_k».proof.Proof.AttIdealFrame
public import proofs.«01_k».proof.Proof.References
public import proofs.«01_k».proof.Proof.UpValue
public import proofs.«01_k».proof.Proof.InpValue
public import proofs.«01_k».proof.Proof.DownValue
public import proofs.«01_k».proof.Proof.OutpValue
public import proofs.«01_k».proof.Proof.RetClaim
public import proofs.«01_k».proof.Proof.AttClaim
public import proofs.«01_k».proof.Proof.Gen.On_retention_columns
public import proofs.«01_k».proof.Proof.Gen.On_kept_columns

@[expose] public section

noncomputable section

/-! The claims, each from its module: every program's frame, and for each call the idealized kernel's value against its
reference's. -/

namespace Cert.Proof

open Idealize.ShloMosaic Idealize.SL.Sem

theorem claim : Cert.Claim :=
  ⟨Cert.Ret.Gen.facts, Cert.RetIdeal.Gen.facts, Cert.RetRefIdeal.Gen.facts, Cert.Up.Gen.facts, Cert.UpIdeal.Gen.facts, Cert.UpRefIdeal.Gen.facts, Cert.Inp.Gen.facts, Cert.InpIdeal.Gen.facts, Cert.InpRefIdeal.Gen.facts, Cert.Down.Gen.facts, Cert.DownIdeal.Gen.facts, Cert.DownRefIdeal.Gen.facts, Cert.Outp.Gen.facts, Cert.OutpIdeal.Gen.facts, Cert.OutpRefIdeal.Gen.facts, Cert.Att.Gen.facts, Cert.AttIdeal.Gen.facts, Cert.AttRefIdeal.Gen.facts, Cert.On_retention_columns.Gen.facts, Cert.On_kept_columns.Gen.facts,
    fun m ρ _ => Cert.Ret.Unnamed.frame m ρ,
    fun m ρ _ => Cert.RetIdeal.Unnamed.frame m ρ,
    Cert.References.frame_Ret,
    fun m ρ _ => Cert.Up.Gen.frame m ρ,
    fun m ρ _ => Cert.UpIdeal.Gen.frame m ρ,
    Cert.References.frame_Up,
    fun m ρ _ => Cert.Inp.Gen.frame m ρ,
    fun m ρ _ => Cert.InpIdeal.Gen.frame m ρ,
    Cert.References.frame_Inp,
    fun m ρ _ => Cert.Down.Gen.frame m ρ,
    fun m ρ _ => Cert.DownIdeal.Gen.frame m ρ,
    Cert.References.frame_Down,
    fun m ρ _ => Cert.Outp.Gen.frame m ρ,
    fun m ρ _ => Cert.OutpIdeal.Gen.frame m ρ,
    Cert.References.frame_Outp,
    fun m ρ _ => Cert.Att.Unnamed.frame m ρ,
    fun m ρ _ => Cert.AttIdeal.Unnamed.frame m ρ,
    Cert.References.frame_Att,
    trivial,
    Cert.RetIdeal.Block.algebraic,
    trivial,
    Cert.UpIdeal.Block.algebraic,
    trivial,
    Cert.InpIdeal.Block.algebraic,
    trivial,
    Cert.DownIdeal.Block.algebraic,
    trivial,
    Cert.OutpIdeal.Block.algebraic,
    trivial,
    Cert.AttIdeal.Kept.algebraic⟩

end Cert.Proof
